-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_KernelProjR (m : (ℓ : Loc Cert.KernelProjR.nD Cert.KernelProjR.τ Cert.KernelProjR.sig) → Buf (Elt Bits) ℓ) : Prop :=
  True

def Pre_KernelProjRIdeal (m : (ℓ : Loc Cert.KernelProjRIdeal.nD Cert.KernelProjRIdeal.τ Cert.KernelProjRIdeal.sig) → Buf (Elt Ideal) ℓ) : Prop :=
  True

def Pre_ReferenceProjRIdeal (m : (ℓ : Loc Cert.ReferenceProjRIdeal.nD Cert.ReferenceProjRIdeal.τ Cert.ReferenceProjRIdeal.sig) → Buf (Elt Ideal) ℓ) : Prop :=
  True

def Pre_KernelProjA (m : (ℓ : Loc Cert.KernelProjA.nD Cert.KernelProjA.τ Cert.KernelProjA.sig) → Buf (Elt Bits) ℓ) : Prop :=
  True

def Pre_KernelProjAIdeal (m : (ℓ : Loc Cert.KernelProjAIdeal.nD Cert.KernelProjAIdeal.τ Cert.KernelProjAIdeal.sig) → Buf (Elt Ideal) ℓ) : Prop :=
  True

def Pre_ReferenceProjAIdeal (m : (ℓ : Loc Cert.ReferenceProjAIdeal.nD Cert.ReferenceProjAIdeal.τ Cert.ReferenceProjAIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelNorm (m : (ℓ : Loc Cert.KernelNorm.nD Cert.KernelNorm.τ Cert.KernelNorm.sig) → Buf (Elt Bits) ℓ) : Prop :=
  True

def Pre_KernelNormIdeal (m : (ℓ : Loc Cert.KernelNormIdeal.nD Cert.KernelNormIdeal.τ Cert.KernelNormIdeal.sig) → Buf (Elt Ideal) ℓ) : Prop :=
  True

def Pre_ReferenceNormIdeal (m : (ℓ : Loc Cert.ReferenceNormIdeal.nD Cert.ReferenceNormIdeal.τ Cert.ReferenceNormIdeal.sig) → Buf (Elt Ideal) ℓ) : Prop :=
  True

def Pre_KernelRoute (m : (ℓ : Loc Cert.KernelRoute.nD Cert.KernelRoute.τ Cert.KernelRoute.sig) → Buf (Elt Bits) ℓ) : Prop :=
  True

def Pre_KernelRouteIdeal (m : (ℓ : Loc Cert.KernelRouteIdeal.nD Cert.KernelRouteIdeal.τ Cert.KernelRouteIdeal.sig) → Buf (Elt Ideal) ℓ) : Prop :=
  True

def Pre_KernelRouteIdeal_finite_route [hPre_finite_route : Cert.Pre_finite_route.Facts] (m : (ℓ : Loc Cert.KernelRouteIdeal.nD Cert.KernelRouteIdeal.τ Cert.KernelRouteIdeal.sig) → Buf (Elt Ideal) ℓ) : Prop :=
  ∀ c : Dev Cert.KernelRouteIdeal.nD,
    (Cert.Pre_finite_route.fn (F := Ideal) (m ((c.tc : Thread Cert.KernelRouteIdeal.nD Cert.KernelRouteIdeal.τ).loc Cert.KernelRouteIdeal.main_arg0)) (m ((c.tc : Thread Cert.KernelRouteIdeal.nD Cert.KernelRouteIdeal.τ).loc Cert.KernelRouteIdeal.main_arg1)) (m ((c.tc : Thread Cert.KernelRouteIdeal.nD Cert.KernelRouteIdeal.τ).loc Cert.KernelRouteIdeal.main_arg2)) (m ((c.tc : Thread Cert.KernelRouteIdeal.nD Cert.KernelRouteIdeal.τ).loc Cert.KernelRouteIdeal.main_arg3)) (m ((c.tc : Thread Cert.KernelRouteIdeal.nD Cert.KernelRouteIdeal.τ).loc Cert.KernelRouteIdeal.main_arg4)) (m ((c.tc : Thread Cert.KernelRouteIdeal.nD Cert.KernelRouteIdeal.τ).loc Cert.KernelRouteIdeal.main_arg5)) (m ((c.tc : Thread Cert.KernelRouteIdeal.nD Cert.KernelRouteIdeal.τ).loc Cert.KernelRouteIdeal.main_arg6)) (m ((c.tc : Thread Cert.KernelRouteIdeal.nD Cert.KernelRouteIdeal.τ).loc Cert.KernelRouteIdeal.main_arg7))) = (fun _ => 1#1)

def Pre_ReferenceRouteIdeal (m : (ℓ : Loc Cert.ReferenceRouteIdeal.nD Cert.ReferenceRouteIdeal.τ Cert.ReferenceRouteIdeal.sig) → Buf (Elt Ideal) ℓ) : Prop :=
  True

def Pre_ReferenceRouteIdeal_finite_route [hPre_finite_route : Cert.Pre_finite_route.Facts] (m : (ℓ : Loc Cert.ReferenceRouteIdeal.nD Cert.ReferenceRouteIdeal.τ Cert.ReferenceRouteIdeal.sig) → Buf (Elt Ideal) ℓ) : Prop :=
  ∀ c : Dev Cert.ReferenceRouteIdeal.nD,
    (Cert.Pre_finite_route.fn (F := Ideal) (m ((c.tc : Thread Cert.ReferenceRouteIdeal.nD Cert.ReferenceRouteIdeal.τ).loc Cert.ReferenceRouteIdeal.main_arg0)) (m ((c.tc : Thread Cert.ReferenceRouteIdeal.nD Cert.ReferenceRouteIdeal.τ).loc Cert.ReferenceRouteIdeal.main_arg1)) (m ((c.tc : Thread Cert.ReferenceRouteIdeal.nD Cert.ReferenceRouteIdeal.τ).loc Cert.ReferenceRouteIdeal.main_arg2)) (m ((c.tc : Thread Cert.ReferenceRouteIdeal.nD Cert.ReferenceRouteIdeal.τ).loc Cert.ReferenceRouteIdeal.main_arg3)) (m ((c.tc : Thread Cert.ReferenceRouteIdeal.nD Cert.ReferenceRouteIdeal.τ).loc Cert.ReferenceRouteIdeal.main_arg4)) (m ((c.tc : Thread Cert.ReferenceRouteIdeal.nD Cert.ReferenceRouteIdeal.τ).loc Cert.ReferenceRouteIdeal.main_arg5)) (m ((c.tc : Thread Cert.ReferenceRouteIdeal.nD Cert.ReferenceRouteIdeal.τ).loc Cert.ReferenceRouteIdeal.main_arg6)) (m ((c.tc : Thread Cert.ReferenceRouteIdeal.nD Cert.ReferenceRouteIdeal.τ).loc Cert.ReferenceRouteIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_KernelProjR [hKernelProjR : Cert.KernelProjR.Facts] : Prop :=
  ∀ (m : (ℓ : Loc Cert.KernelProjR.nD Cert.KernelProjR.τ Cert.KernelProjR.sig) → Buf (Elt Bits) ℓ) (g : Dev Cert.KernelProjR.nD → PrngReg), Pre_KernelProjR m →
    θ_run (Cert.KernelProjR.defs (F := Bits)) (onTc (τ := Cert.KernelProjR.τ) (Cert.KernelProjR.main (F := Bits))) ⟨m, fun _ => 0, g⟩ (fun r => (∀ c : Dev Cert.KernelProjR.nD,
      r.2.mem ((c.tc : Thread Cert.KernelProjR.nD Cert.KernelProjR.τ).loc Cert.KernelProjR.main_arg0) = m ((c.tc : Thread Cert.KernelProjR.nD Cert.KernelProjR.τ).loc Cert.KernelProjR.main_arg0)
      ∧ r.2.mem ((c.tc : Thread Cert.KernelProjR.nD Cert.KernelProjR.τ).loc Cert.KernelProjR.main_arg1) = m ((c.tc : Thread Cert.KernelProjR.nD Cert.KernelProjR.τ).loc Cert.KernelProjR.main_arg1))
      ∧ r.2.sem = fun _ => 0)

def quiescent_KernelProjRIdeal [hKernelProjRIdeal : Cert.KernelProjRIdeal.Facts] : Prop :=
  ∀ (m : (ℓ : Loc Cert.KernelProjRIdeal.nD Cert.KernelProjRIdeal.τ Cert.KernelProjRIdeal.sig) → Buf (Elt Ideal) ℓ) (g : Dev Cert.KernelProjRIdeal.nD → PrngReg), Pre_KernelProjRIdeal m →
    θ_run (Cert.KernelProjRIdeal.defs (F := Ideal)) (onTc (τ := Cert.KernelProjRIdeal.τ) (Cert.KernelProjRIdeal.main (F := Ideal))) ⟨m, fun _ => 0, g⟩ (fun r => (∀ c : Dev Cert.KernelProjRIdeal.nD,
      r.2.mem ((c.tc : Thread Cert.KernelProjRIdeal.nD Cert.KernelProjRIdeal.τ).loc Cert.KernelProjRIdeal.main_arg0) = m ((c.tc : Thread Cert.KernelProjRIdeal.nD Cert.KernelProjRIdeal.τ).loc Cert.KernelProjRIdeal.main_arg0)
      ∧ r.2.mem ((c.tc : Thread Cert.KernelProjRIdeal.nD Cert.KernelProjRIdeal.τ).loc Cert.KernelProjRIdeal.main_arg1) = m ((c.tc : Thread Cert.KernelProjRIdeal.nD Cert.KernelProjRIdeal.τ).loc Cert.KernelProjRIdeal.main_arg1))
      ∧ r.2.sem = fun _ => 0)

def quiescent_ReferenceProjRIdeal [hReferenceProjRIdeal : Cert.ReferenceProjRIdeal.Facts] : Prop :=
  ∀ (m : (ℓ : Loc Cert.ReferenceProjRIdeal.nD Cert.ReferenceProjRIdeal.τ Cert.ReferenceProjRIdeal.sig) → Buf (Elt Ideal) ℓ) (g : Dev Cert.ReferenceProjRIdeal.nD → PrngReg), Pre_ReferenceProjRIdeal m →
    θ_run (Cert.ReferenceProjRIdeal.defs (F := Ideal)) (onTc (τ := Cert.ReferenceProjRIdeal.τ) (Cert.ReferenceProjRIdeal.main (F := Ideal))) ⟨m, fun _ => 0, g⟩ (fun r => (∀ c : Dev Cert.ReferenceProjRIdeal.nD,
      r.2.mem ((c.tc : Thread Cert.ReferenceProjRIdeal.nD Cert.ReferenceProjRIdeal.τ).loc Cert.ReferenceProjRIdeal.main_arg0) = m ((c.tc : Thread Cert.ReferenceProjRIdeal.nD Cert.ReferenceProjRIdeal.τ).loc Cert.ReferenceProjRIdeal.main_arg0)
      ∧ r.2.mem ((c.tc : Thread Cert.ReferenceProjRIdeal.nD Cert.ReferenceProjRIdeal.τ).loc Cert.ReferenceProjRIdeal.main_arg1) = m ((c.tc : Thread Cert.ReferenceProjRIdeal.nD Cert.ReferenceProjRIdeal.τ).loc Cert.ReferenceProjRIdeal.main_arg1))
      ∧ r.2.sem = fun _ => 0)

def quiescent_KernelProjA [hKernelProjA : Cert.KernelProjA.Facts] : Prop :=
  ∀ (m : (ℓ : Loc Cert.KernelProjA.nD Cert.KernelProjA.τ Cert.KernelProjA.sig) → Buf (Elt Bits) ℓ) (g : Dev Cert.KernelProjA.nD → PrngReg), Pre_KernelProjA m →
    θ_run (Cert.KernelProjA.defs (F := Bits)) (onTc (τ := Cert.KernelProjA.τ) (Cert.KernelProjA.main (F := Bits))) ⟨m, fun _ => 0, g⟩ (fun r => (∀ c : Dev Cert.KernelProjA.nD,
      r.2.mem ((c.tc : Thread Cert.KernelProjA.nD Cert.KernelProjA.τ).loc Cert.KernelProjA.main_arg0) = m ((c.tc : Thread Cert.KernelProjA.nD Cert.KernelProjA.τ).loc Cert.KernelProjA.main_arg0)
      ∧ r.2.mem ((c.tc : Thread Cert.KernelProjA.nD Cert.KernelProjA.τ).loc Cert.KernelProjA.main_arg1) = m ((c.tc : Thread Cert.KernelProjA.nD Cert.KernelProjA.τ).loc Cert.KernelProjA.main_arg1))
      ∧ r.2.sem = fun _ => 0)

def quiescent_KernelProjAIdeal [hKernelProjAIdeal : Cert.KernelProjAIdeal.Facts] : Prop :=
  ∀ (m : (ℓ : Loc Cert.KernelProjAIdeal.nD Cert.KernelProjAIdeal.τ Cert.KernelProjAIdeal.sig) → Buf (Elt Ideal) ℓ) (g : Dev Cert.KernelProjAIdeal.nD → PrngReg), Pre_KernelProjAIdeal m →
    θ_run (Cert.KernelProjAIdeal.defs (F := Ideal)) (onTc (τ := Cert.KernelProjAIdeal.τ) (Cert.KernelProjAIdeal.main (F := Ideal))) ⟨m, fun _ => 0, g⟩ (fun r => (∀ c : Dev Cert.KernelProjAIdeal.nD,
      r.2.mem ((c.tc : Thread Cert.KernelProjAIdeal.nD Cert.KernelProjAIdeal.τ).loc Cert.KernelProjAIdeal.main_arg0) = m ((c.tc : Thread Cert.KernelProjAIdeal.nD Cert.KernelProjAIdeal.τ).loc Cert.KernelProjAIdeal.main_arg0)
      ∧ r.2.mem ((c.tc : Thread Cert.KernelProjAIdeal.nD Cert.KernelProjAIdeal.τ).loc Cert.KernelProjAIdeal.main_arg1) = m ((c.tc : Thread Cert.KernelProjAIdeal.nD Cert.KernelProjAIdeal.τ).loc Cert.KernelProjAIdeal.main_arg1))
      ∧ r.2.sem = fun _ => 0)

def quiescent_ReferenceProjAIdeal [hReferenceProjAIdeal : Cert.ReferenceProjAIdeal.Facts] : Prop :=
  ∀ (m : (ℓ : Loc Cert.ReferenceProjAIdeal.nD Cert.ReferenceProjAIdeal.τ Cert.ReferenceProjAIdeal.sig) → Buf (Elt Ideal) ℓ) (g : Dev Cert.ReferenceProjAIdeal.nD → PrngReg), Pre_ReferenceProjAIdeal m →
    θ_run (Cert.ReferenceProjAIdeal.defs (F := Ideal)) (onTc (τ := Cert.ReferenceProjAIdeal.τ) (Cert.ReferenceProjAIdeal.main (F := Ideal))) ⟨m, fun _ => 0, g⟩ (fun r => (∀ c : Dev Cert.ReferenceProjAIdeal.nD,
      r.2.mem ((c.tc : Thread Cert.ReferenceProjAIdeal.nD Cert.ReferenceProjAIdeal.τ).loc Cert.ReferenceProjAIdeal.main_arg0) = m ((c.tc : Thread Cert.ReferenceProjAIdeal.nD Cert.ReferenceProjAIdeal.τ).loc Cert.ReferenceProjAIdeal.main_arg0)
      ∧ r.2.mem ((c.tc : Thread Cert.ReferenceProjAIdeal.nD Cert.ReferenceProjAIdeal.τ).loc Cert.ReferenceProjAIdeal.main_arg1) = m ((c.tc : Thread Cert.ReferenceProjAIdeal.nD Cert.ReferenceProjAIdeal.τ).loc Cert.ReferenceProjAIdeal.main_arg1))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2)
      ∧ r.2.mem ((c.tc : Thread Cert.KernelOut.nD Cert.KernelOut.τ).loc Cert.KernelOut.main_arg3) = m ((c.tc : Thread Cert.KernelOut.nD Cert.KernelOut.τ).loc Cert.KernelOut.main_arg3)
      ∧ r.2.mem ((c.tc : Thread Cert.KernelOut.nD Cert.KernelOut.τ).loc Cert.KernelOut.main_arg4) = m ((c.tc : Thread Cert.KernelOut.nD Cert.KernelOut.τ).loc Cert.KernelOut.main_arg4))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
      ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
      ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2)
      ∧ r.2.mem ((c.tc : Thread Cert.ReferenceOutIdeal.nD Cert.ReferenceOutIdeal.τ).loc Cert.ReferenceOutIdeal.main_arg3) = m ((c.tc : Thread Cert.ReferenceOutIdeal.nD Cert.ReferenceOutIdeal.τ).loc Cert.ReferenceOutIdeal.main_arg3)
      ∧ r.2.mem ((c.tc : Thread Cert.ReferenceOutIdeal.nD Cert.ReferenceOutIdeal.τ).loc Cert.ReferenceOutIdeal.main_arg4) = m ((c.tc : Thread Cert.ReferenceOutIdeal.nD Cert.ReferenceOutIdeal.τ).loc Cert.ReferenceOutIdeal.main_arg4))
      ∧ r.2.sem = fun _ => 0)

def quiescent_KernelNorm [hKernelNorm : Cert.KernelNorm.Facts] : Prop :=
  ∀ (m : (ℓ : Loc Cert.KernelNorm.nD Cert.KernelNorm.τ Cert.KernelNorm.sig) → Buf (Elt Bits) ℓ) (g : Dev Cert.KernelNorm.nD → PrngReg), Pre_KernelNorm m →
    θ_run (Cert.KernelNorm.defs (F := Bits)) (onTc (τ := Cert.KernelNorm.τ) (Cert.KernelNorm.main (F := Bits))) ⟨m, fun _ => 0, g⟩ (fun r => (∀ c : Dev Cert.KernelNorm.nD,
      r.2.mem ((c.tc : Thread Cert.KernelNorm.nD Cert.KernelNorm.τ).loc Cert.KernelNorm.main_arg0) = m ((c.tc : Thread Cert.KernelNorm.nD Cert.KernelNorm.τ).loc Cert.KernelNorm.main_arg0)
      ∧ r.2.mem ((c.tc : Thread Cert.KernelNorm.nD Cert.KernelNorm.τ).loc Cert.KernelNorm.main_arg1) = m ((c.tc : Thread Cert.KernelNorm.nD Cert.KernelNorm.τ).loc Cert.KernelNorm.main_arg1)
      ∧ r.2.mem ((c.tc : Thread Cert.KernelNorm.nD Cert.KernelNorm.τ).loc Cert.KernelNorm.main_arg2) = m ((c.tc : Thread Cert.KernelNorm.nD Cert.KernelNorm.τ).loc Cert.KernelNorm.main_arg2)
      ∧ r.2.mem ((c.tc : Thread Cert.KernelNorm.nD Cert.KernelNorm.τ).loc Cert.KernelNorm.main_arg3) = m ((c.tc : Thread Cert.KernelNorm.nD Cert.KernelNorm.τ).loc Cert.KernelNorm.main_arg3))
      ∧ r.2.sem = fun _ => 0)

def quiescent_KernelNormIdeal [hKernelNormIdeal : Cert.KernelNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg), Pre_KernelNormIdeal m →
    θ_run (Cert.KernelNormIdeal.defs (F := Ideal)) (onTc (τ := Cert.KernelNormIdeal.τ) (Cert.KernelNormIdeal.main (F := Ideal))) ⟨m, fun _ => 0, g⟩ (fun r => (∀ c : Dev Cert.KernelNormIdeal.nD,
      r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
      ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1)
      ∧ r.2.mem ((c.tc : Thread Cert.KernelNormIdeal.nD Cert.KernelNormIdeal.τ).loc Cert.KernelNormIdeal.main_arg2) = m ((c.tc : Thread Cert.KernelNormIdeal.nD Cert.KernelNormIdeal.τ).loc Cert.KernelNormIdeal.main_arg2)
      ∧ r.2.mem ((c.tc : Thread Cert.KernelNormIdeal.nD Cert.KernelNormIdeal.τ).loc Cert.KernelNormIdeal.main_arg3) = m ((c.tc : Thread Cert.KernelNormIdeal.nD Cert.KernelNormIdeal.τ).loc Cert.KernelNormIdeal.main_arg3))
      ∧ r.2.sem = fun _ => 0)

def quiescent_ReferenceNormIdeal [hReferenceNormIdeal : Cert.ReferenceNormIdeal.Facts] : Prop :=
  ∀ (m : (ℓ : Loc Cert.ReferenceNormIdeal.nD Cert.ReferenceNormIdeal.τ Cert.ReferenceNormIdeal.sig) → Buf (Elt Ideal) ℓ) (g : Dev Cert.ReferenceNormIdeal.nD → PrngReg), Pre_ReferenceNormIdeal m →
    θ_run (Cert.ReferenceNormIdeal.defs (F := Ideal)) (onTc (τ := Cert.ReferenceNormIdeal.τ) (Cert.ReferenceNormIdeal.main (F := Ideal))) ⟨m, fun _ => 0, g⟩ (fun r => (∀ c : Dev Cert.ReferenceNormIdeal.nD,
      r.2.mem ((c.tc : Thread Cert.ReferenceNormIdeal.nD Cert.ReferenceNormIdeal.τ).loc Cert.ReferenceNormIdeal.main_arg0) = m ((c.tc : Thread Cert.ReferenceNormIdeal.nD Cert.ReferenceNormIdeal.τ).loc Cert.ReferenceNormIdeal.main_arg0)
      ∧ r.2.mem ((c.tc : Thread Cert.ReferenceNormIdeal.nD Cert.ReferenceNormIdeal.τ).loc Cert.ReferenceNormIdeal.main_arg1) = m ((c.tc : Thread Cert.ReferenceNormIdeal.nD Cert.ReferenceNormIdeal.τ).loc Cert.ReferenceNormIdeal.main_arg1)
      ∧ r.2.mem ((c.tc : Thread Cert.ReferenceNormIdeal.nD Cert.ReferenceNormIdeal.τ).loc Cert.ReferenceNormIdeal.main_arg2) = m ((c.tc : Thread Cert.ReferenceNormIdeal.nD Cert.ReferenceNormIdeal.τ).loc Cert.ReferenceNormIdeal.main_arg2)
      ∧ r.2.mem ((c.tc : Thread Cert.ReferenceNormIdeal.nD Cert.ReferenceNormIdeal.τ).loc Cert.ReferenceNormIdeal.main_arg3) = m ((c.tc : Thread Cert.ReferenceNormIdeal.nD Cert.ReferenceNormIdeal.τ).loc Cert.ReferenceNormIdeal.main_arg3))
      ∧ r.2.sem = fun _ => 0)

def quiescent_KernelRoute [hKernelRoute : Cert.KernelRoute.Facts] : Prop :=
  ∀ (m : (ℓ : Loc Cert.KernelRoute.nD Cert.KernelRoute.τ Cert.KernelRoute.sig) → Buf (Elt Bits) ℓ) (g : Dev Cert.KernelRoute.nD → PrngReg), Pre_KernelRoute m →
    θ_run (Cert.KernelRoute.defs (F := Bits)) (onTc (τ := Cert.KernelRoute.τ) (Cert.KernelRoute.main (F := Bits))) ⟨m, fun _ => 0, g⟩ (fun r => (∀ c : Dev Cert.KernelRoute.nD,
      r.2.mem ((c.tc : Thread Cert.KernelRoute.nD Cert.KernelRoute.τ).loc Cert.KernelRoute.main_arg0) = m ((c.tc : Thread Cert.KernelRoute.nD Cert.KernelRoute.τ).loc Cert.KernelRoute.main_arg0)
      ∧ r.2.mem ((c.tc : Thread Cert.KernelRoute.nD Cert.KernelRoute.τ).loc Cert.KernelRoute.main_arg1) = m ((c.tc : Thread Cert.KernelRoute.nD Cert.KernelRoute.τ).loc Cert.KernelRoute.main_arg1)
      ∧ r.2.mem ((c.tc : Thread Cert.KernelRoute.nD Cert.KernelRoute.τ).loc Cert.KernelRoute.main_arg2) = m ((c.tc : Thread Cert.KernelRoute.nD Cert.KernelRoute.τ).loc Cert.KernelRoute.main_arg2)
      ∧ r.2.mem ((c.tc : Thread Cert.KernelRoute.nD Cert.KernelRoute.τ).loc Cert.KernelRoute.main_arg3) = m ((c.tc : Thread Cert.KernelRoute.nD Cert.KernelRoute.τ).loc Cert.KernelRoute.main_arg3)
      ∧ r.2.mem ((c.tc : Thread Cert.KernelRoute.nD Cert.KernelRoute.τ).loc Cert.KernelRoute.main_arg4) = m ((c.tc : Thread Cert.KernelRoute.nD Cert.KernelRoute.τ).loc Cert.KernelRoute.main_arg4)
      ∧ r.2.mem ((c.tc : Thread Cert.KernelRoute.nD Cert.KernelRoute.τ).loc Cert.KernelRoute.main_arg5) = m ((c.tc : Thread Cert.KernelRoute.nD Cert.KernelRoute.τ).loc Cert.KernelRoute.main_arg5)
      ∧ r.2.mem ((c.tc : Thread Cert.KernelRoute.nD Cert.KernelRoute.τ).loc Cert.KernelRoute.main_arg6) = m ((c.tc : Thread Cert.KernelRoute.nD Cert.KernelRoute.τ).loc Cert.KernelRoute.main_arg6)
      ∧ r.2.mem ((c.tc : Thread Cert.KernelRoute.nD Cert.KernelRoute.τ).loc Cert.KernelRoute.main_arg7) = m ((c.tc : Thread Cert.KernelRoute.nD Cert.KernelRoute.τ).loc Cert.KernelRoute.main_arg7))
      ∧ r.2.sem = fun _ => 0)

def quiescent_KernelRouteIdeal [hKernelRouteIdeal : Cert.KernelRouteIdeal.Facts] : Prop :=
  ∀ (m : (ℓ : Loc Cert.KernelRouteIdeal.nD Cert.KernelRouteIdeal.τ Cert.KernelRouteIdeal.sig) → Buf (Elt Ideal) ℓ) (g : Dev Cert.KernelRouteIdeal.nD → PrngReg), Pre_KernelRouteIdeal m →
    θ_run (Cert.KernelRouteIdeal.defs (F := Ideal)) (onTc (τ := Cert.KernelRouteIdeal.τ) (Cert.KernelRouteIdeal.main (F := Ideal))) ⟨m, fun _ => 0, g⟩ (fun r => (∀ c : Dev Cert.KernelRouteIdeal.nD,
      r.2.mem ((c.tc : Thread Cert.KernelRouteIdeal.nD Cert.KernelRouteIdeal.τ).loc Cert.KernelRouteIdeal.main_arg0) = m ((c.tc : Thread Cert.KernelRouteIdeal.nD Cert.KernelRouteIdeal.τ).loc Cert.KernelRouteIdeal.main_arg0)
      ∧ r.2.mem ((c.tc : Thread Cert.KernelRouteIdeal.nD Cert.KernelRouteIdeal.τ).loc Cert.KernelRouteIdeal.main_arg1) = m ((c.tc : Thread Cert.KernelRouteIdeal.nD Cert.KernelRouteIdeal.τ).loc Cert.KernelRouteIdeal.main_arg1)
      ∧ r.2.mem ((c.tc : Thread Cert.KernelRouteIdeal.nD Cert.KernelRouteIdeal.τ).loc Cert.KernelRouteIdeal.main_arg2) = m ((c.tc : Thread Cert.KernelRouteIdeal.nD Cert.KernelRouteIdeal.τ).loc Cert.KernelRouteIdeal.main_arg2)
      ∧ r.2.mem ((c.tc : Thread Cert.KernelRouteIdeal.nD Cert.KernelRouteIdeal.τ).loc Cert.KernelRouteIdeal.main_arg3) = m ((c.tc : Thread Cert.KernelRouteIdeal.nD Cert.KernelRouteIdeal.τ).loc Cert.KernelRouteIdeal.main_arg3)
      ∧ r.2.mem ((c.tc : Thread Cert.KernelRouteIdeal.nD Cert.KernelRouteIdeal.τ).loc Cert.KernelRouteIdeal.main_arg4) = m ((c.tc : Thread Cert.KernelRouteIdeal.nD Cert.KernelRouteIdeal.τ).loc Cert.KernelRouteIdeal.main_arg4)
      ∧ r.2.mem ((c.tc : Thread Cert.KernelRouteIdeal.nD Cert.KernelRouteIdeal.τ).loc Cert.KernelRouteIdeal.main_arg5) = m ((c.tc : Thread Cert.KernelRouteIdeal.nD Cert.KernelRouteIdeal.τ).loc Cert.KernelRouteIdeal.main_arg5)
      ∧ r.2.mem ((c.tc : Thread Cert.KernelRouteIdeal.nD Cert.KernelRouteIdeal.τ).loc Cert.KernelRouteIdeal.main_arg6) = m ((c.tc : Thread Cert.KernelRouteIdeal.nD Cert.KernelRouteIdeal.τ).loc Cert.KernelRouteIdeal.main_arg6)
      ∧ r.2.mem ((c.tc : Thread Cert.KernelRouteIdeal.nD Cert.KernelRouteIdeal.τ).loc Cert.KernelRouteIdeal.main_arg7) = m ((c.tc : Thread Cert.KernelRouteIdeal.nD Cert.KernelRouteIdeal.τ).loc Cert.KernelRouteIdeal.main_arg7))
      ∧ r.2.sem = fun _ => 0)

def quiescent_KernelRouteIdeal_pre_finite_route [hKernelRouteIdeal : Cert.KernelRouteIdeal.Facts] [hPre_finite_route : Cert.Pre_finite_route.Facts] : Prop :=
  ∀ (m : (ℓ : Loc Cert.KernelRouteIdeal.nD Cert.KernelRouteIdeal.τ Cert.KernelRouteIdeal.sig) → Buf (Elt Ideal) ℓ) (g : Dev Cert.KernelRouteIdeal.nD → PrngReg), Pre_KernelRouteIdeal_finite_route m →
    θ_run (Cert.KernelRouteIdeal.defs (F := Ideal)) (onTc (τ := Cert.KernelRouteIdeal.τ) (Cert.KernelRouteIdeal.main (F := Ideal))) ⟨m, fun _ => 0, g⟩ (fun r => (∀ c : Dev Cert.KernelRouteIdeal.nD,
      r.2.mem ((c.tc : Thread Cert.KernelRouteIdeal.nD Cert.KernelRouteIdeal.τ).loc Cert.KernelRouteIdeal.main_arg0) = m ((c.tc : Thread Cert.KernelRouteIdeal.nD Cert.KernelRouteIdeal.τ).loc Cert.KernelRouteIdeal.main_arg0)
      ∧ r.2.mem ((c.tc : Thread Cert.KernelRouteIdeal.nD Cert.KernelRouteIdeal.τ).loc Cert.KernelRouteIdeal.main_arg1) = m ((c.tc : Thread Cert.KernelRouteIdeal.nD Cert.KernelRouteIdeal.τ).loc Cert.KernelRouteIdeal.main_arg1)
      ∧ r.2.mem ((c.tc : Thread Cert.KernelRouteIdeal.nD Cert.KernelRouteIdeal.τ).loc Cert.KernelRouteIdeal.main_arg2) = m ((c.tc : Thread Cert.KernelRouteIdeal.nD Cert.KernelRouteIdeal.τ).loc Cert.KernelRouteIdeal.main_arg2)
      ∧ r.2.mem ((c.tc : Thread Cert.KernelRouteIdeal.nD Cert.KernelRouteIdeal.τ).loc Cert.KernelRouteIdeal.main_arg3) = m ((c.tc : Thread Cert.KernelRouteIdeal.nD Cert.KernelRouteIdeal.τ).loc Cert.KernelRouteIdeal.main_arg3)
      ∧ r.2.mem ((c.tc : Thread Cert.KernelRouteIdeal.nD Cert.KernelRouteIdeal.τ).loc Cert.KernelRouteIdeal.main_arg4) = m ((c.tc : Thread Cert.KernelRouteIdeal.nD Cert.KernelRouteIdeal.τ).loc Cert.KernelRouteIdeal.main_arg4)
      ∧ r.2.mem ((c.tc : Thread Cert.KernelRouteIdeal.nD Cert.KernelRouteIdeal.τ).loc Cert.KernelRouteIdeal.main_arg5) = m ((c.tc : Thread Cert.KernelRouteIdeal.nD Cert.KernelRouteIdeal.τ).loc Cert.KernelRouteIdeal.main_arg5)
      ∧ r.2.mem ((c.tc : Thread Cert.KernelRouteIdeal.nD Cert.KernelRouteIdeal.τ).loc Cert.KernelRouteIdeal.main_arg6) = m ((c.tc : Thread Cert.KernelRouteIdeal.nD Cert.KernelRouteIdeal.τ).loc Cert.KernelRouteIdeal.main_arg6)
      ∧ r.2.mem ((c.tc : Thread Cert.KernelRouteIdeal.nD Cert.KernelRouteIdeal.τ).loc Cert.KernelRouteIdeal.main_arg7) = m ((c.tc : Thread Cert.KernelRouteIdeal.nD Cert.KernelRouteIdeal.τ).loc Cert.KernelRouteIdeal.main_arg7))
      ∧ r.2.sem = fun _ => 0)

def quiescent_ReferenceRouteIdeal [hReferenceRouteIdeal : Cert.ReferenceRouteIdeal.Facts] : Prop :=
  ∀ (m : (ℓ : Loc Cert.ReferenceRouteIdeal.nD Cert.ReferenceRouteIdeal.τ Cert.ReferenceRouteIdeal.sig) → Buf (Elt Ideal) ℓ) (g : Dev Cert.ReferenceRouteIdeal.nD → PrngReg), Pre_ReferenceRouteIdeal m →
    θ_run (Cert.ReferenceRouteIdeal.defs (F := Ideal)) (onTc (τ := Cert.ReferenceRouteIdeal.τ) (Cert.ReferenceRouteIdeal.main (F := Ideal))) ⟨m, fun _ => 0, g⟩ (fun r => (∀ c : Dev Cert.ReferenceRouteIdeal.nD,
      r.2.mem ((c.tc : Thread Cert.ReferenceRouteIdeal.nD Cert.ReferenceRouteIdeal.τ).loc Cert.ReferenceRouteIdeal.main_arg0) = m ((c.tc : Thread Cert.ReferenceRouteIdeal.nD Cert.ReferenceRouteIdeal.τ).loc Cert.ReferenceRouteIdeal.main_arg0)
      ∧ r.2.mem ((c.tc : Thread Cert.ReferenceRouteIdeal.nD Cert.ReferenceRouteIdeal.τ).loc Cert.ReferenceRouteIdeal.main_arg1) = m ((c.tc : Thread Cert.ReferenceRouteIdeal.nD Cert.ReferenceRouteIdeal.τ).loc Cert.ReferenceRouteIdeal.main_arg1)
      ∧ r.2.mem ((c.tc : Thread Cert.ReferenceRouteIdeal.nD Cert.ReferenceRouteIdeal.τ).loc Cert.ReferenceRouteIdeal.main_arg2) = m ((c.tc : Thread Cert.ReferenceRouteIdeal.nD Cert.ReferenceRouteIdeal.τ).loc Cert.ReferenceRouteIdeal.main_arg2)
      ∧ r.2.mem ((c.tc : Thread Cert.ReferenceRouteIdeal.nD Cert.ReferenceRouteIdeal.τ).loc Cert.ReferenceRouteIdeal.main_arg3) = m ((c.tc : Thread Cert.ReferenceRouteIdeal.nD Cert.ReferenceRouteIdeal.τ).loc Cert.ReferenceRouteIdeal.main_arg3)
      ∧ r.2.mem ((c.tc : Thread Cert.ReferenceRouteIdeal.nD Cert.ReferenceRouteIdeal.τ).loc Cert.ReferenceRouteIdeal.main_arg4) = m ((c.tc : Thread Cert.ReferenceRouteIdeal.nD Cert.ReferenceRouteIdeal.τ).loc Cert.ReferenceRouteIdeal.main_arg4)
      ∧ r.2.mem ((c.tc : Thread Cert.ReferenceRouteIdeal.nD Cert.ReferenceRouteIdeal.τ).loc Cert.ReferenceRouteIdeal.main_arg5) = m ((c.tc : Thread Cert.ReferenceRouteIdeal.nD Cert.ReferenceRouteIdeal.τ).loc Cert.ReferenceRouteIdeal.main_arg5)
      ∧ r.2.mem ((c.tc : Thread Cert.ReferenceRouteIdeal.nD Cert.ReferenceRouteIdeal.τ).loc Cert.ReferenceRouteIdeal.main_arg6) = m ((c.tc : Thread Cert.ReferenceRouteIdeal.nD Cert.ReferenceRouteIdeal.τ).loc Cert.ReferenceRouteIdeal.main_arg6)
      ∧ r.2.mem ((c.tc : Thread Cert.ReferenceRouteIdeal.nD Cert.ReferenceRouteIdeal.τ).loc Cert.ReferenceRouteIdeal.main_arg7) = m ((c.tc : Thread Cert.ReferenceRouteIdeal.nD Cert.ReferenceRouteIdeal.τ).loc Cert.ReferenceRouteIdeal.main_arg7))
      ∧ r.2.sem = fun _ => 0)

def quiescent_ReferenceRouteIdeal_pre_finite_route [hReferenceRouteIdeal : Cert.ReferenceRouteIdeal.Facts] [hPre_finite_route : Cert.Pre_finite_route.Facts] : Prop :=
  ∀ (m : (ℓ : Loc Cert.ReferenceRouteIdeal.nD Cert.ReferenceRouteIdeal.τ Cert.ReferenceRouteIdeal.sig) → Buf (Elt Ideal) ℓ) (g : Dev Cert.ReferenceRouteIdeal.nD → PrngReg), Pre_ReferenceRouteIdeal_finite_route m →
    θ_run (Cert.ReferenceRouteIdeal.defs (F := Ideal)) (onTc (τ := Cert.ReferenceRouteIdeal.τ) (Cert.ReferenceRouteIdeal.main (F := Ideal))) ⟨m, fun _ => 0, g⟩ (fun r => (∀ c : Dev Cert.ReferenceRouteIdeal.nD,
      r.2.mem ((c.tc : Thread Cert.ReferenceRouteIdeal.nD Cert.ReferenceRouteIdeal.τ).loc Cert.ReferenceRouteIdeal.main_arg0) = m ((c.tc : Thread Cert.ReferenceRouteIdeal.nD Cert.ReferenceRouteIdeal.τ).loc Cert.ReferenceRouteIdeal.main_arg0)
      ∧ r.2.mem ((c.tc : Thread Cert.ReferenceRouteIdeal.nD Cert.ReferenceRouteIdeal.τ).loc Cert.ReferenceRouteIdeal.main_arg1) = m ((c.tc : Thread Cert.ReferenceRouteIdeal.nD Cert.ReferenceRouteIdeal.τ).loc Cert.ReferenceRouteIdeal.main_arg1)
      ∧ r.2.mem ((c.tc : Thread Cert.ReferenceRouteIdeal.nD Cert.ReferenceRouteIdeal.τ).loc Cert.ReferenceRouteIdeal.main_arg2) = m ((c.tc : Thread Cert.ReferenceRouteIdeal.nD Cert.ReferenceRouteIdeal.τ).loc Cert.ReferenceRouteIdeal.main_arg2)
      ∧ r.2.mem ((c.tc : Thread Cert.ReferenceRouteIdeal.nD Cert.ReferenceRouteIdeal.τ).loc Cert.ReferenceRouteIdeal.main_arg3) = m ((c.tc : Thread Cert.ReferenceRouteIdeal.nD Cert.ReferenceRouteIdeal.τ).loc Cert.ReferenceRouteIdeal.main_arg3)
      ∧ r.2.mem ((c.tc : Thread Cert.ReferenceRouteIdeal.nD Cert.ReferenceRouteIdeal.τ).loc Cert.ReferenceRouteIdeal.main_arg4) = m ((c.tc : Thread Cert.ReferenceRouteIdeal.nD Cert.ReferenceRouteIdeal.τ).loc Cert.ReferenceRouteIdeal.main_arg4)
      ∧ r.2.mem ((c.tc : Thread Cert.ReferenceRouteIdeal.nD Cert.ReferenceRouteIdeal.τ).loc Cert.ReferenceRouteIdeal.main_arg5) = m ((c.tc : Thread Cert.ReferenceRouteIdeal.nD Cert.ReferenceRouteIdeal.τ).loc Cert.ReferenceRouteIdeal.main_arg5)
      ∧ r.2.mem ((c.tc : Thread Cert.ReferenceRouteIdeal.nD Cert.ReferenceRouteIdeal.τ).loc Cert.ReferenceRouteIdeal.main_arg6) = m ((c.tc : Thread Cert.ReferenceRouteIdeal.nD Cert.ReferenceRouteIdeal.τ).loc Cert.ReferenceRouteIdeal.main_arg6)
      ∧ r.2.mem ((c.tc : Thread Cert.ReferenceRouteIdeal.nD Cert.ReferenceRouteIdeal.τ).loc Cert.ReferenceRouteIdeal.main_arg7) = m ((c.tc : Thread Cert.ReferenceRouteIdeal.nD Cert.ReferenceRouteIdeal.τ).loc Cert.ReferenceRouteIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v12_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_v114) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_KernelProjR_KernelProjRIdeal : Prop :=
  True

def algebraic_KernelProjRIdeal_ReferenceProjRIdeal [hKernelProjRIdeal : Cert.KernelProjRIdeal.Facts] [hReferenceProjRIdeal : Cert.ReferenceProjRIdeal.Facts] : Prop :=
  ∀ (m : (ℓ : Loc Cert.KernelProjRIdeal.nD Cert.KernelProjRIdeal.τ Cert.KernelProjRIdeal.sig) → Buf (Elt Ideal) ℓ) (g : Dev Cert.KernelProjRIdeal.nD → PrngReg)
    (m' : (ℓ : Loc Cert.ReferenceProjRIdeal.nD Cert.ReferenceProjRIdeal.τ Cert.ReferenceProjRIdeal.sig) → Buf (Elt Ideal) ℓ) (g' : Dev Cert.ReferenceProjRIdeal.nD → PrngReg), Pre_KernelProjRIdeal m →
    (∀ c : Dev Cert.KernelProjRIdeal.nD,
      m' ((c.tc : Thread Cert.ReferenceProjRIdeal.nD Cert.ReferenceProjRIdeal.τ).loc Cert.ReferenceProjRIdeal.main_arg0) = m ((c.tc : Thread Cert.KernelProjRIdeal.nD Cert.KernelProjRIdeal.τ).loc Cert.KernelProjRIdeal.main_arg0)
      ∧ m' ((c.tc : Thread Cert.ReferenceProjRIdeal.nD Cert.ReferenceProjRIdeal.τ).loc Cert.ReferenceProjRIdeal.main_arg1) = m ((c.tc : Thread Cert.KernelProjRIdeal.nD Cert.KernelProjRIdeal.τ).loc Cert.KernelProjRIdeal.main_arg1)) →
    ∃ (v0 : (c : Dev Cert.KernelProjRIdeal.nD) → Buf (Elt Ideal) ((c.tc : Thread Cert.KernelProjRIdeal.nD Cert.KernelProjRIdeal.τ).loc Cert.KernelProjRIdeal.main_v4)),
      θ_run (Cert.KernelProjRIdeal.defs (F := Ideal)) (onTc (τ := Cert.KernelProjRIdeal.τ) (Cert.KernelProjRIdeal.main (F := Ideal))) ⟨m, fun _ => 0, g⟩ (fun r => ∀ c : Dev Cert.KernelProjRIdeal.nD,
          r.2.mem ((c.tc : Thread Cert.KernelProjRIdeal.nD Cert.KernelProjRIdeal.τ).loc Cert.KernelProjRIdeal.main_v4) = v0 c
          ∧ r.2.mem ((c.tc : Thread Cert.KernelProjRIdeal.nD Cert.KernelProjRIdeal.τ).loc Cert.KernelProjRIdeal.main_arg0) = m ((c.tc : Thread Cert.KernelProjRIdeal.nD Cert.KernelProjRIdeal.τ).loc Cert.KernelProjRIdeal.main_arg0)
          ∧ r.2.mem ((c.tc : Thread Cert.KernelProjRIdeal.nD Cert.KernelProjRIdeal.τ).loc Cert.KernelProjRIdeal.main_arg1) = m ((c.tc : Thread Cert.KernelProjRIdeal.nD Cert.KernelProjRIdeal.τ).loc Cert.KernelProjRIdeal.main_arg1))
      ∧ θ_run (Cert.ReferenceProjRIdeal.defs (F := Ideal)) (onTc (τ := Cert.ReferenceProjRIdeal.τ) (Cert.ReferenceProjRIdeal.main (F := Ideal))) ⟨m', fun _ => 0, g'⟩ (fun r => ∀ c : Dev Cert.ReferenceProjRIdeal.nD,
          r.2.mem ((c.tc : Thread Cert.ReferenceProjRIdeal.nD Cert.ReferenceProjRIdeal.τ).loc Cert.ReferenceProjRIdeal.main_v4) = v0 c
          ∧ r.2.mem ((c.tc : Thread Cert.ReferenceProjRIdeal.nD Cert.ReferenceProjRIdeal.τ).loc Cert.ReferenceProjRIdeal.main_arg0) = m' ((c.tc : Thread Cert.ReferenceProjRIdeal.nD Cert.ReferenceProjRIdeal.τ).loc Cert.ReferenceProjRIdeal.main_arg0)
          ∧ r.2.mem ((c.tc : Thread Cert.ReferenceProjRIdeal.nD Cert.ReferenceProjRIdeal.τ).loc Cert.ReferenceProjRIdeal.main_arg1) = m' ((c.tc : Thread Cert.ReferenceProjRIdeal.nD Cert.ReferenceProjRIdeal.τ).loc Cert.ReferenceProjRIdeal.main_arg1))

def preserves_KernelProjA_KernelProjAIdeal : Prop :=
  True

def algebraic_KernelProjAIdeal_ReferenceProjAIdeal [hKernelProjAIdeal : Cert.KernelProjAIdeal.Facts] [hReferenceProjAIdeal : Cert.ReferenceProjAIdeal.Facts] : Prop :=
  ∀ (m : (ℓ : Loc Cert.KernelProjAIdeal.nD Cert.KernelProjAIdeal.τ Cert.KernelProjAIdeal.sig) → Buf (Elt Ideal) ℓ) (g : Dev Cert.KernelProjAIdeal.nD → PrngReg)
    (m' : (ℓ : Loc Cert.ReferenceProjAIdeal.nD Cert.ReferenceProjAIdeal.τ Cert.ReferenceProjAIdeal.sig) → Buf (Elt Ideal) ℓ) (g' : Dev Cert.ReferenceProjAIdeal.nD → PrngReg), Pre_KernelProjAIdeal m →
    (∀ c : Dev Cert.KernelProjAIdeal.nD,
      m' ((c.tc : Thread Cert.ReferenceProjAIdeal.nD Cert.ReferenceProjAIdeal.τ).loc Cert.ReferenceProjAIdeal.main_arg0) = m ((c.tc : Thread Cert.KernelProjAIdeal.nD Cert.KernelProjAIdeal.τ).loc Cert.KernelProjAIdeal.main_arg0)
      ∧ m' ((c.tc : Thread Cert.ReferenceProjAIdeal.nD Cert.ReferenceProjAIdeal.τ).loc Cert.ReferenceProjAIdeal.main_arg1) = m ((c.tc : Thread Cert.KernelProjAIdeal.nD Cert.KernelProjAIdeal.τ).loc Cert.KernelProjAIdeal.main_arg1)) →
    ∃ (v0 : (c : Dev Cert.KernelProjAIdeal.nD) → Buf (Elt Ideal) ((c.tc : Thread Cert.KernelProjAIdeal.nD Cert.KernelProjAIdeal.τ).loc Cert.KernelProjAIdeal.main_v2)),
      θ_run (Cert.KernelProjAIdeal.defs (F := Ideal)) (onTc (τ := Cert.KernelProjAIdeal.τ) (Cert.KernelProjAIdeal.main (F := Ideal))) ⟨m, fun _ => 0, g⟩ (fun r => ∀ c : Dev Cert.KernelProjAIdeal.nD,
          r.2.mem ((c.tc : Thread Cert.KernelProjAIdeal.nD Cert.KernelProjAIdeal.τ).loc Cert.KernelProjAIdeal.main_v2) = v0 c
          ∧ r.2.mem ((c.tc : Thread Cert.KernelProjAIdeal.nD Cert.KernelProjAIdeal.τ).loc Cert.KernelProjAIdeal.main_arg0) = m ((c.tc : Thread Cert.KernelProjAIdeal.nD Cert.KernelProjAIdeal.τ).loc Cert.KernelProjAIdeal.main_arg0)
          ∧ r.2.mem ((c.tc : Thread Cert.KernelProjAIdeal.nD Cert.KernelProjAIdeal.τ).loc Cert.KernelProjAIdeal.main_arg1) = m ((c.tc : Thread Cert.KernelProjAIdeal.nD Cert.KernelProjAIdeal.τ).loc Cert.KernelProjAIdeal.main_arg1))
      ∧ θ_run (Cert.ReferenceProjAIdeal.defs (F := Ideal)) (onTc (τ := Cert.ReferenceProjAIdeal.τ) (Cert.ReferenceProjAIdeal.main (F := Ideal))) ⟨m', fun _ => 0, g'⟩ (fun r => ∀ c : Dev Cert.ReferenceProjAIdeal.nD,
          r.2.mem ((c.tc : Thread Cert.ReferenceProjAIdeal.nD Cert.ReferenceProjAIdeal.τ).loc Cert.ReferenceProjAIdeal.main_v3) = v0 c
          ∧ r.2.mem ((c.tc : Thread Cert.ReferenceProjAIdeal.nD Cert.ReferenceProjAIdeal.τ).loc Cert.ReferenceProjAIdeal.main_arg0) = m' ((c.tc : Thread Cert.ReferenceProjAIdeal.nD Cert.ReferenceProjAIdeal.τ).loc Cert.ReferenceProjAIdeal.main_arg0)
          ∧ r.2.mem ((c.tc : Thread Cert.ReferenceProjAIdeal.nD Cert.ReferenceProjAIdeal.τ).loc Cert.ReferenceProjAIdeal.main_arg1) = m' ((c.tc : Thread Cert.ReferenceProjAIdeal.nD Cert.ReferenceProjAIdeal.τ).loc Cert.ReferenceProjAIdeal.main_arg1))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)
      ∧ m' ((c.tc : Thread Cert.ReferenceOutIdeal.nD Cert.ReferenceOutIdeal.τ).loc Cert.ReferenceOutIdeal.main_arg3) = m ((c.tc : Thread Cert.KernelOutIdeal.nD Cert.KernelOutIdeal.τ).loc Cert.KernelOutIdeal.main_arg3)
      ∧ m' ((c.tc : Thread Cert.ReferenceOutIdeal.nD Cert.ReferenceOutIdeal.τ).loc Cert.ReferenceOutIdeal.main_arg4) = m ((c.tc : Thread Cert.KernelOutIdeal.nD Cert.KernelOutIdeal.τ).loc Cert.KernelOutIdeal.main_arg4)) →
    ∃ (v0 : (c : Dev Cert.KernelOutIdeal.nD) → Buf (Elt Ideal) ((c.tc : Thread Cert.KernelOutIdeal.nD Cert.KernelOutIdeal.τ).loc Cert.KernelOutIdeal.main_v2)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v2) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
          ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
          ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v9) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2)
          ∧ r.2.mem ((c.tc : Thread Cert.ReferenceOutIdeal.nD Cert.ReferenceOutIdeal.τ).loc Cert.ReferenceOutIdeal.main_arg3) = m' ((c.tc : Thread Cert.ReferenceOutIdeal.nD Cert.ReferenceOutIdeal.τ).loc Cert.ReferenceOutIdeal.main_arg3)
          ∧ r.2.mem ((c.tc : Thread Cert.ReferenceOutIdeal.nD Cert.ReferenceOutIdeal.τ).loc Cert.ReferenceOutIdeal.main_arg4) = m' ((c.tc : Thread Cert.ReferenceOutIdeal.nD Cert.ReferenceOutIdeal.τ).loc Cert.ReferenceOutIdeal.main_arg4))

def preserves_KernelNorm_KernelNormIdeal : Prop :=
  True

def algebraic_KernelNormIdeal_ReferenceNormIdeal [hKernelNormIdeal : Cert.KernelNormIdeal.Facts] [hReferenceNormIdeal : Cert.ReferenceNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg)
    (m' : (ℓ : Loc Cert.ReferenceNormIdeal.nD Cert.ReferenceNormIdeal.τ Cert.ReferenceNormIdeal.sig) → Buf (Elt Ideal) ℓ) (g' : Dev Cert.ReferenceNormIdeal.nD → PrngReg), Pre_KernelNormIdeal m →
    (∀ c : Dev Cert.KernelNormIdeal.nD,
      m' ((c.tc : Thread Cert.ReferenceNormIdeal.nD Cert.ReferenceNormIdeal.τ).loc Cert.ReferenceNormIdeal.main_arg0) = m ((c.tc : Thread Cert.KernelNormIdeal.nD Cert.KernelNormIdeal.τ).loc Cert.KernelNormIdeal.main_arg0)
      ∧ m' ((c.tc : Thread Cert.ReferenceNormIdeal.nD Cert.ReferenceNormIdeal.τ).loc Cert.ReferenceNormIdeal.main_arg1) = m ((c.tc : Thread Cert.KernelNormIdeal.nD Cert.KernelNormIdeal.τ).loc Cert.KernelNormIdeal.main_arg1)
      ∧ m' ((c.tc : Thread Cert.ReferenceNormIdeal.nD Cert.ReferenceNormIdeal.τ).loc Cert.ReferenceNormIdeal.main_arg2) = m ((c.tc : Thread Cert.KernelNormIdeal.nD Cert.KernelNormIdeal.τ).loc Cert.KernelNormIdeal.main_arg2)
      ∧ m' ((c.tc : Thread Cert.ReferenceNormIdeal.nD Cert.ReferenceNormIdeal.τ).loc Cert.ReferenceNormIdeal.main_arg3) = m ((c.tc : Thread Cert.KernelNormIdeal.nD Cert.KernelNormIdeal.τ).loc Cert.KernelNormIdeal.main_arg3)) →
    ∃ (v0 : (c : Dev Cert.KernelNormIdeal.nD) → Buf (Elt Ideal) ((c.tc : Thread Cert.KernelNormIdeal.nD Cert.KernelNormIdeal.τ).loc Cert.KernelNormIdeal.main_v4)),
      θ_run (Cert.KernelNormIdeal.defs (F := Ideal)) (onTc (τ := Cert.KernelNormIdeal.τ) (Cert.KernelNormIdeal.main (F := Ideal))) ⟨m, fun _ => 0, g⟩ (fun r => ∀ c : Dev Cert.KernelNormIdeal.nD,
          r.2.mem ((c.tc : Thread Cert.KernelNormIdeal.nD Cert.KernelNormIdeal.τ).loc Cert.KernelNormIdeal.main_v4) = v0 c
          ∧ r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
          ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1)
          ∧ r.2.mem ((c.tc : Thread Cert.KernelNormIdeal.nD Cert.KernelNormIdeal.τ).loc Cert.KernelNormIdeal.main_arg2) = m ((c.tc : Thread Cert.KernelNormIdeal.nD Cert.KernelNormIdeal.τ).loc Cert.KernelNormIdeal.main_arg2)
          ∧ r.2.mem ((c.tc : Thread Cert.KernelNormIdeal.nD Cert.KernelNormIdeal.τ).loc Cert.KernelNormIdeal.main_arg3) = m ((c.tc : Thread Cert.KernelNormIdeal.nD Cert.KernelNormIdeal.τ).loc Cert.KernelNormIdeal.main_arg3))
      ∧ θ_run (Cert.ReferenceNormIdeal.defs (F := Ideal)) (onTc (τ := Cert.ReferenceNormIdeal.τ) (Cert.ReferenceNormIdeal.main (F := Ideal))) ⟨m', fun _ => 0, g'⟩ (fun r => ∀ c : Dev Cert.ReferenceNormIdeal.nD,
          r.2.mem ((c.tc : Thread Cert.ReferenceNormIdeal.nD Cert.ReferenceNormIdeal.τ).loc Cert.ReferenceNormIdeal.main_v22) = v0 c
          ∧ r.2.mem ((c.tc : Thread Cert.ReferenceNormIdeal.nD Cert.ReferenceNormIdeal.τ).loc Cert.ReferenceNormIdeal.main_arg0) = m' ((c.tc : Thread Cert.ReferenceNormIdeal.nD Cert.ReferenceNormIdeal.τ).loc Cert.ReferenceNormIdeal.main_arg0)
          ∧ r.2.mem ((c.tc : Thread Cert.ReferenceNormIdeal.nD Cert.ReferenceNormIdeal.τ).loc Cert.ReferenceNormIdeal.main_arg1) = m' ((c.tc : Thread Cert.ReferenceNormIdeal.nD Cert.ReferenceNormIdeal.τ).loc Cert.ReferenceNormIdeal.main_arg1)
          ∧ r.2.mem ((c.tc : Thread Cert.ReferenceNormIdeal.nD Cert.ReferenceNormIdeal.τ).loc Cert.ReferenceNormIdeal.main_arg2) = m' ((c.tc : Thread Cert.ReferenceNormIdeal.nD Cert.ReferenceNormIdeal.τ).loc Cert.ReferenceNormIdeal.main_arg2)
          ∧ r.2.mem ((c.tc : Thread Cert.ReferenceNormIdeal.nD Cert.ReferenceNormIdeal.τ).loc Cert.ReferenceNormIdeal.main_arg3) = m' ((c.tc : Thread Cert.ReferenceNormIdeal.nD Cert.ReferenceNormIdeal.τ).loc Cert.ReferenceNormIdeal.main_arg3))

def preserves_KernelRoute_KernelRouteIdeal : Prop :=
  True

def algebraic_KernelRouteIdeal_ReferenceRouteIdeal_pre_finite_route [hKernelRouteIdeal : Cert.KernelRouteIdeal.Facts] [hReferenceRouteIdeal : Cert.ReferenceRouteIdeal.Facts] [hPre_finite_route : Cert.Pre_finite_route.Facts] : Prop :=
  ∀ (m : (ℓ : Loc Cert.KernelRouteIdeal.nD Cert.KernelRouteIdeal.τ Cert.KernelRouteIdeal.sig) → Buf (Elt Ideal) ℓ) (g : Dev Cert.KernelRouteIdeal.nD → PrngReg)
    (m' : (ℓ : Loc Cert.ReferenceRouteIdeal.nD Cert.ReferenceRouteIdeal.τ Cert.ReferenceRouteIdeal.sig) → Buf (Elt Ideal) ℓ) (g' : Dev Cert.ReferenceRouteIdeal.nD → PrngReg), Pre_KernelRouteIdeal_finite_route m →
    (∀ c : Dev Cert.KernelRouteIdeal.nD,
      m' ((c.tc : Thread Cert.ReferenceRouteIdeal.nD Cert.ReferenceRouteIdeal.τ).loc Cert.ReferenceRouteIdeal.main_arg0) = m ((c.tc : Thread Cert.KernelRouteIdeal.nD Cert.KernelRouteIdeal.τ).loc Cert.KernelRouteIdeal.main_arg0)
      ∧ m' ((c.tc : Thread Cert.ReferenceRouteIdeal.nD Cert.ReferenceRouteIdeal.τ).loc Cert.ReferenceRouteIdeal.main_arg1) = m ((c.tc : Thread Cert.KernelRouteIdeal.nD Cert.KernelRouteIdeal.τ).loc Cert.KernelRouteIdeal.main_arg1)
      ∧ m' ((c.tc : Thread Cert.ReferenceRouteIdeal.nD Cert.ReferenceRouteIdeal.τ).loc Cert.ReferenceRouteIdeal.main_arg2) = m ((c.tc : Thread Cert.KernelRouteIdeal.nD Cert.KernelRouteIdeal.τ).loc Cert.KernelRouteIdeal.main_arg2)
      ∧ m' ((c.tc : Thread Cert.ReferenceRouteIdeal.nD Cert.ReferenceRouteIdeal.τ).loc Cert.ReferenceRouteIdeal.main_arg3) = m ((c.tc : Thread Cert.KernelRouteIdeal.nD Cert.KernelRouteIdeal.τ).loc Cert.KernelRouteIdeal.main_arg3)
      ∧ m' ((c.tc : Thread Cert.ReferenceRouteIdeal.nD Cert.ReferenceRouteIdeal.τ).loc Cert.ReferenceRouteIdeal.main_arg4) = m ((c.tc : Thread Cert.KernelRouteIdeal.nD Cert.KernelRouteIdeal.τ).loc Cert.KernelRouteIdeal.main_arg4)
      ∧ m' ((c.tc : Thread Cert.ReferenceRouteIdeal.nD Cert.ReferenceRouteIdeal.τ).loc Cert.ReferenceRouteIdeal.main_arg5) = m ((c.tc : Thread Cert.KernelRouteIdeal.nD Cert.KernelRouteIdeal.τ).loc Cert.KernelRouteIdeal.main_arg5)
      ∧ m' ((c.tc : Thread Cert.ReferenceRouteIdeal.nD Cert.ReferenceRouteIdeal.τ).loc Cert.ReferenceRouteIdeal.main_arg6) = m ((c.tc : Thread Cert.KernelRouteIdeal.nD Cert.KernelRouteIdeal.τ).loc Cert.KernelRouteIdeal.main_arg6)
      ∧ m' ((c.tc : Thread Cert.ReferenceRouteIdeal.nD Cert.ReferenceRouteIdeal.τ).loc Cert.ReferenceRouteIdeal.main_arg7) = m ((c.tc : Thread Cert.KernelRouteIdeal.nD Cert.KernelRouteIdeal.τ).loc Cert.KernelRouteIdeal.main_arg7)) →
    ∃ (v0 : (c : Dev Cert.KernelRouteIdeal.nD) → Buf (Elt Ideal) ((c.tc : Thread Cert.KernelRouteIdeal.nD Cert.KernelRouteIdeal.τ).loc Cert.KernelRouteIdeal.main_v10_0)) (v1 : (c : Dev Cert.KernelRouteIdeal.nD) → Buf (Elt Ideal) ((c.tc : Thread Cert.KernelRouteIdeal.nD Cert.KernelRouteIdeal.τ).loc Cert.KernelRouteIdeal.main_v10_1)),
      θ_run (Cert.KernelRouteIdeal.defs (F := Ideal)) (onTc (τ := Cert.KernelRouteIdeal.τ) (Cert.KernelRouteIdeal.main (F := Ideal))) ⟨m, fun _ => 0, g⟩ (fun r => ∀ c : Dev Cert.KernelRouteIdeal.nD,
          r.2.mem ((c.tc : Thread Cert.KernelRouteIdeal.nD Cert.KernelRouteIdeal.τ).loc Cert.KernelRouteIdeal.main_v10_0) = v0 c
          ∧ r.2.mem ((c.tc : Thread Cert.KernelRouteIdeal.nD Cert.KernelRouteIdeal.τ).loc Cert.KernelRouteIdeal.main_v10_1) = v1 c
          ∧ r.2.mem ((c.tc : Thread Cert.KernelRouteIdeal.nD Cert.KernelRouteIdeal.τ).loc Cert.KernelRouteIdeal.main_arg0) = m ((c.tc : Thread Cert.KernelRouteIdeal.nD Cert.KernelRouteIdeal.τ).loc Cert.KernelRouteIdeal.main_arg0)
          ∧ r.2.mem ((c.tc : Thread Cert.KernelRouteIdeal.nD Cert.KernelRouteIdeal.τ).loc Cert.KernelRouteIdeal.main_arg1) = m ((c.tc : Thread Cert.KernelRouteIdeal.nD Cert.KernelRouteIdeal.τ).loc Cert.KernelRouteIdeal.main_arg1)
          ∧ r.2.mem ((c.tc : Thread Cert.KernelRouteIdeal.nD Cert.KernelRouteIdeal.τ).loc Cert.KernelRouteIdeal.main_arg2) = m ((c.tc : Thread Cert.KernelRouteIdeal.nD Cert.KernelRouteIdeal.τ).loc Cert.KernelRouteIdeal.main_arg2)
          ∧ r.2.mem ((c.tc : Thread Cert.KernelRouteIdeal.nD Cert.KernelRouteIdeal.τ).loc Cert.KernelRouteIdeal.main_arg3) = m ((c.tc : Thread Cert.KernelRouteIdeal.nD Cert.KernelRouteIdeal.τ).loc Cert.KernelRouteIdeal.main_arg3)
          ∧ r.2.mem ((c.tc : Thread Cert.KernelRouteIdeal.nD Cert.KernelRouteIdeal.τ).loc Cert.KernelRouteIdeal.main_arg4) = m ((c.tc : Thread Cert.KernelRouteIdeal.nD Cert.KernelRouteIdeal.τ).loc Cert.KernelRouteIdeal.main_arg4)
          ∧ r.2.mem ((c.tc : Thread Cert.KernelRouteIdeal.nD Cert.KernelRouteIdeal.τ).loc Cert.KernelRouteIdeal.main_arg5) = m ((c.tc : Thread Cert.KernelRouteIdeal.nD Cert.KernelRouteIdeal.τ).loc Cert.KernelRouteIdeal.main_arg5)
          ∧ r.2.mem ((c.tc : Thread Cert.KernelRouteIdeal.nD Cert.KernelRouteIdeal.τ).loc Cert.KernelRouteIdeal.main_arg6) = m ((c.tc : Thread Cert.KernelRouteIdeal.nD Cert.KernelRouteIdeal.τ).loc Cert.KernelRouteIdeal.main_arg6)
          ∧ r.2.mem ((c.tc : Thread Cert.KernelRouteIdeal.nD Cert.KernelRouteIdeal.τ).loc Cert.KernelRouteIdeal.main_arg7) = m ((c.tc : Thread Cert.KernelRouteIdeal.nD Cert.KernelRouteIdeal.τ).loc Cert.KernelRouteIdeal.main_arg7))
      ∧ θ_run (Cert.ReferenceRouteIdeal.defs (F := Ideal)) (onTc (τ := Cert.ReferenceRouteIdeal.τ) (Cert.ReferenceRouteIdeal.main (F := Ideal))) ⟨m', fun _ => 0, g'⟩ (fun r => ∀ c : Dev Cert.ReferenceRouteIdeal.nD,
          r.2.mem ((c.tc : Thread Cert.ReferenceRouteIdeal.nD Cert.ReferenceRouteIdeal.τ).loc Cert.ReferenceRouteIdeal.main_v73) = v0 c
          ∧ r.2.mem ((c.tc : Thread Cert.ReferenceRouteIdeal.nD Cert.ReferenceRouteIdeal.τ).loc Cert.ReferenceRouteIdeal.main_v72) = v1 c
          ∧ r.2.mem ((c.tc : Thread Cert.ReferenceRouteIdeal.nD Cert.ReferenceRouteIdeal.τ).loc Cert.ReferenceRouteIdeal.main_arg0) = m' ((c.tc : Thread Cert.ReferenceRouteIdeal.nD Cert.ReferenceRouteIdeal.τ).loc Cert.ReferenceRouteIdeal.main_arg0)
          ∧ r.2.mem ((c.tc : Thread Cert.ReferenceRouteIdeal.nD Cert.ReferenceRouteIdeal.τ).loc Cert.ReferenceRouteIdeal.main_arg1) = m' ((c.tc : Thread Cert.ReferenceRouteIdeal.nD Cert.ReferenceRouteIdeal.τ).loc Cert.ReferenceRouteIdeal.main_arg1)
          ∧ r.2.mem ((c.tc : Thread Cert.ReferenceRouteIdeal.nD Cert.ReferenceRouteIdeal.τ).loc Cert.ReferenceRouteIdeal.main_arg2) = m' ((c.tc : Thread Cert.ReferenceRouteIdeal.nD Cert.ReferenceRouteIdeal.τ).loc Cert.ReferenceRouteIdeal.main_arg2)
          ∧ r.2.mem ((c.tc : Thread Cert.ReferenceRouteIdeal.nD Cert.ReferenceRouteIdeal.τ).loc Cert.ReferenceRouteIdeal.main_arg3) = m' ((c.tc : Thread Cert.ReferenceRouteIdeal.nD Cert.ReferenceRouteIdeal.τ).loc Cert.ReferenceRouteIdeal.main_arg3)
          ∧ r.2.mem ((c.tc : Thread Cert.ReferenceRouteIdeal.nD Cert.ReferenceRouteIdeal.τ).loc Cert.ReferenceRouteIdeal.main_arg4) = m' ((c.tc : Thread Cert.ReferenceRouteIdeal.nD Cert.ReferenceRouteIdeal.τ).loc Cert.ReferenceRouteIdeal.main_arg4)
          ∧ r.2.mem ((c.tc : Thread Cert.ReferenceRouteIdeal.nD Cert.ReferenceRouteIdeal.τ).loc Cert.ReferenceRouteIdeal.main_arg5) = m' ((c.tc : Thread Cert.ReferenceRouteIdeal.nD Cert.ReferenceRouteIdeal.τ).loc Cert.ReferenceRouteIdeal.main_arg5)
          ∧ r.2.mem ((c.tc : Thread Cert.ReferenceRouteIdeal.nD Cert.ReferenceRouteIdeal.τ).loc Cert.ReferenceRouteIdeal.main_arg6) = m' ((c.tc : Thread Cert.ReferenceRouteIdeal.nD Cert.ReferenceRouteIdeal.τ).loc Cert.ReferenceRouteIdeal.main_arg6)
          ∧ r.2.mem ((c.tc : Thread Cert.ReferenceRouteIdeal.nD Cert.ReferenceRouteIdeal.τ).loc Cert.ReferenceRouteIdeal.main_arg7) = m' ((c.tc : Thread Cert.ReferenceRouteIdeal.nD Cert.ReferenceRouteIdeal.τ).loc Cert.ReferenceRouteIdeal.main_arg7))

def Claim : Prop :=
  ∃ (hKernel : Cert.Kernel.Facts) (hKernelIdeal : Cert.KernelIdeal.Facts) (hReferenceIdeal : Cert.ReferenceIdeal.Facts) (hKernelProjR : Cert.KernelProjR.Facts) (hKernelProjRIdeal : Cert.KernelProjRIdeal.Facts) (hReferenceProjRIdeal : Cert.ReferenceProjRIdeal.Facts) (hKernelProjA : Cert.KernelProjA.Facts) (hKernelProjAIdeal : Cert.KernelProjAIdeal.Facts) (hReferenceProjAIdeal : Cert.ReferenceProjAIdeal.Facts) (hKernelOut : Cert.KernelOut.Facts) (hKernelOutIdeal : Cert.KernelOutIdeal.Facts) (hReferenceOutIdeal : Cert.ReferenceOutIdeal.Facts) (hKernelNorm : Cert.KernelNorm.Facts) (hKernelNormIdeal : Cert.KernelNormIdeal.Facts) (hReferenceNormIdeal : Cert.ReferenceNormIdeal.Facts) (hKernelRoute : Cert.KernelRoute.Facts) (hKernelRouteIdeal : Cert.KernelRouteIdeal.Facts) (hReferenceRouteIdeal : Cert.ReferenceRouteIdeal.Facts) (hPre_finite_route : Cert.Pre_finite_route.Facts),
    quiescent_Kernel (hKernel := hKernel)
    ∧ quiescent_KernelIdeal (hKernelIdeal := hKernelIdeal)
    ∧ quiescent_ReferenceIdeal (hReferenceIdeal := hReferenceIdeal)
    ∧ quiescent_KernelProjR (hKernelProjR := hKernelProjR)
    ∧ quiescent_KernelProjRIdeal (hKernelProjRIdeal := hKernelProjRIdeal)
    ∧ quiescent_ReferenceProjRIdeal (hReferenceProjRIdeal := hReferenceProjRIdeal)
    ∧ quiescent_KernelProjA (hKernelProjA := hKernelProjA)
    ∧ quiescent_KernelProjAIdeal (hKernelProjAIdeal := hKernelProjAIdeal)
    ∧ quiescent_ReferenceProjAIdeal (hReferenceProjAIdeal := hReferenceProjAIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelNorm (hKernelNorm := hKernelNorm)
    ∧ quiescent_KernelNormIdeal (hKernelNormIdeal := hKernelNormIdeal)
    ∧ quiescent_ReferenceNormIdeal (hReferenceNormIdeal := hReferenceNormIdeal)
    ∧ quiescent_KernelRoute (hKernelRoute := hKernelRoute)
    ∧ quiescent_KernelRouteIdeal (hKernelRouteIdeal := hKernelRouteIdeal)
    ∧ quiescent_KernelRouteIdeal_pre_finite_route (hKernelRouteIdeal := hKernelRouteIdeal) (hPre_finite_route := hPre_finite_route)
    ∧ quiescent_ReferenceRouteIdeal (hReferenceRouteIdeal := hReferenceRouteIdeal)
    ∧ quiescent_ReferenceRouteIdeal_pre_finite_route (hReferenceRouteIdeal := hReferenceRouteIdeal) (hPre_finite_route := hPre_finite_route)
    ∧ preserves_Kernel_KernelIdeal
    ∧ algebraic_KernelIdeal_ReferenceIdeal (hKernelIdeal := hKernelIdeal) (hReferenceIdeal := hReferenceIdeal)
    ∧ preserves_KernelProjR_KernelProjRIdeal
    ∧ algebraic_KernelProjRIdeal_ReferenceProjRIdeal (hKernelProjRIdeal := hKernelProjRIdeal) (hReferenceProjRIdeal := hReferenceProjRIdeal)
    ∧ preserves_KernelProjA_KernelProjAIdeal
    ∧ algebraic_KernelProjAIdeal_ReferenceProjAIdeal (hKernelProjAIdeal := hKernelProjAIdeal) (hReferenceProjAIdeal := hReferenceProjAIdeal)
    ∧ preserves_KernelOut_KernelOutIdeal
    ∧ algebraic_KernelOutIdeal_ReferenceOutIdeal (hKernelOutIdeal := hKernelOutIdeal) (hReferenceOutIdeal := hReferenceOutIdeal)
    ∧ preserves_KernelNorm_KernelNormIdeal
    ∧ algebraic_KernelNormIdeal_ReferenceNormIdeal (hKernelNormIdeal := hKernelNormIdeal) (hReferenceNormIdeal := hReferenceNormIdeal)
    ∧ preserves_KernelRoute_KernelRouteIdeal
    ∧ algebraic_KernelRouteIdeal_ReferenceRouteIdeal_pre_finite_route (hKernelRouteIdeal := hKernelRouteIdeal) (hReferenceRouteIdeal := hReferenceRouteIdeal) (hPre_finite_route := hPre_finite_route)
-- ==== Pre_finite_route.lean ====
abbrev S4x4096x4096 : Shape := ⟨3, ![4, 4096, 4096]⟩
abbrev S4096 : Shape := ⟨1, ![4096]⟩
abbrev S4x4096 : Shape := ⟨2, ![4, 4096]⟩
abbrev S4096x8 : Shape := ⟨2, ![4096, 8]⟩
abbrev S8 : Shape := ⟨1, ![8]⟩
abbrev S4096x64 : Shape := ⟨2, ![4096, 64]⟩
abbrev S64 : Shape := ⟨1, ![64]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S4096 : S_.BroadcastsInDim S4096 (![] : Fin 0 → Fin S4096.rank)
  reducesTo_S4096_S_d0 : S4096.ReducesTo [0] S_
  bcast_S_S4x4096 : S_.BroadcastsInDim S4x4096 (![] : Fin 0 → Fin S4x4096.rank)
  reducesTo_S4x4096_S_d0_1 : S4x4096.ReducesTo [0, 1] S_
  bcast_S_S4096x8 : S_.BroadcastsInDim S4096x8 (![] : Fin 0 → Fin S4096x8.rank)
  reducesTo_S4096x8_S_d0_1 : S4096x8.ReducesTo [0, 1] S_
  bcast_S_S8 : S_.BroadcastsInDim S8 (![] : Fin 0 → Fin S8.rank)
  reducesTo_S8_S_d0 : S8.ReducesTo [0] S_
  bcast_S_S4096x64 : S_.BroadcastsInDim S4096x64 (![] : Fin 0 → Fin S4096x64.rank)
  reducesTo_S4096x64_S_d0_1 : S4096x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg4 : FVec F S4096x8 .f32) (main_arg5 : FVec F S8 .f32) (main_arg6 : FVec F S4096x64 .f32) (main_arg7 : FVec F S64 .f32) (main_v13 : IVec S_ 1) (main_v16 : IVec S4x4096 1) : IVec S_ 1 :=
  let main_c_5 : IVec S_ 1 := constantI S_ 1 1#1
  let main_v17 : IVec S_ 1 := (fun x v => Host.reduce IntOp.andi x v reducesTo_S4x4096_S_d0_1 h_S_) main_v16 main_c_5
  let main_v18 : IVec S_ 1 := andi main_v13 main_v17
  let main_v19 : FVec F S4096x8 .f32 := Host.absf main_arg4
  let main_cst_6 : FVec F S_ .f32 := constant S_ .f32 0x7F800000#32
  let main_v20 : FVec F S4096x8 .f32 := broadcastInDim S4096x8 ![] bcast_S_S4096x8 main_cst_6
  let main_v21 : IVec S4096x8 1 := cmpf .olt main_v19 main_v20
  let main_c_7 : IVec S_ 1 := constantI S_ 1 1#1
  let main_v22 : IVec S_ 1 := (fun x v => Host.reduce IntOp.andi x v reducesTo_S4096x8_S_d0_1 h_S_) main_v21 main_c_7
  let main_v23 : IVec S_ 1 := andi main_v18 main_v22
  let main_v24 : FVec F S8 .f32 := Host.absf main_arg5
  let main_cst_8 : FVec F S_ .f32 := constant S_ .f32 0x7F800000#32
  let main_v25 : FVec F S8 .f32 := broadcastInDim S8 ![] bcast_S_S8 main_cst_8
  let main_v26 : IVec S8 1 := cmpf .olt main_v24 main_v25
  let main_c_9 : IVec S_ 1 := constantI S_ 1 1#1
  let main_v27 : IVec S_ 1 := (fun x v => Host.reduce IntOp.andi x v reducesTo_S8_S_d0 h_S_) main_v26 main_c_9
  let main_v28 : IVec S_ 1 := andi main_v23 main_v27
  let main_v29 : FVec F S4096x64 .f32 := Host.absf main_arg6
  let main_cst_10 : FVec F S_ .f32 := constant S_ .f32 0x7F800000#32
  let main_v30 : FVec F S4096x64 .f32 := broadcastInDim S4096x64 ![] bcast_S_S4096x64 main_cst_10
  let main_v31 : IVec S4096x64 1 := cmpf .olt main_v29 main_v30
  let main_c_11 : IVec S_ 1 := constantI S_ 1 1#1
  let main_v32 : IVec S_ 1 := (fun x v => Host.reduce IntOp.andi x v reducesTo_S4096x64_S_d0_1 h_S_) main_v31 main_c_11
  let main_v33 : IVec S_ 1 := andi main_v28 main_v32
  fn_part2 (F := F) main_arg7 main_v33

def fn {F : FTy → Type} [FloatOps F] (main_arg0 : FVec F S4x4096x4096 .f32) (main_arg1 : FVec F S4096 .f32) (main_arg2 : FVec F S4x4096 .f32) (main_arg3 : FVec F S4x4096 .f32) (main_arg4 : FVec F S4096x8 .f32) (main_arg5 : FVec F S8 .f32) (main_arg6 : FVec F S4096x64 .f32) (main_arg7 : FVec F S64 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S4x4096 .f32 := Host.absf main_arg2
  let main_cst_2 : FVec F S_ .f32 := constant S_ .f32 0x7F800000#32
  let main_v10 : FVec F S4x4096 .f32 := broadcastInDim S4x4096 ![] bcast_S_S4x4096 main_cst_2
  let main_v11 : IVec S4x4096 1 := cmpf .olt main_v9 main_v10
  let main_c_3 : IVec S_ 1 := constantI S_ 1 1#1
  let main_v12 : IVec S_ 1 := (fun x v => Host.reduce IntOp.andi x v reducesTo_S4x4096_S_d0_1 h_S_) main_v11 main_c_3
  let main_v13 : IVec S_ 1 := andi main_v8 main_v12
  let main_v14 : FVec F S4x4096 .f32 := Host.absf main_arg3
  let main_cst_4 : FVec F S_ .f32 := constant S_ .f32 0x7F800000#32
  let main_v15 : FVec F S4x4096 .f32 := broadcastInDim S4x4096 ![] bcast_S_S4x4096 main_cst_4
  let main_v16 : IVec S4x4096 1 := cmpf .olt main_v14 main_v15
  fn_part1 (F := F) main_arg4 main_arg5 main_arg6 main_arg7 main_v13 main_v16
-- ==== Kernel.lean ====
abbrev S16384x3072 : Shape := ⟨2, ![16384, 3072]⟩
abbrev S32 : Shape := ⟨1, ![32]⟩
abbrev S2048 : Shape := ⟨1, ![2048]⟩
abbrev S64x512x4096 : Shape := ⟨3, ![64, 512, 4096]⟩
abbrev S256x128x4096 : Shape := ⟨3, ![256, 128, 4096]⟩
abbrev S_ : Shape := ⟨0, ![]⟩
abbrev S1x2048 : Shape := ⟨2, ![1, 2048]⟩
abbrev S16384x2048 : Shape := ⟨2, ![16384, 2048]⟩
abbrev S256x512 : Shape := ⟨2, ![256, 512]⟩
abbrev S128x128 : Shape := ⟨2, ![128, 128]⟩
abbrev S256x128 : Shape := ⟨2, ![256, 128]⟩
abbrev S1x512 : Shape := ⟨2, ![1, 512]⟩
abbrev S1x128x4096 : Shape := ⟨3, ![1, 128, 4096]⟩
abbrev S128x256 : Shape := ⟨2, ![128, 256]⟩
abbrev S384x128 : Shape := ⟨2, ![384, 128]⟩
abbrev S1 : Shape := ⟨1, ![1]⟩
abbrev S128x64 : Shape := ⟨2, ![128, 64]⟩
abbrev S256x64 : Shape := ⟨2, ![256, 64]⟩
abbrev S128 : Shape := ⟨1, ![128]⟩
abbrev S128x1 : Shape := ⟨2, ![128, 1]⟩
abbrev S128x512 : Shape := ⟨2, ![128, 512]⟩

abbrev nBuf : Space → Nat
  | .hbm => 22
  | .vmem => 18
  | .smem => 2
  | _ => 0

abbrev bufTy : (tb : Table) → Fin (tcTables nBuf tb) → BufTy
  | .hbm, ⟨0, _⟩ => ⟨S16384x3072, .bf16⟩
  | .hbm, ⟨1, _⟩ => ⟨S32, .f32⟩
  | .hbm, ⟨2, _⟩ => ⟨S2048, .f32⟩
  | .hbm, ⟨3, _⟩ => ⟨S64x512x4096, .f32⟩
  | .hbm, ⟨4, _⟩ => ⟨S256x128x4096, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S32, .f32⟩
  | .hbm, ⟨19, _⟩ => ⟨S1x2048, .f32⟩
  | .hbm, ⟨20, _⟩ => ⟨S16384x2048, .bf16⟩
  | .hbm, ⟨21, _⟩ => ⟨S256x128x4096, .bf16⟩
  | .local _ .vmem, ⟨0, _⟩ => ⟨S256x512, .bf16⟩
  | .local _ .vmem, ⟨1, _⟩ => ⟨S256x512, .bf16⟩
  | .local _ .vmem, ⟨2, _⟩ => ⟨S128x128, .bf16⟩
  | .local _ .vmem, ⟨3, _⟩ => ⟨S128x128, .bf16⟩
  | .local _ .vmem, ⟨4, _⟩ => ⟨S256x128, .bf16⟩
  | .local _ .vmem, ⟨5, _⟩ => ⟨S256x128, .bf16⟩
  | .local _ .vmem, ⟨6, _⟩ => ⟨S128x128, .bf16⟩
  | .local _ .vmem, ⟨7, _⟩ => ⟨S128x128, .bf16⟩
  | .local _ .vmem, ⟨8, _⟩ => ⟨S256x128, .bf16⟩
  | .local _ .vmem, ⟨9, _⟩ => ⟨S256x128, .bf16⟩
  | .local _ .vmem, ⟨10, _⟩ => ⟨S1x512, .f32⟩
  | .local _ .vmem, ⟨11, _⟩ => ⟨S1x512, .f32⟩
  | .local _ .vmem, ⟨12, _⟩ => ⟨S1x128x4096, .f32⟩
  | .local _ .vmem, ⟨13, _⟩ => ⟨S1x128x4096, .f32⟩
  | .local _ .vmem, ⟨14, _⟩ => ⟨S256x512, .bf16⟩
  | .local _ .vmem, ⟨15, _⟩ => ⟨S256x512, .bf16⟩
  | .local _ .vmem, ⟨16, _⟩ => ⟨S1x128x4096, .bf16⟩
  | .local _ .vmem, ⟨17, _⟩ => ⟨S1x128x4096, .bf16⟩
  | .local _ .smem, ⟨0, _⟩ => ⟨S32, .f32⟩
  | .local _ .smem, ⟨1, _⟩ => ⟨S32, .f32⟩
  | _, _ => ⟨S16384x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12_0 : Ref sig .tc := ⟨.hbm, 20, rfl⟩
abbrev main_v12_1 : Ref sig .tc := ⟨.hbm, 21, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨3, ![4, 4, 16], ![false, false, false]⟩

def k0_off1 (i : grid0.Coords) (c0_i32_16 : BitVec 32) : Fin 1 → Nat :=
  let arg1 : BitVec 32 := BitVec.ofNat 32 (i 1).val
  let c8_i32 : BitVec 32 := 8#32
  let v27 : BitVec 32 := Scalar.muli arg1 c8_i32
  let v28 : BitVec 32 := Scalar.addi v27 c0_i32_16
  let v29 : Index := Scalar.indexCast v28
  ![v29.toNat]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let c2_i32 : BitVec 32 := 2#32
  let v1 : BitVec 32 := Scalar.muli c2_i32 arg2
  let c1_i32 : BitVec 32 := 1#32
  let v2 : BitVec 32 := Scalar.subi v1 c1_i32
  let c0_i32 : BitVec 32 := 0#32
  let v3 : BitVec 32 := Scalar.maxsi v2 c0_i32
  let v4 : BitVec 32 := Scalar.addi v0 v3
  let c16_i32 : BitVec 32 := 16#32
  let v5 : BitVec 32 := Scalar.addi c16_i32 arg1
  let c0_i32_0 : BitVec 32 := 0#32
  ![v4.toNat, v5.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c16_i32_0 : BitVec 32 := 16#32
  let v2 : BitVec 32 := Scalar.addi c16_i32_0 arg1
  let c0_i32 : BitVec 32 := 0#32
  ![v1.toNat, v2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let c2_i32 : BitVec 32 := 2#32
  let v1 : BitVec 32 := Scalar.muli c2_i32 arg2
  let c1_i32 : BitVec 32 := 1#32
  let v2 : BitVec 32 := Scalar.subi v1 c1_i32
  let c0_i32 : BitVec 32 := 0#32
  let v3 : BitVec 32 := Scalar.maxsi v2 c0_i32
  let v4 : BitVec 32 := Scalar.addi v0 v3
  let c20_i32 : BitVec 32 := 20#32
  let v5 : BitVec 32 := Scalar.addi c20_i32 arg1
  let c0_i32_0 : BitVec 32 := 0#32
  ![v4.toNat, v5.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c20_i32 : BitVec 32 := 20#32
  let v2 : BitVec 32 := Scalar.addi c20_i32 arg1
  let c0_i32 : BitVec 32 := 0#32
  ![v1.toNat, v2.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c16_i32 : BitVec 32 := 16#32
  let v2 : BitVec 32 := Scalar.muli v1 c16_i32
  let v3 : BitVec 32 := Scalar.addi v2 arg2
  let c255_i32 : BitVec 32 := 255#32
  let v4 : BitVec 32 := Scalar.minsi v3 c255_i32
  let c0_i32 : BitVec 32 := 0#32
  let c0_i32_0 : BitVec 32 := 0#32
  let c0_i32_1 : BitVec 32 := 0#32
  ![v4.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c16_i32 : BitVec 32 := 16#32
  let v2 : BitVec 32 := Scalar.muli v1 c16_i32
  let v3 : BitVec 32 := Scalar.addi v2 arg2
  let c255_i32 : BitVec 32 := 255#32
  let v4 : BitVec 32 := Scalar.minsi v3 c255_i32
  let c0_i32 : BitVec 32 := 0#32
  let c0_i32_0 : BitVec 32 := 0#32
  let c0_i32_1 : BitVec 32 := 0#32
  ![v4.toNat, c0_i32.toNat, c0_i32_0.toNat]

abbrev stage0_0 : Fin 1 → Memref sig .tc .smem S32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .smem S32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S1x128x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x128x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== ReferenceIdeal.lean ====
abbrev S16384x3072 : Shape := ⟨2, ![16384, 3072]⟩
abbrev S32 : Shape := ⟨1, ![32]⟩
abbrev S2048 : Shape := ⟨1, ![2048]⟩
abbrev S64x512x4096 : Shape := ⟨3, ![64, 512, 4096]⟩
abbrev S4x4096x3072 : Shape := ⟨3, ![4, 4096, 3072]⟩
abbrev S4x4096x2048 : Shape := ⟨3, ![4, 4096, 2048]⟩
abbrev S4x4096x512 : Shape := ⟨3, ![4, 4096, 512]⟩
abbrev S128x128x8x4x64 : Shape := ⟨5, ![128, 128, 8, 4, 64]⟩
abbrev S4x4096x8x64 : Shape := ⟨4, ![4, 4096, 8, 64]⟩
abbrev S_ : Shape := ⟨0, ![]⟩
abbrev S4x4224x8x64 : Shape := ⟨4, ![4, 4224, 8, 64]⟩
abbrev S4x33x128x8x64 : Shape := ⟨5, ![4, 33, 128, 8, 64]⟩
abbrev S4x32x128x8x64 : Shape := ⟨5, ![4, 32, 128, 8, 64]⟩
abbrev S4x32x256x8x64 : Shape := ⟨5, ![4, 32, 256, 8, 64]⟩
abbrev S128x256x8x64 : Shape := ⟨4, ![128, 256, 8, 64]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S8x4 : Shape := ⟨2, ![8, 4]⟩
abbrev S8x4x1x1 : Shape := ⟨4, ![8, 4, 1, 1]⟩
abbrev S1x1x128x256 : Shape := ⟨4, ![1, 1, 128, 256]⟩
abbrev S8x4x128x256 : Shape := ⟨4, ![8, 4, 128, 256]⟩
abbrev S1x8x4x1 : Shape := ⟨4, ![1, 8, 4, 1]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S4x32x128x256 : Shape := ⟨4, ![4, 32, 128, 256]⟩
abbrev S128x1x1x128x256 : Shape := ⟨5, ![128, 1, 1, 128, 256]⟩
abbrev S128x8x256x128x4 : Shape := ⟨5, ![128, 8, 256, 128, 4]⟩
abbrev S128x8x4x128x256 : Shape := ⟨5, ![128, 8, 4, 128, 256]⟩
abbrev S1x8x4x128x256 : Shape := ⟨5, ![1, 8, 4, 128, 256]⟩
abbrev S128x8x4x128 : Shape := ⟨4, ![128, 8, 4, 128]⟩
abbrev S128x8x4x128x1 : Shape := ⟨5, ![128, 8, 4, 128, 1]⟩
abbrev S128x8x64x4x128 : Shape := ⟨5, ![128, 8, 64, 4, 128]⟩
abbrev S16384x32x64 : Shape := ⟨3, ![16384, 32, 64]⟩
abbrev S16384x32 : Shape := ⟨2, ![16384, 32]⟩
abbrev S16384x32x1 : Shape := ⟨3, ![16384, 32, 1]⟩
abbrev S16384x2048 : Shape := ⟨2, ![16384, 2048]⟩
abbrev S1x2048 : Shape := ⟨2, ![1, 2048]⟩
abbrev S256x128x4096 : Shape := ⟨3, ![256, 128, 4096]⟩

abbrev nBuf : Space → Nat
  | .hbm => 143
  | .vmem => 0
  | .smem => 0
  | _ => 0

abbrev hbmTy0_0 (i : Nat) : BufTy := match i % 128 with
  | 0 => ⟨S16384x3072, .bf16⟩
  | 1 => ⟨S32, .f32⟩
  | 2 => ⟨S2048, .f32⟩
  | 3 => ⟨S64x512x4096, .f32⟩
  | 4 => ⟨S16384x3072, .f32⟩
  | 5 => ⟨S4x4096x3072, .f32⟩
  | 6 => ⟨S4x4096x2048, .f32⟩
  | 7 => ⟨S4x4096x512, .f32⟩
  | 8 => ⟨S4x4096x512, .f32⟩
  | 9 => ⟨S128x128x8x4x64, .f32⟩
  | 10 => ⟨S4x4096x8x64, .f32⟩
  | 11 => ⟨S_, .i32⟩
  | 12 => ⟨S_, .f32⟩
  | 13 => ⟨S4x4224x8x64, .f32⟩
  | 14 => ⟨S4x33x128x8x64, .f32⟩
  | 15 => ⟨S4x32x128x8x64, .f32⟩
  | 16 => ⟨S4x32x128x8x64, .f32⟩
  | 17 => ⟨S4x32x256x8x64, .f32⟩
  | 18 => ⟨S128x256x8x64, .f32⟩
  | 19 => ⟨S4x4096x8x64, .f32⟩
  | 20 => ⟨S_, .i32⟩
  | 21 => ⟨S_, .f32⟩
  | 22 => ⟨S4x4224x8x64, .f32⟩
  | 23 => ⟨S4x33x128x8x64, .f32⟩
  | 24 => ⟨S4x32x128x8x64, .f32⟩
  | 25 => ⟨S4x32x128x8x64, .f32⟩
  | 26 => ⟨S4x32x256x8x64, .f32⟩
  | 27 => ⟨S128x256x8x64, .f32⟩
  | 28 => ⟨S128, .i32⟩
  | 29 => ⟨S128x1, .i32⟩
  | 30 => ⟨S256, .i32⟩
  | 31 => ⟨S1x256, .i32⟩
  | 32 => ⟨S_, .i32⟩
  | 33 => ⟨S128x1, .i32⟩
  | 34 => ⟨S128x1, .i32⟩
  | 35 => ⟨S128x256, .i32⟩
  | 36 => ⟨S128x256, .i32⟩
  | 37 => ⟨S128x256, .i32⟩
  | 38 => ⟨S_, .i32⟩
  | 39 => ⟨S128x256, .i32⟩
  | 40 => ⟨S128x256, .i1⟩
  | 41 => ⟨S_, .i32⟩
  | 42 => ⟨S128x256, .i32⟩
  | 43 => ⟨S128x256, .i1⟩
  | 44 => ⟨S128x256, .i1⟩
  | 45 => ⟨S32, .f32⟩
  | 46 => ⟨S_, .f32⟩
  | 47 => ⟨S32, .f32⟩
  | 48 => ⟨S32, .f32⟩
  | 49 => ⟨S_, .f32⟩
  | 50 => ⟨S32, .f32⟩
  | 51 => ⟨S32, .f32⟩
  | 52 => ⟨S_, .f32⟩
  | 53 => ⟨S32, .f32⟩
  | 54 => ⟨S32, .f32⟩
  | 55 => ⟨S_, .f32⟩
  | 56 => ⟨S32, .f32⟩
  | 57 => ⟨S32, .f32⟩
  | 58 => ⟨S32, .f32⟩
  | 59 => ⟨S8x4, .f32⟩
  | 60 => ⟨S8x4x1x1, .f32⟩
  | 61 => ⟨S8x4x1x1, .f32⟩
  | 62 => ⟨S128x256, .f32⟩
  | 63 => ⟨S1x1x128x256, .f32⟩
  | 64 => ⟨S8x4x128x256, .f32⟩
  | 65 => ⟨S8x4x128x256, .f32⟩
  | 66 => ⟨S8x4x128x256, .f32⟩
  | 67 => ⟨S8x4, .f32⟩
  | 68 => ⟨S1x8x4x1, .f32⟩
  | 69 => ⟨S32, .i32⟩
  | 70 => ⟨S32x1x1, .i32⟩
  | 71 => ⟨S_, .i32⟩
  | 72 => ⟨S32x1x1, .i32⟩
  | 73 => ⟨S32x1x1, .i32⟩
  | 74 => ⟨S_, .i32⟩
  | 75 => ⟨S32x1x1, .i32⟩
  | 76 => ⟨S32x1x1, .i32⟩
  | 77 => ⟨S1x1x256, .i32⟩
  | 78 => ⟨S32x1x256, .i32⟩
  | 79 => ⟨S32x1x256, .i32⟩
  | 80 => ⟨S32x1x256, .i32⟩
  | 81 => ⟨S_, .i32⟩
  | 82 => ⟨S32x1x256, .i32⟩
  | 83 => ⟨S32x1x256, .i1⟩
  | 84 => ⟨S1x128x256, .i1⟩
  | 85 => ⟨S32x128x256, .i1⟩
  | 86 => ⟨S32x128x256, .i1⟩
  | 87 => ⟨S32x128x256, .i1⟩
  | 88 => ⟨S4x32x128x256, .i1⟩
  | 89 => ⟨S128x1x1x128x256, .i1⟩
  | 90 => ⟨S128x8x256x128x4, .f32⟩
  | 91 => ⟨S128x8x4x128x256, .f32⟩
  | 92 => ⟨S_, .f32⟩
  | 93 => ⟨S128x8x4x128x256, .f32⟩
  | 94 => ⟨S128x8x4x128x256, .f32⟩
  | 95 => ⟨S1x8x4x128x256, .f32⟩
  | 96 => ⟨S128x8x4x128x256, .f32⟩
  | 97 => ⟨S128x8x4x128x256, .f32⟩
  | 98 => ⟨S_, .f32⟩
  | 99 => ⟨S_, .f32⟩
  | 100 => ⟨S128x8x4x128x256, .i1⟩
  | 101 => ⟨S128x8x4x128x256, .f32⟩
  | 102 => ⟨S128x8x4x128x256, .f32⟩
  | 103 => ⟨S_, .f32⟩
  | 104 => ⟨S128x8x4x128, .f32⟩
  | 105 => ⟨S128x8x4x128, .f32⟩
  | 106 => ⟨S128x8x4x128, .f32⟩
  | 107 => ⟨S128x8x4x128x1, .f32⟩
  | 108 => ⟨S128x8x4x128x256, .f32⟩
  | 109 => ⟨S128x8x4x128x256, .f32⟩
  | 110 => ⟨S128x8x4x128x256, .f32⟩
  | 111 => ⟨S_, .f32⟩
  | 112 => ⟨S128x8x4x128, .f32⟩
  | 113 => ⟨S128x8x4x128, .f32⟩
  | 114 => ⟨S128x8x4x128, .f32⟩
  | 115 => ⟨S128x8x4x128, .f32⟩
  | 116 => ⟨S128x8x4x128, .f32⟩
  | 117 => ⟨S128x8x4x128x1, .f32⟩
  | 118 => ⟨S128x8x4x128x256, .f32⟩
  | 119 => ⟨S128x8x4x128x256, .f32⟩
  | 120 => ⟨S128x8x64x4x128, .f32⟩
  | 121 => ⟨S128x128x8x4x64, .f32⟩
  | 122 => ⟨S16384x32x64, .f32⟩
  | 123 => ⟨S16384x32x64, .f32⟩
  | 124 => ⟨S_, .f32⟩
  | 125 => ⟨S16384x32, .f32⟩
  | 126 => ⟨S16384x32x1, .f32⟩
  | 127 => ⟨S_, .f32⟩
  | _ => ⟨S16384x3072, .bf16⟩

abbrev hbmTy0_1 (i : Nat) : BufTy := match i % 128 with
  | 0 => ⟨S16384x32x1, .f32⟩
  | 1 => ⟨S16384x32x1, .f32⟩
  | 2 => ⟨S_, .f32⟩
  | 3 => ⟨S16384x32x1, .f32⟩
  | 4 => ⟨S16384x32x1, .f32⟩
  | 5 => ⟨S16384x32x1, .f32⟩
  | 6 => ⟨S16384x32x64, .f32⟩
  | 7 => ⟨S16384x32x64, .f32⟩
  | 8 => ⟨S16384x2048, .f32⟩
  | 9 => ⟨S1x2048, .f32⟩
  | 10 => ⟨S16384x2048, .f32⟩
  | 11 => ⟨S16384x2048, .f32⟩
  | 12 => ⟨S16384x2048, .bf16⟩
  | 13 => ⟨S256x128x4096, .f32⟩
  | 14 => ⟨S256x128x4096, .bf16⟩
  | _ => ⟨S16384x3072, .bf16⟩

abbrev hbmTy (i : Nat) : BufTy := match i / 128 with
  | 0 => hbmTy0_0 i
  | 1 => hbmTy0_1 i
  | _ => ⟨S16384x3072, .bf16⟩

abbrev bufTy : (tb : Table) → Fin (tcTables nBuf tb) → BufTy
  | .hbm, ⟨i, _⟩ => hbmTy i
  | _, _ => ⟨S16384x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_call0_v0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c_0 : Ref sig .tc := ⟨.hbm, 20, rfl⟩
abbrev main_call1_v0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_c_1 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_c_2 : Ref sig .tc := ⟨.hbm, 38, rfl⟩
abbrev main_v29 : Ref sig .tc := ⟨.hbm, 39, rfl⟩
abbrev main_v30 : Ref sig .tc := ⟨.hbm, 40, rfl⟩
abbrev main_c_3 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst : Ref sig .tc := ⟨.hbm, 46, rfl⟩
abbrev main_v35 : Ref sig .tc := ⟨.hbm, 47, rfl⟩
abbrev main_v36 : Ref sig .tc := ⟨.hbm, 48, rfl⟩
abbrev main_cst_4 : Ref sig .tc := ⟨.hbm, 49, rfl⟩
abbrev main_v37 : Ref sig .tc := ⟨.hbm, 50, rfl⟩
abbrev main_v38 : Ref sig .tc := ⟨.hbm, 51, rfl⟩
abbrev main_cst_5 : Ref sig .tc := ⟨.hbm, 52, rfl⟩
abbrev main_v39 : Ref sig .tc := ⟨.hbm, 53, rfl⟩
abbrev main_v40 : Ref sig .tc := ⟨.hbm, 54, rfl⟩
abbrev main_cst_6 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_c_7 : Ref sig .tc := ⟨.hbm, 71, rfl⟩
abbrev main_v56 : Ref sig .tc := ⟨.hbm, 72, rfl⟩
abbrev main_v57 : Ref sig .tc := ⟨.hbm, 73, rfl⟩
abbrev main_c_8 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_c_9 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_cst_10 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_cst_11 : Ref sig .tc := ⟨.hbm, 98, rfl⟩
abbrev main_call2_v0 : Ref sig .tc := ⟨.hbm, 99, rfl⟩
abbrev main_call2_v1 : Ref sig .tc := ⟨.hbm, 100, rfl⟩
abbrev main_call2_v2 : Ref sig .tc := ⟨.hbm, 101, rfl⟩
abbrev main_v79 : Ref sig .tc := ⟨.hbm, 102, rfl⟩
abbrev main_cst_12 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_cst_13 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_cst_14 : Ref sig .tc := ⟨.hbm, 124, rfl⟩
abbrev main_v99 : Ref sig .tc := ⟨.hbm, 125, rfl⟩
abbrev main_v100 : Ref sig .tc := ⟨.hbm, 126, rfl⟩
abbrev main_cst_15 : Ref sig .tc := ⟨.hbm, 127, rfl⟩
abbrev main_v101 : Ref sig .tc := ⟨.hbm, 128, rfl⟩
abbrev main_v102 : Ref sig .tc := ⟨.hbm, 129, rfl⟩
abbrev main_cst_16 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩

abbrev nD : Nat := 1
abbrev τ : Topo := Topo.v7x

variable {F : FTy → Type} [FloatOps F]
-- ==== KernelProjR.lean ====
abbrev S16384x4096 : Shape := ⟨2, ![16384, 4096]⟩
abbrev S4096x9664 : Shape := ⟨2, ![4096, 9664]⟩
abbrev S_ : Shape := ⟨0, ![]⟩
abbrev S4096x64 : Shape := ⟨2, ![4096, 64]⟩
abbrev S4096x6592 : Shape := ⟨2, ![4096, 6592]⟩
abbrev S4096x6656 : Shape := ⟨2, ![4096, 6656]⟩
abbrev S16384x6656 : Shape := ⟨2, ![16384, 6656]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 8
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S4096x9664, .f32⟩
  | .hbm, ⟨2, _⟩ => ⟨S_, .f32⟩
  | .hbm, ⟨3, _⟩ => ⟨S4096x64, .f32⟩
  | .hbm, ⟨4, _⟩ => ⟨S4096x6592, .f32⟩
  | .hbm, ⟨5, _⟩ => ⟨S4096x6656, .f32⟩
  | .hbm, ⟨6, _⟩ => ⟨S4096x6656, .bf16⟩
  | .hbm, ⟨7, _⟩ => ⟨S16384x6656, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .bf16⟩
  | .local _ .vmem, ⟨5, _⟩ => ⟨S1024x512, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 13], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceProjRIdeal.lean ====
abbrev S16384x4096 : Shape := ⟨2, ![16384, 4096]⟩
abbrev S4096x9664 : Shape := ⟨2, ![4096, 9664]⟩
abbrev S16384x9664 : Shape := ⟨2, ![16384, 9664]⟩
abbrev S16384x6592 : Shape := ⟨2, ![16384, 6592]⟩
abbrev S_ : Shape := ⟨0, ![]⟩
abbrev S16384x6656 : Shape := ⟨2, ![16384, 6656]⟩

abbrev nBuf : Space → Nat
  | .hbm => 9
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x9664, .f32⟩
  | .hbm, ⟨2, _⟩ => ⟨S16384x4096, .f32⟩
  | .hbm, ⟨3, _⟩ => ⟨S16384x9664, .f32⟩
  | .hbm, ⟨4, _⟩ => ⟨S16384x6592, .f32⟩
  | .hbm, ⟨5, _⟩ => ⟨S_, .i32⟩
  | .hbm, ⟨6, _⟩ => ⟨S_, .f32⟩
  | .hbm, ⟨7, _⟩ => ⟨S16384x6656, .f32⟩
  | .hbm, ⟨8, _⟩ => ⟨S16384x6656, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== KernelProjA.lean ====
abbrev S16384x4096 : Shape := ⟨2, ![16384, 4096]⟩
abbrev S4096x9664 : Shape := ⟨2, ![4096, 9664]⟩
abbrev S4096x3072 : Shape := ⟨2, ![4096, 3072]⟩
abbrev S16384x3072 : Shape := ⟨2, ![16384, 3072]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S4096x9664, .f32⟩
  | .hbm, ⟨2, _⟩ => ⟨S4096x3072, .f32⟩
  | .hbm, ⟨3, _⟩ => ⟨S4096x3072, .bf16⟩
  | .hbm, ⟨4, _⟩ => ⟨S16384x3072, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .bf16⟩
  | .local _ .vmem, ⟨5, _⟩ => ⟨S1024x512, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceProjAIdeal.lean ====
abbrev S16384x4096 : Shape := ⟨2, ![16384, 4096]⟩
abbrev S4096x9664 : Shape := ⟨2, ![4096, 9664]⟩
abbrev S16384x9664 : Shape := ⟨2, ![16384, 9664]⟩
abbrev S16384x3072 : Shape := ⟨2, ![16384, 3072]⟩

abbrev nBuf : Space → Nat
  | .hbm => 6
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x9664, .f32⟩
  | .hbm, ⟨2, _⟩ => ⟨S16384x4096, .f32⟩
  | .hbm, ⟨3, _⟩ => ⟨S16384x9664, .f32⟩
  | .hbm, ⟨4, _⟩ => ⟨S16384x3072, .f32⟩
  | .hbm, ⟨5, _⟩ => ⟨S16384x3072, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KernelOut.lean ====
abbrev S16384x2048 : Shape := ⟨2, ![16384, 2048]⟩
abbrev S4096x4096 : Shape := ⟨2, ![4096, 4096]⟩
abbrev S4x4096x4096 : Shape := ⟨3, ![4, 4096, 4096]⟩
abbrev S4x4096 : Shape := ⟨2, ![4, 4096]⟩
abbrev S16384x4096 : Shape := ⟨2, ![16384, 4096]⟩
abbrev S4x1x4096 : Shape := ⟨3, ![4, 1, 4096]⟩
abbrev S1024x2048 : Shape := ⟨2, ![1024, 2048]⟩
abbrev S2048x512 : Shape := ⟨2, ![2048, 512]⟩
abbrev S1024x512 : Shape := ⟨2, ![1024, 512]⟩
abbrev S1x1x512 : Shape := ⟨3, ![1, 1, 512]⟩
abbrev S1x512 : Shape := ⟨2, ![1, 512]⟩

abbrev nBuf : Space → Nat
  | .hbm => 8
  | .vmem => 14
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S4096x4096, .bf16⟩
  | .hbm, ⟨3, _⟩ => ⟨S4x4096x4096, .f32⟩
  | .hbm, ⟨4, _⟩ => ⟨S4x4096, .f32⟩
  | .hbm, ⟨5, _⟩ => ⟨S16384x4096, .f32⟩
  | .hbm, ⟨6, _⟩ => ⟨S4x1x4096, .f32⟩
  | .hbm, ⟨7, _⟩ => ⟨S16384x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S1024x512, .f32⟩
  | .local _ .vmem, ⟨9, _⟩ => ⟨S1024x512, .f32⟩
  | .local _ .vmem, ⟨10, _⟩ => ⟨S1x1x512, .f32⟩
  | .local _ .vmem, ⟨11, _⟩ => ⟨S1x1x512, .f32⟩
  | .local _ .vmem, ⟨12, _⟩ => ⟨S1024x512, .f32⟩
  | .local _ .vmem, ⟨13, _⟩ => ⟨S1024x512, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceOutIdeal.lean ====
abbrev S16384x2048 : Shape := ⟨2, ![16384, 2048]⟩
abbrev S4096x4096 : Shape := ⟨2, ![4096, 4096]⟩
abbrev S4x4096x4096 : Shape := ⟨3, ![4, 4096, 4096]⟩
abbrev S4x4096 : Shape := ⟨2, ![4, 4096]⟩
abbrev S16384x4096 : Shape := ⟨2, ![16384, 4096]⟩
abbrev S4x1x4096 : Shape := ⟨3, ![4, 1, 4096]⟩

abbrev nBuf : Space → Nat
  | .hbm => 15
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S4096x4096, .bf16⟩
  | .hbm, ⟨3, _⟩ => ⟨S4x4096x4096, .f32⟩
  | .hbm, ⟨4, _⟩ => ⟨S4x4096, .f32⟩
  | .hbm, ⟨5, _⟩ => ⟨S16384x4096, .bf16⟩
  | .hbm, ⟨6, _⟩ => ⟨S16384x4096, .f32⟩
  | .hbm, ⟨7, _⟩ => ⟨S4096x4096, .f32⟩
  | .hbm, ⟨8, _⟩ => ⟨S16384x4096, .f32⟩
  | .hbm, ⟨9, _⟩ => ⟨S4x1x4096, .f32⟩
  | .hbm, ⟨10, _⟩ => ⟨S4x4096x4096, .f32⟩
  | .hbm, ⟨11, _⟩ => ⟨S4x4096x4096, .f32⟩
  | .hbm, ⟨12, _⟩ => ⟨S4x4096x4096, .f32⟩
  | .hbm, ⟨13, _⟩ => ⟨S4x4096x4096, .f32⟩
  | .hbm, ⟨14, _⟩ => ⟨S16384x4096, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== KernelNorm.lean ====
abbrev S4x4096x4096 : Shape := ⟨3, ![4, 4096, 4096]⟩
abbrev S4096 : Shape := ⟨1, ![4096]⟩
abbrev S4x4096 : Shape := ⟨2, ![4, 4096]⟩
abbrev S16384x4096 : Shape := ⟨2, ![16384, 4096]⟩
abbrev S1x4096 : Shape := ⟨2, ![1, 4096]⟩
abbrev S4x1x4096 : Shape := ⟨3, ![4, 1, 4096]⟩
abbrev S512x4096 : Shape := ⟨2, ![512, 4096]⟩
abbrev S1x1x4096 : Shape := ⟨3, ![1, 1, 4096]⟩
abbrev S512 : Shape := ⟨1, ![512]⟩
abbrev S512x1 : Shape := ⟨2, ![512, 1]⟩

abbrev nBuf : Space → Nat
  | .hbm => 9
  | .vmem => 9
  | .smem => 0
  | _ => 0

abbrev bufTy : (tb : Table) → Fin (tcTables nBuf tb) → BufTy
  | .hbm, ⟨0, _⟩ => ⟨S4x4096x4096, .f32⟩
  | .hbm, ⟨1, _⟩ => ⟨S4096, .f32⟩
  | .hbm, ⟨2, _⟩ => ⟨S4x4096, .f32⟩
  | .hbm, ⟨3, _⟩ => ⟨S4x4096, .f32⟩
  | .hbm, ⟨4, _⟩ => ⟨S16384x4096, .f32⟩
  | .hbm, ⟨5, _⟩ => ⟨S1x4096, .f32⟩
  | .hbm, ⟨6, _⟩ => ⟨S4x1x4096, .f32⟩
  | .hbm, ⟨7, _⟩ => ⟨S4x1x4096, .f32⟩
  | .hbm, ⟨8, _⟩ => ⟨S16384x4096, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S512x4096, .bf16⟩
  | .local _ .vmem, ⟨8, _⟩ => ⟨S512x4096, .bf16⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceNormIdeal.lean ====
abbrev S4x4096x4096 : Shape := ⟨3, ![4, 4096, 4096]⟩
abbrev S4096 : Shape := ⟨1, ![4096]⟩
abbrev S4x4096 : Shape := ⟨2, ![4, 4096]⟩
abbrev S_ : Shape := ⟨0, ![]⟩
abbrev S4x4096x1 : Shape := ⟨3, ![4, 4096, 1]⟩
abbrev S1x1x4096 : Shape := ⟨3, ![1, 1, 4096]⟩
abbrev S4x1x4096 : Shape := ⟨3, ![4, 1, 4096]⟩
abbrev S16384x4096 : Shape := ⟨2, ![16384, 4096]⟩

abbrev nBuf : Space → Nat
  | .hbm => 31
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096, .f32⟩
  | .hbm, ⟨2, _⟩ => ⟨S4x4096, .f32⟩
  | .hbm, ⟨3, _⟩ => ⟨S4x4096, .f32⟩
  | .hbm, ⟨4, _⟩ => ⟨S4x4096x4096, .f32⟩
  | .hbm, ⟨5, _⟩ => ⟨S_, .f32⟩
  | .hbm, ⟨6, _⟩ => ⟨S4x4096, .f32⟩
  | .hbm, ⟨7, _⟩ => ⟨S4x4096x1, .f32⟩
  | .hbm, ⟨8, _⟩ => ⟨S_, .f32⟩
  | .hbm, ⟨9, _⟩ => ⟨S4x4096x1, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S4x4096x1, .f32⟩
  | .hbm, ⟨15, _⟩ => ⟨S4x4096x4096, .f32⟩
  | .hbm, ⟨16, _⟩ => ⟨S4x4096x4096, .f32⟩
  | .hbm, ⟨17, _⟩ => ⟨S1x1x4096, .f32⟩
  | .hbm, ⟨18, _⟩ => ⟨S4x4096x4096, .f32⟩
  | .hbm, ⟨19, _⟩ => ⟨S4x4096x4096, .f32⟩
  | .hbm, ⟨20, _⟩ => ⟨S4x1x4096, .f32⟩
  | .hbm, ⟨21, _⟩ => ⟨S_, .f32⟩
  | .hbm, ⟨22, _⟩ => ⟨S4x1x4096, .f32⟩
  | .hbm, ⟨23, _⟩ => ⟨S4x1x4096, .f32⟩
  | .hbm, ⟨24, _⟩ => ⟨S4x4096x4096, .f32⟩
  | .hbm, ⟨25, _⟩ => ⟨S4x4096x4096, .f32⟩
  | .hbm, ⟨26, _⟩ => ⟨S4x1x4096, .f32⟩
  | .hbm, ⟨27, _⟩ => ⟨S4x4096x4096, .f32⟩
  | .hbm, ⟨28, _⟩ => ⟨S4x4096x4096, .f32⟩
  | .hbm, ⟨29, _⟩ => ⟨S16384x4096, .f32⟩
  | .hbm, ⟨30, _⟩ => ⟨S16384x4096, .bf16⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== KernelRoute.lean ====
abbrev S4x4096x4096 : Shape := ⟨3, ![4, 4096, 4096]⟩
abbrev S4096 : Shape := ⟨1, ![4096]⟩
abbrev S4x4096 : Shape := ⟨2, ![4, 4096]⟩
abbrev S4096x8 : Shape := ⟨2, ![4096, 8]⟩
abbrev S8 : Shape := ⟨1, ![8]⟩
abbrev S4096x64 : Shape := ⟨2, ![4096, 64]⟩
abbrev S64 : Shape := ⟨1, ![64]⟩
abbrev S_ : Shape := ⟨0, ![]⟩
abbrev S4096x56 : Shape := ⟨2, ![4096, 56]⟩
abbrev S4096x128 : Shape := ⟨2, ![4096, 128]⟩
abbrev S56 : Shape := ⟨1, ![56]⟩
abbrev S128 : Shape := ⟨1, ![128]⟩
abbrev S1x128 : Shape := ⟨2, ![1, 128]⟩
abbrev S16384x4096 : Shape := ⟨2, ![16384, 4096]⟩
abbrev S1x4096 : Shape := ⟨2, ![1, 4096]⟩
abbrev S4x1x4096 : Shape := ⟨3, ![4, 1, 4096]⟩
abbrev S16384x128 : Shape := ⟨2, ![16384, 128]⟩
abbrev S256x4096 : Shape := ⟨2, ![256, 4096]⟩
abbrev S1x1x4096 : Shape := ⟨3, ![1, 1, 4096]⟩
abbrev S256x128 : Shape := ⟨2, ![256, 128]⟩
abbrev S256 : Shape := ⟨1, ![256]⟩
abbrev S256x1 : Shape := ⟨2, ![256, 1]⟩

abbrev nBuf : Space → Nat
  | .hbm => 22
  | .vmem => 13
  | .smem => 0
  | _ => 0

abbrev bufTy : (tb : Table) → Fin (tcTables nBuf tb) → BufTy
  | .hbm, ⟨0, _⟩ => ⟨S4x4096x4096, .f32⟩
  | .hbm, ⟨1, _⟩ => ⟨S4096, .f32⟩
  | .hbm, ⟨2, _⟩ => ⟨S4x4096, .f32⟩
  | .hbm, ⟨3, _⟩ => ⟨S4x4096, .f32⟩
  | .hbm, ⟨4, _⟩ => ⟨S4096x8, .f32⟩
  | .hbm, ⟨5, _⟩ => ⟨S8, .f32⟩
  | .hbm, ⟨6, _⟩ => ⟨S4096x64, .f32⟩
  | .hbm, ⟨7, _⟩ => ⟨S64, .f32⟩
  | .hbm, ⟨8, _⟩ => ⟨S_, .f32⟩
  | .hbm, ⟨9, _⟩ => ⟨S4096x56, .f32⟩
  | .hbm, ⟨10, _⟩ => ⟨S4096x128, .f32⟩
  | .hbm, ⟨11, _⟩ => ⟨S4096x128, .bf16⟩
  | .hbm, ⟨12, _⟩ => ⟨S_, .f32⟩
  | .hbm, ⟨13, _⟩ => ⟨S56, .f32⟩
  | .hbm, ⟨14, _⟩ => ⟨S128, .f32⟩
  | .hbm, ⟨15, _⟩ => ⟨S1x128, .f32⟩
  | .hbm, ⟨16, _⟩ => ⟨S16384x4096, .f32⟩
  | .hbm, ⟨17, _⟩ => ⟨S1x4096, .f32⟩
  | .hbm, ⟨18, _⟩ => ⟨S4x1x4096, .f32⟩
  | .hbm, ⟨19, _⟩ => ⟨S4x1x4096, .f32⟩
  | .hbm, ⟨20, _⟩ => ⟨S16384x4096, .bf16⟩
  | .hbm, ⟨21, _⟩ => ⟨S16384x128, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S4096x128, .bf16⟩
  | .local _ .vmem, ⟨8, _⟩ => ⟨S1x128, .f32⟩
  | .local _ .vmem, ⟨9, _⟩ => ⟨S256x4096, .bf16⟩
  | .local _ .vmem, ⟨10, _⟩ => ⟨S256x4096, .bf16⟩
  | .local _ .vmem, ⟨11, _⟩ => ⟨S256x128, .f32⟩
  | .local _ .vmem, ⟨12, _⟩ => ⟨S256x128, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10_0 : Ref sig .tc := ⟨.hbm, 20, rfl⟩
abbrev main_v10_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4096x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceRouteIdeal.lean ====
abbrev S4x4096x4096 : Shape := ⟨3, ![4, 4096, 4096]⟩
abbrev S4096 : Shape := ⟨1, ![4096]⟩
abbrev S4x4096 : Shape := ⟨2, ![4, 4096]⟩
abbrev S4096x8 : Shape := ⟨2, ![4096, 8]⟩
abbrev S8 : Shape := ⟨1, ![8]⟩
abbrev S4096x64 : Shape := ⟨2, ![4096, 64]⟩
abbrev S64 : Shape := ⟨1, ![64]⟩
abbrev S_ : Shape := ⟨0, ![]⟩
abbrev S4x4096x1 : Shape := ⟨3, ![4, 4096, 1]⟩
abbrev S1x1x4096 : Shape := ⟨3, ![1, 1, 4096]⟩
abbrev S4x1x4096 : Shape := ⟨3, ![4, 1, 4096]⟩
abbrev S16384x4096 : Shape := ⟨2, ![16384, 4096]⟩
abbrev S16384x8 : Shape := ⟨2, ![16384, 8]⟩
abbrev S1x8 : Shape := ⟨2, ![1, 8]⟩
abbrev S16384 : Shape := ⟨1, ![16384]⟩
abbrev S16384x1 : Shape := ⟨2, ![16384, 1]⟩
abbrev S16384x64 : Shape := ⟨2, ![16384, 64]⟩
abbrev S1x64 : Shape := ⟨2, ![1, 64]⟩
abbrev S16384x8x8 : Shape := ⟨3, ![16384, 8, 8]⟩
abbrev S16384x1x1 : Shape := ⟨3, ![16384, 1, 1]⟩
abbrev S1 : Shape := ⟨1, ![1]⟩
abbrev S1x1x1 : Shape := ⟨3, ![1, 1, 1]⟩
abbrev S16384x1x8 : Shape := ⟨3, ![16384, 1, 8]⟩
abbrev S16384x2 : Shape := ⟨2, ![16384, 2]⟩
abbrev S16384x4 : Shape := ⟨2, ![16384, 4]⟩
abbrev S16384x128 : Shape := ⟨2, ![16384, 128]⟩

abbrev nBuf : Space → Nat
  | .hbm => 121
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096, .f32⟩
  | .hbm, ⟨2, _⟩ => ⟨S4x4096, .f32⟩
  | .hbm, ⟨3, _⟩ => ⟨S4x4096, .f32⟩
  | .hbm, ⟨4, _⟩ => ⟨S4096x8, .f32⟩
  | .hbm, ⟨5, _⟩ => ⟨S8, .f32⟩
  | .hbm, ⟨6, _⟩ => ⟨S4096x64, .f32⟩
  | .hbm, ⟨7, _⟩ => ⟨S64, .f32⟩
  | .hbm, ⟨8, _⟩ => ⟨S4x4096x4096, .f32⟩
  | .hbm, ⟨9, _⟩ => ⟨S_, .f32⟩
  | .hbm, ⟨10, _⟩ => ⟨S4x4096, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S_, .f32⟩
  | .hbm, ⟨16, _⟩ => ⟨S4x4096x1, .f32⟩
  | .hbm, ⟨17, _⟩ => ⟨S4x4096x1, .f32⟩
  | .hbm, ⟨18, _⟩ => ⟨S4x4096x1, .f32⟩
  | .hbm, ⟨19, _⟩ => ⟨S4x4096x4096, .f32⟩
  | .hbm, ⟨20, _⟩ => ⟨S4x4096x4096, .f32⟩
  | .hbm, ⟨21, _⟩ => ⟨S1x1x4096, .f32⟩
  | .hbm, ⟨22, _⟩ => ⟨S4x4096x4096, .f32⟩
  | .hbm, ⟨23, _⟩ => ⟨S4x4096x4096, .f32⟩
  | .hbm, ⟨24, _⟩ => ⟨S4x1x4096, .f32⟩
  | .hbm, ⟨25, _⟩ => ⟨S_, .f32⟩
  | .hbm, ⟨26, _⟩ => ⟨S4x1x4096, .f32⟩
  | .hbm, ⟨27, _⟩ => ⟨S4x1x4096, .f32⟩
  | .hbm, ⟨28, _⟩ => ⟨S4x4096x4096, .f32⟩
  | .hbm, ⟨29, _⟩ => ⟨S4x4096x4096, .f32⟩
  | .hbm, ⟨30, _⟩ => ⟨S4x1x4096, .f32⟩
  | .hbm, ⟨31, _⟩ => ⟨S4x4096x4096, .f32⟩
  | .hbm, ⟨32, _⟩ => ⟨S4x4096x4096, .f32⟩
  | .hbm, ⟨33, _⟩ => ⟨S16384x4096, .f32⟩
  | .hbm, ⟨34, _⟩ => ⟨S16384x8, .f32⟩
  | .hbm, ⟨35, _⟩ => ⟨S1x8, .f32⟩
  | .hbm, ⟨36, _⟩ => ⟨S16384x8, .f32⟩
  | .hbm, ⟨37, _⟩ => ⟨S16384x8, .f32⟩
  | .hbm, ⟨38, _⟩ => ⟨S_, .f32⟩
  | .hbm, ⟨39, _⟩ => ⟨S16384, .f32⟩
  | .hbm, ⟨40, _⟩ => ⟨S_, .f32⟩
  | .hbm, ⟨41, _⟩ => ⟨S16384, .f32⟩
  | .hbm, ⟨42, _⟩ => ⟨S16384, .f32⟩
  | .hbm, ⟨43, _⟩ => ⟨S16384x1, .f32⟩
  | .hbm, ⟨44, _⟩ => ⟨S16384x8, .f32⟩
  | .hbm, ⟨45, _⟩ => ⟨S16384x8, .f32⟩
  | .hbm, ⟨46, _⟩ => ⟨S16384x8, .f32⟩
  | .hbm, ⟨47, _⟩ => ⟨S_, .f32⟩
  | .hbm, ⟨48, _⟩ => ⟨S16384, .f32⟩
  | .hbm, ⟨49, _⟩ => ⟨S16384x1, .f32⟩
  | .hbm, ⟨50, _⟩ => ⟨S16384x8, .f32⟩
  | .hbm, ⟨51, _⟩ => ⟨S16384x8, .f32⟩
  | .hbm, ⟨52, _⟩ => ⟨S16384x1, .f32⟩
  | .hbm, ⟨53, _⟩ => ⟨S16384x1, .i32⟩
  | .hbm, ⟨54, _⟩ => ⟨S16384, .f32⟩
  | .hbm, ⟨55, _⟩ => ⟨S16384, .i32⟩
  | .hbm, ⟨56, _⟩ => ⟨S16384x64, .f32⟩
  | .hbm, ⟨57, _⟩ => ⟨S1x64, .f32⟩
  | .hbm, ⟨58, _⟩ => ⟨S16384x64, .f32⟩
  | .hbm, ⟨59, _⟩ => ⟨S16384x64, .f32⟩
  | .hbm, ⟨60, _⟩ => ⟨S16384x8x8, .f32⟩
  | .hbm, ⟨61, _⟩ => ⟨S16384x1x1, .i32⟩
  | .hbm, ⟨62, _⟩ => ⟨S_, .i32⟩
  | .hbm, ⟨63, _⟩ => ⟨S16384x1x1, .i32⟩
  | .hbm, ⟨64, _⟩ => ⟨S16384x1x1, .i1⟩
  | .hbm, ⟨65, _⟩ => ⟨S_, .i32⟩
  | .hbm, ⟨66, _⟩ => ⟨S16384x1x1, .i32⟩
  | .hbm, ⟨67, _⟩ => ⟨S16384x1x1, .i32⟩
  | .hbm, ⟨68, _⟩ => ⟨S16384x1x1, .i32⟩
  | .hbm, ⟨69, _⟩ => ⟨S1, .i32⟩
  | .hbm, ⟨70, _⟩ => ⟨S_, .i32⟩
  | .hbm, ⟨71, _⟩ => ⟨S16384x1x1, .i32⟩
  | .hbm, ⟨72, _⟩ => ⟨S16384x1x1, .i1⟩
  | .hbm, ⟨73, _⟩ => ⟨S1x1x1, .i32⟩
  | .hbm, ⟨74, _⟩ => ⟨S16384x1x1, .i32⟩
  | .hbm, ⟨75, _⟩ => ⟨S16384x1x1, .i1⟩
  | .hbm, ⟨76, _⟩ => ⟨S16384x1x1, .i1⟩
  | .hbm, ⟨77, _⟩ => ⟨S_, .i1⟩
  | .hbm, ⟨78, _⟩ => ⟨S16384x1, .i1⟩
  | .hbm, ⟨79, _⟩ => ⟨S16384x1x8, .f32⟩
  | .hbm, ⟨80, _⟩ => ⟨S16384x1x8, .i1⟩
  | .hbm, ⟨81, _⟩ => ⟨S_, .f32⟩
  | .hbm, ⟨82, _⟩ => ⟨S16384x1x8, .f32⟩
  | .hbm, ⟨83, _⟩ => ⟨S16384x1x8, .f32⟩
  | .hbm, ⟨84, _⟩ => ⟨S16384x8, .f32⟩
  | .hbm, ⟨85, _⟩ => ⟨S_, .f32⟩
  | .hbm, ⟨86, _⟩ => ⟨S16384, .f32⟩
  | .hbm, ⟨87, _⟩ => ⟨S_, .f32⟩
  | .hbm, ⟨88, _⟩ => ⟨S16384, .f32⟩
  | .hbm, ⟨89, _⟩ => ⟨S16384, .f32⟩
  | .hbm, ⟨90, _⟩ => ⟨S16384x1, .f32⟩
  | .hbm, ⟨91, _⟩ => ⟨S16384x8, .f32⟩
  | .hbm, ⟨92, _⟩ => ⟨S16384x8, .f32⟩
  | .hbm, ⟨93, _⟩ => ⟨S16384x8, .f32⟩
  | .hbm, ⟨94, _⟩ => ⟨S_, .f32⟩
  | .hbm, ⟨95, _⟩ => ⟨S16384, .f32⟩
  | .hbm, ⟨96, _⟩ => ⟨S16384x1, .f32⟩
  | .hbm, ⟨97, _⟩ => ⟨S16384x8, .f32⟩
  | .hbm, ⟨98, _⟩ => ⟨S16384x8, .f32⟩
  | .hbm, ⟨99, _⟩ => ⟨S16384x2, .f32⟩
  | .hbm, ⟨100, _⟩ => ⟨S16384x2, .i32⟩
  | .hbm, ⟨101, _⟩ => ⟨S_, .f32⟩
  | .hbm, ⟨102, _⟩ => ⟨S16384, .f32⟩
  | .hbm, ⟨103, _⟩ => ⟨S16384x1, .f32⟩
  | .hbm, ⟨104, _⟩ => ⟨S16384x2, .f32⟩
  | .hbm, ⟨105, _⟩ => ⟨S16384x2, .f32⟩
  | .hbm, ⟨106, _⟩ => ⟨S16384x1, .i32⟩
  | .hbm, ⟨107, _⟩ => ⟨S_, .i32⟩
  | .hbm, ⟨108, _⟩ => ⟨S16384x1, .i32⟩
  | .hbm, ⟨109, _⟩ => ⟨S16384x1, .i32⟩
  | .hbm, ⟨110, _⟩ => ⟨S16384x2, .i32⟩
  | .hbm, ⟨111, _⟩ => ⟨S16384x2, .i32⟩
  | .hbm, ⟨112, _⟩ => ⟨S16384x1, .f32⟩
  | .hbm, ⟨113, _⟩ => ⟨S16384x2, .f32⟩
  | .hbm, ⟨114, _⟩ => ⟨S16384x2, .f32⟩
  | .hbm, ⟨115, _⟩ => ⟨S16384x2, .f32⟩
  | .hbm, ⟨116, _⟩ => ⟨S16384x4, .f32⟩
  | .hbm, ⟨117, _⟩ => ⟨S_, .i32⟩
  | .hbm, ⟨118, _⟩ => ⟨S_, .f32⟩
  | .hbm, ⟨119, _⟩ => ⟨S16384x128, .f32⟩
  | .hbm, ⟨120, _⟩ => ⟨S16384x4096, .bf16⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_5 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_values : Ref sig .tc := ⟨.hbm, 52, rfl⟩
abbrev main_indices : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_call0_c : Ref sig .tc := ⟨.hbm, 62, rfl⟩
abbrev main_call0_v0 : Ref sig .tc := ⟨.hbm, 63, rfl⟩
abbrev main_call0_v1 : Ref sig .tc := ⟨.hbm, 64, rfl⟩
abbrev main_call0_c_0 : Ref sig .tc := ⟨.hbm, 65, rfl⟩
abbrev main_call0_v2 : Ref sig .tc := ⟨.hbm, 66, rfl⟩
abbrev main_call0_v3 : Ref sig .tc := ⟨.hbm, 67, rfl⟩
abbrev main_call0_v4 : Ref sig .tc := ⟨.hbm, 68, rfl⟩
abbrev main_call0_c_1 : Ref sig .tc := ⟨.hbm, 69, rfl⟩
abbrev main_call0_c_2 : Ref sig .tc := ⟨.hbm, 70, rfl⟩
abbrev main_call0_v5 : Ref sig .tc := ⟨.hbm, 71, rfl⟩
abbrev main_call0_v6 : Ref sig .tc := ⟨.hbm, 72, rfl⟩
abbrev main_call0_v7 : Ref sig .tc := ⟨.hbm, 73, rfl⟩
abbrev main_call0_v8 : Ref sig .tc := ⟨.hbm, 74, rfl⟩
abbrev main_call0_v9 : Ref sig .tc := ⟨.hbm, 75, rfl⟩
abbrev main_call0_v10 : Ref sig .tc := ⟨.hbm, 76, rfl⟩
abbrev main_call0_c_3 : Ref sig .tc := ⟨.hbm, 77, rfl⟩
abbrev main_call0_v11 : Ref sig .tc := ⟨.hbm, 78, rfl⟩
abbrev main_call0_v12 : Ref sig .tc := ⟨.hbm, 79, rfl⟩
abbrev main_call0_v13 : Ref sig .tc := ⟨.hbm, 80, rfl⟩
abbrev main_call0_cst : Ref sig .tc := ⟨.hbm, 81, rfl⟩
abbrev main_call0_v14 : Ref sig .tc := ⟨.hbm, 82, rfl⟩
abbrev main_v45 : Ref sig .tc := ⟨.hbm, 83, rfl⟩
abbrev main_v46 : Ref sig .tc := ⟨.hbm, 84, rfl⟩
abbrev main_cst_6 : Ref sig .tc := ⟨.hbm, 85, rfl⟩
abbrev main_v47 : Ref sig .tc := ⟨.hbm, 86, rfl⟩
abbrev main_cst_7 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_cst_8 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_values_9 : Ref sig .tc := ⟨.hbm, 99, rfl⟩
abbrev main_indices_10 : Ref sig .tc := ⟨.hbm, 100, rfl⟩
abbrev main_cst_11 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_c : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_c_12 : Ref sig .tc := ⟨.hbm, 117, rfl⟩
abbrev main_call1_v0 : Ref sig .tc := ⟨.hbm, 118, rfl⟩
abbrev main_v72 : Ref sig .tc := ⟨.hbm, 119, rfl⟩
abbrev main_v73 : Ref sig .tc := ⟨.hbm, 120, rfl⟩

abbrev nD : Nat := 1
abbrev τ : Topo := Topo.v7x

variable {F : FTy → Type} [FloatOps F]
-- ==== Proof.Attn.Unit.lean ====
module

public import proofs.«01_k».proof.Proof.Gen.KernelIdeal.Value
public import Idealize.ShloMosaic.Lib.Pipeline.ValueKit

@[expose] public section

set_option maxRecDepth 16384

noncomputable section

namespace Cert.KernelIdeal.Attn

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-- The masked scores of 128 queries against 256 keys: scaled products less the head's slope times the distance. -/
def scores (mask : IVec S128x256 1) (slope : Elt F .f32) (q : FVec F S128x64 .bf16) (k : FVec F S256x64 .bf16) :
    FVec F S128x256 .f32 :=
  select mask
    (subf (mulf (matmul dot_S128x64_S256x64_S128x256_1_1_0_0_n_n none q k (constant S128x256 .f32 0x00000000#32))
        (broadcast S128x256 (Scalar.ofBits .f32 0x3E000000#32)))
      (mulf (broadcast S128x256 slope) k0_pay7))
    (broadcast S128x256 (Scalar.ofBits .f32 0xFF800000#32))

/-- Each query's largest score, the sink among them. -/
def top (sink : Elt F .f32) (s : FVec F S128x256 .f32) : FVec F S128x1 .f32 :=
  maximumf (shapeCast S128x1 (multiReduction .maximumf [1] S128 s 0xFF800000#32 reduces_S128x256_S128 (.inl rfl) rfl)
    shapeCasts_S128_S128x1) (broadcast S128x1 sink)

/-- The exponentials of the scores less the largest. -/
def weights (s : FVec F S128x256 .f32) (t : FVec F S128x1 .f32) : FVec F S128x256 .f32 :=
  exp (subf s (broadcastTo S128x256 t broadcasts_S128x1_S128x256))

/-- The softmax's denominator, the sink's exponential added. -/
def denom (sink : Elt F .f32) (t : FVec F S128x1 .f32) (p : FVec F S128x256 .f32) : FVec F S128x1 .f32 :=
  addf (shapeCast S128x1 (multiReduction .add [1] S128 p 0x00000000#32 reduces_S128x256_S128 (.inl rfl) rfl)
    shapeCasts_S128_S128x1) (exp (subf (broadcast S128x1 sink) t))

/-- The weighted values, divided by the denominator at the end. -/
def mixed (p : FVec F S128x256 .f32) (v : FVec F S256x64 .bf16) (d : FVec F S128x1 .f32) : FVec F S128x64 .f32 :=
  divf (matmul dot_S128x256_S256x64_S128x64_1_0_0_1_n_n none (truncf .bf16 p bitsLt_bf16_f32) v
    (constant S128x64 .f32 0x00000000#32)) (broadcastTo S128x64 d broadcasts_S128x1_S128x64)

/-- A head's output, each row divided by its root mean square. -/
def normed (o : FVec F S128x64 .f32) : FVec F S128x64 .f32 :=
  mulf o (broadcastTo S128x64
    (rsqrt (addf (divf (shapeCast S128x1 (multiReduction .add [1] S128 (mulf o o) 0x00000000#32 reduces_S128x64_S128 (.inl rfl) rfl)
      shapeCasts_S128_S128x1) (broadcast S128x1 (Scalar.ofBits .f32 0x42800000#32)))
      (broadcast S128x1 (Scalar.ofBits .f32 0x358637BD#32)))) broadcasts_S128x1_S128x64)

/-- One head over 128 queries. -/
def head (mask : IVec S128x256 1) (slope sink : Elt F .f32) (q : FVec F S128x64 .bf16) (k v : FVec F S256x64 .bf16) :
    FVec F S128x64 .f32 :=
  normed (mixed (weights (scores mask slope q k) (top sink (scores mask slope q k))) v
    (denom sink (top sink (scores mask slope q k)) (weights (scores mask slope q k) (top sink (scores mask slope q k)))))

/-- One number of a table of 32, at an offset. -/
def entryAt (X : Vec F S32 .f32) (o : Fin 1 → Nat) (h : ∀ a, o a + S1.size a ≤ S32.size a) : Elt F .f32 :=
  View.ld X (Rect.unit (s := S32) o ![1] h) (Shape.Idx.first (by show 0 < (Shape.numel ⟨1, ![1]⟩); decide))

/-- The head at an offset of the query block and an offset of the keys' and values' blocks, at a grid point. -/
def headAt (c : Dev nD) (t : Fin cfg0.N) (mask : IVec S128x256 1) (n : Fin 8) (a b e : Nat)
    (hq : ∀ x, (![a, b] : Fin 2 → Nat) x + S128x64.size x ≤ S256x512.size x) (hk : S384x128.Slices ![a, e] S256x64) :
    FVec F S128x64 .f32 :=
  head mask (entryAt (iblk m c 1 t) (k0_off1 (grid0.coords t) (BitVec.ofNat 32 n.val)) (k0_off1_inb (grid0.coords t) n))
    (entryAt (iblk m c 0 t) (k0_off1 (grid0.coords t) (BitVec.ofNat 32 n.val)) (k0_off1_inb (grid0.coords t) n))
    (View.ld (iblk m c 2 t) (Rect.unit (s := S256x512) ![a, b] ![128, 64] hq))
    (extractStridedSlice S256x64 ![a, e] (k0_pay8 (iblk m c 3 t) (iblk m c 4 t)) hk)
    (extractStridedSlice S256x64 ![a, e] (k0_pay9 (iblk m c 5 t) (iblk m c 6 t)) hk)

/-- What a grid point leaves in its block of the result: the sixteen heads side by side, scaled by the output gain. -/
theorem opened (c : Dev nD) (t : Fin cfg0.N) : (dats m 0 c).after 9 t = k0_pay2
    (headAt m c t (k0_pay6 (grid0.coords t)) 0 0 0 0 inb_S256x512_S128x64_0_0 slices_S384x128_o0_0_S256x64)
    (headAt m c t (k0_pay6 (grid0.coords t)) 1 0 64 0 inb_S256x512_S128x64_0_64 slices_S384x128_o0_0_S256x64)
    (headAt m c t (k0_pay6 (grid0.coords t)) 2 0 128 0 inb_S256x512_S128x64_0_128 slices_S384x128_o0_0_S256x64)
    (headAt m c t (k0_pay6 (grid0.coords t)) 3 0 192 0 inb_S256x512_S128x64_0_192 slices_S384x128_o0_0_S256x64)
    (headAt m c t (k0_pay6 (grid0.coords t)) 4 0 256 64 inb_S256x512_S128x64_0_256 slices_S384x128_o0_64_S256x64)
    (headAt m c t (k0_pay6 (grid0.coords t)) 5 0 320 64 inb_S256x512_S128x64_0_320 slices_S384x128_o0_64_S256x64)
    (headAt m c t (k0_pay6 (grid0.coords t)) 6 0 384 64 inb_S256x512_S128x64_0_384 slices_S384x128_o0_64_S256x64)
    (headAt m c t (k0_pay6 (grid0.coords t)) 7 0 448 64 inb_S256x512_S128x64_0_448 slices_S384x128_o0_64_S256x64)
    (concatenate S128x512 1 [⟨S128x64, (headAt m c t k0_pay5 0 128 0 0 inb_S256x512_S128x64_128_0 slices_S384x128_o128_0_S256x64)⟩,
      ⟨S128x64, (headAt m c t k0_pay5 1 128 64 0 inb_S256x512_S128x64_128_64 slices_S384x128_o128_0_S256x64)⟩,
      ⟨S128x64, (headAt m c t k0_pay5 2 128 128 0 inb_S256x512_S128x64_128_128 slices_S384x128_o128_0_S256x64)⟩,
      ⟨S128x64, (headAt m c t k0_pay5 3 128 192 0 inb_S256x512_S128x64_128_192 slices_S384x128_o128_0_S256x64)⟩,
      ⟨S128x64, (headAt m c t k0_pay5 4 128 256 64 inb_S256x512_S128x64_128_256 slices_S384x128_o128_64_S256x64)⟩,
      ⟨S128x64, (headAt m c t k0_pay5 5 128 320 64 inb_S256x512_S128x64_128_320 slices_S384x128_o128_64_S256x64)⟩,
      ⟨S128x64, (headAt m c t k0_pay5 6 128 384 64 inb_S256x512_S128x64_128_384 slices_S384x128_o128_64_S256x64)⟩,
      ⟨S128x64, (headAt m c t k0_pay5 7 128 448 64 inb_S256x512_S128x64_128_448 slices_S384x128_o128_64_S256x64)⟩]
      concatenates_S128x64_S128x64_S128x64_S128x64_S128x64_S128x64_S128x64_S128x64_S128x512_d1) (iblk m c 7 t) := by
  rw [after0_9]
  unfold outsAt0
  dsimp only
  frame_out
  rfl

end Cert.KernelIdeal.Attn

end
-- ==== Proof.Attn.Reads.lean ====
module

public import proofs.«01_k».proof.Proof.Attn.Unit

@[expose] public section

set_option maxRecDepth 16384

noncomputable section

namespace Cert.KernelIdeal.Attn

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- Where the windows stand at a grid point. -/
theorem idx : ∀ t : Fin cfg0.N, win0_0.index t = ![0] ∧ win0_1.index t = ![0]
    ∧ win0_2.index t = ![(grid0.coords t 0).val * 16 + (grid0.coords t 2).val, (grid0.coords t 1).val]
    ∧ win0_3.index t = ![(grid0.coords t 0).val * 32 + (2 * (grid0.coords t 2).val - 1), 16 + (grid0.coords t 1).val]
    ∧ win0_4.index t = ![(grid0.coords t 0).val * 16 + (grid0.coords t 2).val, 16 + (grid0.coords t 1).val]
    ∧ win0_5.index t = ![(grid0.coords t 0).val * 32 + (2 * (grid0.coords t 2).val - 1), 20 + (grid0.coords t 1).val]
    ∧ win0_6.index t = ![(grid0.coords t 0).val * 16 + (grid0.coords t 2).val, 20 + (grid0.coords t 1).val]
    ∧ win0_7.index t = ![0, (grid0.coords t 1).val]
    ∧ win0_9.index t = ![(grid0.coords t 0).val * 16 + (grid0.coords t 2).val, (grid0.coords t 1).val] :=
  (by decide +kernel : ∀ t : Fin grid0.N, _)

/-- A step's first coordinate is below four. -/
theorem b_lt (t : Fin cfg0.N) : (grid0.coords t 0).val < 4 := (grid0.coords t 0).isLt
/-- A step's second coordinate is below four. -/
theorem p_lt (t : Fin cfg0.N) : (grid0.coords t 1).val < 4 := (grid0.coords t 1).isLt
/-- A step's third coordinate is below sixteen. -/
theorem i_lt (t : Fin cfg0.N) : (grid0.coords t 2).val < 16 := (grid0.coords t 2).isLt

/-- The queries' block. -/
theorem blk2 (c : Dev nD) (t : Fin cfg0.N) (a : Fin 256) (b : Fin 512) (R : Fin 16384) (C : Fin 3072)
    (hR : R.val = ((grid0.coords t 0).val * 16 + (grid0.coords t 2).val) * 256 + a.val)
    (hC : C.val = (grid0.coords t 1).val * 512 + b.val) :
    iblk m c 2 t (ix2 a b) = m ((c : Thread nD τ).loc main_arg0) (ix2 R C) := by
  blk_ext [iblk, V, idx t]

/-- The keys of the block before. -/
theorem blk3 (c : Dev nD) (t : Fin cfg0.N) (a : Fin 128) (b : Fin 128) (R : Fin 16384) (C : Fin 3072)
    (hR : R.val = ((grid0.coords t 0).val * 32 + (2 * (grid0.coords t 2).val - 1)) * 128 + a.val)
    (hC : C.val = (16 + (grid0.coords t 1).val) * 128 + b.val) :
    iblk m c 3 t (ix2 a b) = m ((c : Thread nD τ).loc main_arg0) (ix2 R C) := by
  blk_ext [iblk, V, idx t]

/-- The keys of the blocks themselves. -/
theorem blk4 (c : Dev nD) (t : Fin cfg0.N) (a : Fin 256) (b : Fin 128) (R : Fin 16384) (C : Fin 3072)
    (hR : R.val = ((grid0.coords t 0).val * 16 + (grid0.coords t 2).val) * 256 + a.val)
    (hC : C.val = (16 + (grid0.coords t 1).val) * 128 + b.val) :
    iblk m c 4 t (ix2 a b) = m ((c : Thread nD τ).loc main_arg0) (ix2 R C) := by
  blk_ext [iblk, V, idx t]

/-- The values of the block before. -/
theorem blk5 (c : Dev nD) (t : Fin cfg0.N) (a : Fin 128) (b : Fin 128) (R : Fin 16384) (C : Fin 3072)
    (hR : R.val = ((grid0.coords t 0).val * 32 + (2 * (grid0.coords t 2).val - 1)) * 128 + a.val)
    (hC : C.val = (20 + (grid0.coords t 1).val) * 128 + b.val) :
    iblk m c 5 t (ix2 a b) = m ((c : Thread nD τ).loc main_arg0) (ix2 R C) := by
  blk_ext [iblk, V, idx t]

/-- The values of the blocks themselves. -/
theorem blk6 (c : Dev nD) (t : Fin cfg0.N) (a : Fin 256) (b : Fin 128) (R : Fin 16384) (C : Fin 3072)
    (hR : R.val = ((grid0.coords t 0).val * 16 + (grid0.coords t 2).val) * 256 + a.val)
    (hC : C.val = (20 + (grid0.coords t 1).val) * 128 + b.val) :
    iblk m c 6 t (ix2 a b) = m ((c : Thread nD τ).loc main_arg0) (ix2 R C) := by
  blk_ext [iblk, V, idx t]

/-- The output gain as the kernel's host code lays it out. -/
theorem gain (c : Dev nD) (C : Fin 2048) : V m c main_v11 (ix2 (0 : Fin 1) C) = m ((c : Thread nD τ).loc main_arg2) (ix1 C) := by
  entry_read
  pointwise

/-- The output gain's block. -/
theorem blk7 (c : Dev nD) (t : Fin cfg0.N) (b : Fin 512) (C : Fin 2048)
    (hC : C.val = (grid0.coords t 1).val * 512 + b.val) :
    iblk m c 7 t (ix2 (0 : Fin 1) b) = m ((c : Thread nD τ).loc main_arg2) (ix1 C) := by
  refine Eq.trans ?_ (gain m c C)
  blk_ext [iblk, idx t]

/-- A head's number in the table of the sinks. -/
theorem sink_read (c : Dev nD) (t : Fin cfg0.N) (n : Fin 8) (H : Fin 32) (hH : H.val = 8 * (grid0.coords t 1).val + n.val) :
    entryAt (iblk m c 0 t) (k0_off1 (grid0.coords t) (BitVec.ofNat 32 n.val)) (k0_off1_inb (grid0.coords t) n)
      = m ((c : Thread nD τ).loc main_arg1) (ix1 H) := by
  unfold entryAt
  have e := k0_off1_eq (grid0.coords t) n
  show iblk m c 0 t _ = _
  blk_ext [iblk, V, idx t]
  exact (show _ = k0_off1 (grid0.coords t) (BitVec.ofNat 32 n.val) 0 from rfl).trans ((congrFun e 0).trans hH.symm)

/-- A head's number in the table of the slopes. -/
theorem slope_read (c : Dev nD) (t : Fin cfg0.N) (n : Fin 8) (H : Fin 32) (hH : H.val = 8 * (grid0.coords t 1).val + n.val) :
    entryAt (iblk m c 1 t) (k0_off1 (grid0.coords t) (BitVec.ofNat 32 n.val)) (k0_off1_inb (grid0.coords t) n)
      = V m c main_v10 (ix1 H) := by
  unfold entryAt
  have e := k0_off1_eq (grid0.coords t) n
  show iblk m c 1 t _ = _
  blk_ext [iblk, idx t]
  exact (show _ = k0_off1 (grid0.coords t) (BitVec.ofNat 32 n.val) 0 from rfl).trans ((congrFun e 0).trans hH.symm)

end Cert.KernelIdeal.Attn

end
-- ==== Proof.Attn.Core.lean ====
module

public import Idealize.ShloMosaic.PureOps.Ideal
public import Idealize.ShloMosaic.PureOps.Ideal.Laws

@[expose] public section

noncomputable section

namespace Cert.AttnCore

open Idealize.ShloMosaic

/-- A query's largest score, the sink among them. -/
def topOf (s : Fin 256 → EReal) (sink : EReal) : EReal :=
  max (Finset.fold max (Ideal.ofBits .f32 4286578688#32) s Finset.univ) sink

/-- The exponential of a score less the largest. -/
def wOf (s : Fin 256 → EReal) (sink : EReal) (j : Fin 256) : EReal := Ideal.exp (s j - topOf s sink)

/-- The sum of the exponentials, the sink's added. -/
def denOf (s : Fin 256 → EReal) (sink : EReal) : EReal :=
  ∑ j, wOf s sink j + Ideal.exp (sink - topOf s sink)

/-- The weighted values divided at the end. -/
def outLate (s : Fin 256 → EReal) (sink : EReal) (v : Fin 256 → Fin 64 → EReal) (d : Fin 64) : EReal :=
  Ideal.div (∑ j, wOf s sink j * v j d) (denOf s sink)

/-- The values weighted by the divided exponentials. -/
def outEarly (s : Fin 256 → EReal) (sink : EReal) (v : Fin 256 → Fin 64 → EReal) (d : Fin 64) : EReal :=
  ∑ j, v j d * Ideal.div (wOf s sink j) (denOf s sink)

/-- A number of a row divided by the row's root mean square. -/
def nrm (o : Fin 64 → EReal) (d : Fin 64) : EReal :=
  o d * Ideal.rsqrt (Ideal.div (∑ x, o x * o x) (Ideal.ofBits .f32 1115684864#32) + Ideal.ofBits .f32 897988541#32)

/-- The literal nought. -/
theorem zero32 : Ideal.ofBits .f32 0#32 = 0 := by simp [Ideal.ofBits, Ideal.ieee]

/-- The literal 64. -/
theorem sixtyfour : Ideal.ofBits .f32 1115684864#32 = ((64 : ℝ) : EReal) := by
  simp [Ideal.ofBits, Ideal.ieee]; norm_cast; norm_num

/-- The small literal is no infinity. -/
theorem eps_ne : Ideal.ofBits .f32 897988541#32 ≠ ⊥ := by
  have h1 : ¬ (BitVec.extractLsb' 23 8 897988541#32).toNat = 2 ^ 8 - 1 := by decide
  simp only [Ideal.ofBits, Ideal.ieee]
  rw [if_neg h1]
  split_ifs <;> exact EReal.coe_ne_bot _

/-- An exponential is not negative. -/
theorem exp_nonneg (x : EReal) : 0 ≤ Ideal.exp x := by
  induction x with
  | bot => simp
  | top => simp
  | coe r => rw [Ideal.exp_coe]; exact_mod_cast (Real.exp_pos r).le

/-- A score of minus infinity has weight nought. -/
theorem w_bot (s : Fin 256 → EReal) (sink : EReal) (j : Fin 256) (h : s j = ⊥) : wOf s sink j = 0 := by
  unfold wOf; rw [h, sub_eq_add_neg, EReal.bot_add, Ideal.exp_bot]

/-- A weight is not negative. -/
theorem w_nonneg (s : Fin 256 → EReal) (sink : EReal) (j : Fin 256) : 0 ≤ wOf s sink j := exp_nonneg _

/-- A denominator is not negative. -/
theorem den_nonneg (s : Fin 256 → EReal) (sink : EReal) : 0 ≤ denOf s sink :=
  add_nonneg (Finset.sum_nonneg fun j _ => w_nonneg s sink j) (exp_nonneg _)

/-- A square is not negative. -/
theorem sq_nonneg' (x : EReal) : 0 ≤ x * x := by
  induction x with
  | bot => simp
  | top => simp
  | coe r => exact_mod_cast mul_self_nonneg r

/-- One of nought and the two infinities. -/
def Corner (x : EReal) : Prop := x = 0 ∨ x = ⊥ ∨ x = ⊤

/-- A sum of two corners is a corner. -/
theorem corner_add {x y : EReal} (hx : Corner x) (hy : Corner y) : Corner (x + y) := by
  unfold Corner at *
  rcases hx with rfl | rfl | rfl <;> rcases hy with rfl | rfl | rfl <;> simp

/-- A finite sum of corners is a corner. -/
theorem corner_sum {ι : Type} (s : Finset ι) (f : ι → EReal) (h : ∀ i, Corner (f i)) : Corner (∑ i ∈ s, f i) := by
  classical
  induction s using Finset.induction_on with
  | empty => simp [Corner]
  | insert a s ha ih => rw [Finset.sum_insert ha]; exact corner_add (h a) ih

/-- Anything times minus infinity is a corner. -/
theorem corner_mul_bot (x : EReal) : Corner (x * ⊥) := by
  unfold Corner
  induction x with
  | bot => simp
  | top => simp
  | coe r =>
    rcases lt_trichotomy r 0 with h | h | h
    · rw [EReal.coe_mul_bot_of_neg h]; simp
    · subst h; simp
    · rw [EReal.coe_mul_bot_of_pos h]; simp

/-- A row of corners is divided to nought. -/
theorem nrm_corner (o : Fin 64 → EReal) (h : ∀ x, Corner (o x)) (d : Fin 64) : nrm o d = 0 := by
  unfold nrm
  by_cases h0 : o d = 0
  · rw [h0, zero_mul]
  · have hsq : o d * o d = ⊤ := by
      rcases h d with h | h | h
      · exact absurd h h0
      · rw [h]; simp
      · rw [h]; simp
    have hs : ∑ x, o x * o x = ⊤ := by
      rw [← Finset.add_sum_erase _ _ (Finset.mem_univ d), hsq]
      refine EReal.top_add_of_ne_bot (ne_of_gt (lt_of_lt_of_le EReal.bot_lt_zero (Finset.sum_nonneg fun x _ => sq_nonneg' _)))
    rw [hs, sixtyfour, Ideal.div_coe (by norm_num), EReal.top_mul_coe_of_pos (by norm_num),
      EReal.top_add_of_ne_bot eps_ne, Ideal.rsqrt_top, mul_zero]

/-- A positive real factor goes into a sum. -/
theorem sum_mul_pos {ι : Type} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (by exact_mod_cast hc) (EReal.coe_ne_top c) _ _

/-- Dividing late or early gives the same normalised row, values counting only where the score is more than minus
    infinity. -/
theorem late_early (s : Fin 256 → EReal) (sink : EReal) (v v' : Fin 256 → Fin 64 → EReal)
    (h : ∀ j, s j ≠ ⊥ → ∀ d, v j d = v' j d) (d : Fin 64) :
    nrm (outLate s sink v) d = nrm (outEarly s sink v') d := by
  have hterm : ∀ j d, wOf s sink j * v j d = v' j d * wOf s sink j := fun j d => by
    by_cases hj : s j = ⊥
    · rw [w_bot s sink j hj, zero_mul, mul_zero]
    · rw [h j hj d, mul_comm]
  have hden := den_nonneg s sink
  by_cases h0 : denOf s sink = 0
  · have hw : ∀ j, wOf s sink j = 0 := by
      have hs : ∑ j, wOf s sink j = 0 := by
        refine le_antisymm ?_ (Finset.sum_nonneg fun j _ => w_nonneg s sink j)
        rw [← h0]
        exact le_add_of_nonneg_right (exp_nonneg _)
      intro j
      exact (Finset.sum_eq_zero_iff_of_nonneg fun j _ => w_nonneg s sink j).1 hs j (Finset.mem_univ j)
    rw [nrm_corner _ fun x => ?_, nrm_corner _ fun x => ?_]
    · refine corner_sum _ _ fun j => ?_
      rw [hw j, h0]
      have : Ideal.div 0 0 = ⊥ := by simp [Ideal.div]
      rw [this]
      exact corner_mul_bot _
    · unfold outLate
      rw [h0]
      refine Or.inr ?_
      unfold Ideal.div
      rw [if_pos rfl]
      split
      · exact Or.inr rfl
      · exact Or.inl rfl
  · suffices outLate s sink v = outEarly s sink v' by rw [this]
    funext d
    unfold outLate outEarly
    by_cases ht : denOf s sink = ⊤
    · rw [ht]
      simp [Ideal.div]
    · obtain ⟨r, hr⟩ : ∃ r : ℝ, denOf s sink = (r : EReal) :=
        ⟨(denOf s sink).toReal, (EReal.coe_toReal ht (ne_of_gt (lt_of_lt_of_le EReal.bot_lt_zero hden))).symm⟩
      rw [hr] at h0 hden ⊢
      have hr0 : r ≠ 0 := fun hh => h0 (by rw [hh]; rfl)
      have hrn : 0 ≤ r := by exact_mod_cast hden
      rw [Ideal.div_coe hr0, sum_mul_pos _ _ _ (by positivity)]
      refine Finset.sum_congr rfl fun j _ => ?_
      rw [Ideal.div_coe hr0, hterm, mul_assoc]

end Cert.AttnCore

end
-- ==== Proof.Attn.Heads.lean ====
module

public import proofs.«01_k».proof.Proof.Attn.Unit
public import proofs.«01_k».proof.Proof.Attn.Core

@[expose] public section

set_option maxRecDepth 16384

noncomputable section

namespace Cert.KernelIdeal.Attn

open Cert.KernelIdeal Cert.KernelIdeal.Gen Idealize.ShloMosaic Idealize.ShloMosaic.TcCoe Idealize.SL.Sem Cert.AttnCore

/-- A masked score of the kernel. -/
theorem scores_at (mask : IVec S128x256 1) (slope : Elt Ideal .f32) (q : FVec Ideal S128x64 .bf16) (k : FVec Ideal S256x64 .bf16)
    (r : Fin 128) (j : Fin 256) : scores mask slope q k (ix2 r j) = Scalar.select (mask (ix2 r j))
      ((∑ x : Fin 64, q (ix2 r x) * k (ix2 j x)) * Ideal.ofBits .f32 1040187392#32
        - slope * FloatOps.sitofp (F := Ideal) .f32 (IntOp.subi (IntOp.addi (BitVec.ofNat 32 r.val) 128#32) (BitVec.ofNat 32 j.val)))
      (Ideal.ofBits .f32 4286578688#32) := by
  pointwise [scores, k0_pay7, k0_pay4]

/-- A row's top is the largest of its scores and the sink. -/
theorem top_at (sink : Elt Ideal .f32) (s : FVec Ideal S128x256 .f32) (r : Fin 128) (u : Fin 1) :
    top sink s (ix2 r u) = topOf (fun j => s (ix2 r j)) sink := by
  pointwise [top]
  rfl

/-- A key's weight is the exponential of its score less the row's top. -/
theorem weights_at (sink : Elt Ideal .f32) (s : FVec Ideal S128x256 .f32) (r : Fin 128) (j : Fin 256) :
    weights s (top sink s) (ix2 r j) = wOf (fun j => s (ix2 r j)) sink j := by
  have h : weights s (top sink s) (ix2 r j) = Ideal.exp (s (ix2 r j) - top sink s (ix2 r 0)) := by
    generalize top sink s = t
    pointwise [weights]
  rw [h, top_at]
  rfl

/-- A row's denominator is the sum of its weights and the sink's. -/
theorem denom_at (sink : Elt Ideal .f32) (s : FVec Ideal S128x256 .f32) (r : Fin 128) (u : Fin 1) :
    denom sink (top sink s) (weights s (top sink s)) (ix2 r u) = denOf (fun j => s (ix2 r j)) sink := by
  have h : ∀ t p, denom sink t p (ix2 r u) = ∑ x : Fin 256, p (ix2 r x) + Ideal.exp (sink - t (ix2 r u)) := fun t p => by
    pointwise [denom]
  rw [h, top_at]
  refine congrArg (fun z : EReal => z + _) (Finset.sum_congr rfl fun j _ => weights_at sink s r j)

/-- A row's mixture is the weighted sum of the values, divided by the denominator afterwards. -/
theorem mixed_at (sink : Elt Ideal .f32) (s : FVec Ideal S128x256 .f32) (v : FVec Ideal S256x64 .bf16) (r : Fin 128) (d : Fin 64) :
    mixed (weights s (top sink s)) v (denom sink (top sink s) (weights s (top sink s))) (ix2 r d)
      = outLate (fun j => s (ix2 r j)) sink (fun j d => v (ix2 j d)) d := by
  have h : ∀ p e, mixed p v e (ix2 r d) = Ideal.div (∑ x : Fin 256, p (ix2 r x) * v (ix2 x d)) (e (ix2 r 0)) := fun p e => by
    pointwise [mixed]
  rw [h, denom_at]
  refine congrArg (fun z : EReal => Ideal.div z _) (Finset.sum_congr rfl fun j _ => ?_)
  rw [weights_at]

/-- A row's norm is taken over its own 64 numbers. -/
theorem normed_at (o : FVec Ideal S128x64 .f32) (r : Fin 128) (d : Fin 64) :
    normed o (ix2 r d) = nrm (fun d => o (ix2 r d)) d := by
  pointwise [normed]
  rfl

/-- One number of a head. -/
theorem head_at (mask : IVec S128x256 1) (slope sink : Elt Ideal .f32) (q : FVec Ideal S128x64 .bf16) (k v : FVec Ideal S256x64 .bf16)
    (r : Fin 128) (d : Fin 64) : head mask slope sink q k v (ix2 r d)
      = nrm (outLate (fun j => scores mask slope q k (ix2 r j)) sink (fun j d => v (ix2 j d))) d := by
  unfold head
  rw [normed_at]
  refine congrArg (fun o => nrm o d) (funext fun x => mixed_at sink _ v r x)

end Cert.KernelIdeal.Attn

end
-- ==== Proof.Attn.Ref.lean ====
module

public import proofs.«01_k».proof.Proof.Gen.ReferenceIdeal.Read
public import Idealize.ShloMosaic.Lib.Pipeline.ValueKit
public import proofs.«01_k».proof.Proof.Attn.Core

@[expose] public section

set_option maxRecDepth 16384

noncomputable section

namespace Cert.ReferenceIdeal.Attn

open Cert.ReferenceIdeal Cert.ReferenceIdeal.Gen Cert.ReferenceIdeal.Read Idealize.ShloMosaic Idealize.ShloMosaic.TcCoe Idealize.SL.Sem
open Idealize.ShloMosaic.StableHlo Cert.AttnCore

/-- Two index tuples of two places that agree at each place are equal. -/
theorem ext2 {n0 n1 : Nat} {i j : (⟨2, ![n0, n1]⟩ : Shape).Idx} (h0 : (i 0).val = (j 0).val)
    (h1 : (i 1).val = (j 1).val) : i = j := funext fun a => match a with | ⟨0, _⟩ => Fin.ext h0 | ⟨1, _⟩ => Fin.ext h1
/-- Two index tuples of three places that agree at each place are equal. -/
theorem ext3 {n0 n1 n2 : Nat} {i j : (⟨3, ![n0, n1, n2]⟩ : Shape).Idx} (h0 : (i 0).val = (j 0).val)
    (h1 : (i 1).val = (j 1).val) (h2 : (i 2).val = (j 2).val) : i = j :=
  funext fun a => match a with | ⟨0, _⟩ => Fin.ext h0 | ⟨1, _⟩ => Fin.ext h1 | ⟨2, _⟩ => Fin.ext h2
/-- Two index tuples of four places that agree at each place are equal. -/
theorem ext4 {n0 n1 n2 n3 : Nat} {i j : (⟨4, ![n0, n1, n2, n3]⟩ : Shape).Idx} (h0 : (i 0).val = (j 0).val)
    (h1 : (i 1).val = (j 1).val) (h2 : (i 2).val = (j 2).val) (h3 : (i 3).val = (j 3).val) : i = j :=
  funext fun a => match a with | ⟨0, _⟩ => Fin.ext h0 | ⟨1, _⟩ => Fin.ext h1 | ⟨2, _⟩ => Fin.ext h2 | ⟨3, _⟩ => Fin.ext h3
/-- Two index tuples of five places that agree at each place are equal. -/
theorem ext5 {n0 n1 n2 n3 n4 : Nat} {i j : (⟨5, ![n0, n1, n2, n3, n4]⟩ : Shape).Idx} (h0 : (i 0).val = (j 0).val)
    (h1 : (i 1).val = (j 1).val) (h2 : (i 2).val = (j 2).val) (h3 : (i 3).val = (j 3).val) (h4 : (i 4).val = (j 4).val) :
    i = j :=
  funext fun a => match a with
    | ⟨0, _⟩ => Fin.ext h0 | ⟨1, _⟩ => Fin.ext h1 | ⟨2, _⟩ => Fin.ext h2 | ⟨3, _⟩ => Fin.ext h3 | ⟨4, _⟩ => Fin.ext h4

variable (x0 : FVec Ideal S16384x3072 .bf16) (x1 : FVec Ideal S32 .f32) (x2 : FVec Ideal S2048 .f32)

/-- The queries' numbers stand in the first 2048 columns. -/
theorem q_at (n r : Fin 128) (h : Fin 8) (g : Fin 4) (d : Fin 64) :
    val_main_v5 (F := Ideal) x0 (ix5 n r h g d)
      = x0 (ix2 ⟨n.val * 128 + r.val, by omega⟩ ⟨(h.val * 4 + g.val) * 64 + d.val, by omega⟩) := by
  rw [val_main_v5_apply, val_main_v2_apply, val_main_v1_apply, val_main_v0_apply]
  refine congrArg x0 (ext2 ?_ ?_)
  · show (((((((n.val * 128 + r.val) * 8 + h.val) * 4 + g.val) * 64 + d.val) / 8388608) * 4096 + (((((n.val * 128 + r.val) * 8 + h.val) * 4 + g.val) * 64 + d.val) / 2048 % 4096)) * 3072 + (((((n.val * 128 + r.val) * 8 + h.val) * 4 + g.val) * 64 + d.val) % 2048)) / 3072 = n.val * 128 + r.val
    omega
  · show (((((((n.val * 128 + r.val) * 8 + h.val) * 4 + g.val) * 64 + d.val) / 8388608) * 4096 + (((((n.val * 128 + r.val) * 8 + h.val) * 4 + g.val) * 64 + d.val) / 2048 % 4096)) * 3072 + (((((n.val * 128 + r.val) * 8 + h.val) * 4 + g.val) * 64 + d.val) % 2048)) % 3072 = (h.val * 4 + g.val) * 64 + d.val
    omega

/-- The keys before their padding stand in the 512 columns from 2048 on. -/
theorem k_raw (b : Fin 4) (w : Fin 4096) (h : Fin 8) (d : Fin 64) :
    val_main_v6 (F := Ideal) x0 (ix4 b w h d)
      = x0 (ix2 ⟨b.val * 4096 + w.val, by omega⟩ ⟨2048 + (h.val * 64 + d.val), by omega⟩) := by
  rw [val_main_v6_apply, val_main_v3_apply, val_main_v1_apply, val_main_v0_apply]
  refine congrArg x0 (ext2 ?_ ?_)
  · show (((((b.val * 4096 + w.val) * 8 + h.val) * 64 + d.val) / 2097152 * 4096 + (((b.val * 4096 + w.val) * 8 + h.val) * 64 + d.val) / 512 % 4096) * 3072 + (2048 + (((b.val * 4096 + w.val) * 8 + h.val) * 64 + d.val) % 512)) / 3072 = b.val * 4096 + w.val
    omega
  · show (((((b.val * 4096 + w.val) * 8 + h.val) * 64 + d.val) / 2097152 * 4096 + (((b.val * 4096 + w.val) * 8 + h.val) * 64 + d.val) / 512 % 4096) * 3072 + (2048 + (((b.val * 4096 + w.val) * 8 + h.val) * 64 + d.val) % 512)) % 3072 = 2048 + (h.val * 64 + d.val)
    omega

/-- The padded keys past the padding. -/
theorem k_pad (b : Fin 4) (c : Fin 33) (w : Fin 128) (h : Fin 8) (d : Fin 64) (hv : 128 ≤ c.val * 128 + w.val) :
    val_main_v8 (F := Ideal) x0 (ix5 b c w h d)
      = x0 (ix2 ⟨b.val * 4096 + (c.val * 128 + w.val - 128), by omega⟩ ⟨2048 + (h.val * 64 + d.val), by omega⟩) := by
  rw [val_main_v8_apply]
  refine (congrArg (val_main_v7 (F := Ideal) x0) (ext4 (j := ix4 b ⟨c.val * 128 + w.val, by omega⟩ h d) ?_ ?_ ?_ ?_)).trans ?_
  · show ((((b.val * 33 + c.val) * 128 + w.val) * 8 + h.val) * 64 + d.val) / 2162688 = b.val
    omega
  · show ((((b.val * 33 + c.val) * 128 + w.val) * 8 + h.val) * 64 + d.val) / 512 % 4224 = c.val * 128 + w.val
    omega
  · show ((((b.val * 33 + c.val) * 128 + w.val) * 8 + h.val) * 64 + d.val) / 64 % 8 = h.val
    omega
  · show ((((b.val * 33 + c.val) * 128 + w.val) * 8 + h.val) * 64 + d.val) % 64 = d.val
    omega
  · pointwise [val_main_v7]
    rw [dif_pos ⟨hv, by omega⟩]
    exact k_raw x0 b _ h d

/-- The keys of a block of queries: the block before it and its own, wherever they are not padding. -/
theorem k_at (n : Fin 128) (j : Fin 256) (h : Fin 8) (d : Fin 64) (hv : 128 ≤ n.val % 32 * 128 + j.val) :
    val_main_v12 (F := Ideal) x0 (ix4 n j h d)
      = x0 (ix2 ⟨n.val * 128 + j.val - 128, by omega⟩ ⟨2048 + (h.val * 64 + d.val), by omega⟩) := by
  rw [val_main_v12_apply]
  refine (congrArg (val_main_v11 (F := Ideal) x0)
    (ext5 (j := ix5 (⟨n.val / 32, by omega⟩ : Fin 4) (⟨n.val % 32, by omega⟩ : Fin 32) j h d) ?_ ?_ ?_ ?_ ?_)).trans ?_
  · show (((n.val * 256 + j.val) * 8 + h.val) * 64 + d.val) / 4194304 = n.val / 32
    omega
  · show (((n.val * 256 + j.val) * 8 + h.val) * 64 + d.val) / 131072 % 32 = n.val % 32
    omega
  · show (((n.val * 256 + j.val) * 8 + h.val) * 64 + d.val) / 512 % 256 = j.val
    omega
  · show (((n.val * 256 + j.val) * 8 + h.val) * 64 + d.val) / 64 % 8 = h.val
    omega
  · show (((n.val * 256 + j.val) * 8 + h.val) * 64 + d.val) % 64 = d.val
    omega
  · pointwise [val_main_v11]
    by_cases hj : j.val < 128
    · rw [dif_pos hj, val_main_v9_apply]
      have e : idx_main_v9 (ix5 (⟨n.val / 32, by omega⟩ : Fin 4) (⟨n.val % 32, by omega⟩ : Fin 32) (⟨j.val, hj⟩ : Fin 128) h d)
          = ix5 (⟨n.val / 32, by omega⟩ : Fin 4) (⟨n.val % 32, by omega⟩ : Fin 33) (⟨j.val, hj⟩ : Fin 128) h d :=
        ext5 rfl rfl rfl rfl rfl
      refine (congrArg (val_main_v8 (F := Ideal) x0) e).trans ?_
      rw [k_pad x0 (⟨n.val / 32, by omega⟩ : Fin 4) (⟨n.val % 32, by omega⟩ : Fin 33) (⟨j.val, hj⟩ : Fin 128) h d hv]
      refine congrArg x0 (ext2 ?_ ?_)
      · show n.val / 32 * 4096 + (n.val % 32 * 128 + j.val - 128) = n.val * 128 + j.val - 128
        omega
      · rfl
    · rw [dif_neg hj, val_main_v10_apply]
      have e : idx_main_v10 (ix5 (⟨n.val / 32, by omega⟩ : Fin 4) (⟨n.val % 32, by omega⟩ : Fin 32) (⟨j.val - 128, by omega⟩ : Fin 128) h d)
          = ix5 (⟨n.val / 32, by omega⟩ : Fin 4) (⟨1 + n.val % 32, by omega⟩ : Fin 33) (⟨j.val - 128, by omega⟩ : Fin 128) h d :=
        ext5 rfl rfl rfl rfl rfl
      refine (congrArg (val_main_v8 (F := Ideal) x0) e).trans ?_
      have hv' : 128 ≤ (⟨1 + n.val % 32, by omega⟩ : Fin 33).val * 128 + (⟨j.val - 128, by omega⟩ : Fin 128).val := by
        show 128 ≤ (1 + n.val % 32) * 128 + (j.val - 128)
        omega
      rw [k_pad x0 _ _ _ h d hv']
      refine congrArg x0 (ext2 ?_ ?_)
      · show n.val / 32 * 4096 + ((1 + n.val % 32) * 128 + (j.val - 128) - 128) = n.val * 128 + j.val - 128
        omega
      · rfl

/-- The values before their padding stand in the 512 columns from 2560 on. -/
theorem v_raw (b : Fin 4) (w : Fin 4096) (h : Fin 8) (d : Fin 64) :
    val_main_v13 (F := Ideal) x0 (ix4 b w h d)
      = x0 (ix2 ⟨b.val * 4096 + w.val, by omega⟩ ⟨2560 + (h.val * 64 + d.val), by omega⟩) := by
  rw [val_main_v13_apply, val_main_v4_apply, val_main_v1_apply, val_main_v0_apply]
  refine congrArg x0 (ext2 ?_ ?_)
  · show (((((b.val * 4096 + w.val) * 8 + h.val) * 64 + d.val) / 2097152 * 4096 + (((b.val * 4096 + w.val) * 8 + h.val) * 64 + d.val) / 512 % 4096) * 3072 + (2560 + (((b.val * 4096 + w.val) * 8 + h.val) * 64 + d.val) % 512)) / 3072 = b.val * 4096 + w.val
    omega
  · show (((((b.val * 4096 + w.val) * 8 + h.val) * 64 + d.val) / 2097152 * 4096 + (((b.val * 4096 + w.val) * 8 + h.val) * 64 + d.val) / 512 % 4096) * 3072 + (2560 + (((b.val * 4096 + w.val) * 8 + h.val) * 64 + d.val) % 512)) % 3072 = 2560 + (h.val * 64 + d.val)
    omega

/-- The padded values past the padding. -/
theorem v_pad (b : Fin 4) (c : Fin 33) (w : Fin 128) (h : Fin 8) (d : Fin 64) (hv : 128 ≤ c.val * 128 + w.val) :
    val_main_v15 (F := Ideal) x0 (ix5 b c w h d)
      = x0 (ix2 ⟨b.val * 4096 + (c.val * 128 + w.val - 128), by omega⟩ ⟨2560 + (h.val * 64 + d.val), by omega⟩) := by
  rw [val_main_v15_apply]
  refine (congrArg (val_main_v14 (F := Ideal) x0) (ext4 (j := ix4 b ⟨c.val * 128 + w.val, by omega⟩ h d) ?_ ?_ ?_ ?_)).trans ?_
  · show ((((b.val * 33 + c.val) * 128 + w.val) * 8 + h.val) * 64 + d.val) / 2162688 = b.val
    omega
  · show ((((b.val * 33 + c.val) * 128 + w.val) * 8 + h.val) * 64 + d.val) / 512 % 4224 = c.val * 128 + w.val
    omega
  · show ((((b.val * 33 + c.val) * 128 + w.val) * 8 + h.val) * 64 + d.val) / 64 % 8 = h.val
    omega
  · show ((((b.val * 33 + c.val) * 128 + w.val) * 8 + h.val) * 64 + d.val) % 64 = d.val
    omega
  · pointwise [val_main_v14]
    rw [dif_pos ⟨hv, by omega⟩]
    exact v_raw x0 b _ h d

/-- The values of a block of queries: the block before it and its own, wherever they are not padding. -/
theorem v_at (n : Fin 128) (j : Fin 256) (h : Fin 8) (d : Fin 64) (hv : 128 ≤ n.val % 32 * 128 + j.val) :
    val_main_v19 (F := Ideal) x0 (ix4 n j h d)
      = x0 (ix2 ⟨n.val * 128 + j.val - 128, by omega⟩ ⟨2560 + (h.val * 64 + d.val), by omega⟩) := by
  rw [val_main_v19_apply]
  refine (congrArg (val_main_v18 (F := Ideal) x0)
    (ext5 (j := ix5 (⟨n.val / 32, by omega⟩ : Fin 4) (⟨n.val % 32, by omega⟩ : Fin 32) j h d) ?_ ?_ ?_ ?_ ?_)).trans ?_
  · show (((n.val * 256 + j.val) * 8 + h.val) * 64 + d.val) / 4194304 = n.val / 32
    omega
  · show (((n.val * 256 + j.val) * 8 + h.val) * 64 + d.val) / 131072 % 32 = n.val % 32
    omega
  · show (((n.val * 256 + j.val) * 8 + h.val) * 64 + d.val) / 512 % 256 = j.val
    omega
  · show (((n.val * 256 + j.val) * 8 + h.val) * 64 + d.val) / 64 % 8 = h.val
    omega
  · show (((n.val * 256 + j.val) * 8 + h.val) * 64 + d.val) % 64 = d.val
    omega
  · pointwise [val_main_v18]
    by_cases hj : j.val < 128
    · rw [dif_pos hj, val_main_v16_apply]
      have e : idx_main_v16 (ix5 (⟨n.val / 32, by omega⟩ : Fin 4) (⟨n.val % 32, by omega⟩ : Fin 32) (⟨j.val, hj⟩ : Fin 128) h d)
          = ix5 (⟨n.val / 32, by omega⟩ : Fin 4) (⟨n.val % 32, by omega⟩ : Fin 33) (⟨j.val, hj⟩ : Fin 128) h d :=
        ext5 rfl rfl rfl rfl rfl
      refine (congrArg (val_main_v15 (F := Ideal) x0) e).trans ?_
      rw [v_pad x0 (⟨n.val / 32, by omega⟩ : Fin 4) (⟨n.val % 32, by omega⟩ : Fin 33) (⟨j.val, hj⟩ : Fin 128) h d hv]
      refine congrArg x0 (ext2 ?_ ?_)
      · show n.val / 32 * 4096 + (n.val % 32 * 128 + j.val - 128) = n.val * 128 + j.val - 128
        omega
      · rfl
    · rw [dif_neg hj, val_main_v17_apply]
      have e : idx_main_v17 (ix5 (⟨n.val / 32, by omega⟩ : Fin 4) (⟨n.val % 32, by omega⟩ : Fin 32) (⟨j.val - 128, by omega⟩ : Fin 128) h d)
          = ix5 (⟨n.val / 32, by omega⟩ : Fin 4) (⟨1 + n.val % 32, by omega⟩ : Fin 33) (⟨j.val - 128, by omega⟩ : Fin 128) h d :=
        ext5 rfl rfl rfl rfl rfl
      refine (congrArg (val_main_v15 (F := Ideal) x0) e).trans ?_
      have hv' : 128 ≤ (⟨1 + n.val % 32, by omega⟩ : Fin 33).val * 128 + (⟨j.val - 128, by omega⟩ : Fin 128).val := by
        show 128 ≤ (1 + n.val % 32) * 128 + (j.val - 128)
        omega
      rw [v_pad x0 _ _ _ h d hv']
      refine congrArg x0 (ext2 ?_ ?_)
      · show n.val / 32 * 4096 + ((1 + n.val % 32) * 128 + (j.val - 128) - 128) = n.val * 128 + j.val - 128
        omega
      · rfl

/-- A query's distance from a key, as a word. -/
def dist (r : Fin 128) (j : Fin 256) : BitVec 32 :=
  IntOp.subi (IntOp.addi (BitVec.ofNat 32 r.val) 128#32) (BitVec.ofNat 32 j.val)

/-- A key within the window. -/
def near (r : Fin 128) (j : Fin 256) : BitVec 1 :=
  IntOp.andi (IntOp.cmpi .sge (dist r j) 0#32) (IntOp.cmpi .slt (dist r j) 128#32)

/-- A key not before its sequence's beginning. -/
def begun (b : Nat) (j : Fin 256) : BitVec 1 :=
  IntOp.cmpi .sge (IntOp.addi (IntOp.subi (IntOp.muli (BitVec.ofNat 32 b) 128#32) 128#32) (BitVec.ofNat 32 j.val)) 0#32

/-- The mask at a block, a query and a key. -/
theorem valid_at (n r : Fin 128) (j : Fin 256) :
    val_main_v71 (F := Ideal) (ix5 n (0 : Fin 1) (0 : Fin 1) r j) = IntOp.andi (near r j) (begun (n.val % 32) j) := by
  rw [val_main_v71_apply]
  refine (congrArg (val_main_v70 (F := Ideal))
    (ext4 (j := ix4 (⟨n.val / 32, by omega⟩ : Fin 4) (⟨n.val % 32, by omega⟩ : Fin 32) r j) ?_ ?_ ?_ ?_)).trans ?_
  · show ((((n.val * 1 + 0) * 1 + 0) * 128 + r.val) * 256 + j.val) / 1048576 = n.val / 32
    omega
  · show ((((n.val * 1 + 0) * 1 + 0) * 128 + r.val) * 256 + j.val) / 32768 % 32 = n.val % 32
    omega
  · show ((((n.val * 1 + 0) * 1 + 0) * 128 + r.val) * 256 + j.val) / 256 % 128 = r.val
    omega
  · show ((((n.val * 1 + 0) * 1 + 0) * 128 + r.val) * 256 + j.val) % 256 = j.val
    omega
  · rw [val_main_v70_apply, val_main_v69_apply, val_main_v67_apply, val_main_v66_apply, val_main_v68_apply,
      val_main_v65_apply, val_main_v33_apply, val_main_v30_apply, val_main_v32_apply, val_main_v28_apply, val_main_v63_apply]
    rfl

/-- The slope's part of a score. -/
theorem alibi_at (h : Fin 8) (g : Fin 4) (r : Fin 128) (j : Fin 256) :
    val_main_v51 (F := Ideal) (ix4 h g r j)
      = -(val_main_v43 (F := Ideal) (ix1 ⟨h.val * 4 + g.val, by omega⟩)) * FloatOps.sitofp (F := Ideal) .f32 (dist r j) := by
  rw [val_main_v51_apply, val_main_v49_apply, val_main_v46_apply, val_main_v45_apply, val_main_v44_apply,
    val_main_v50_apply, val_main_v48_apply, val_main_v47_apply]
  refine congrArg₂ (fun a b : EReal => -a * b) (congrArg (val_main_v43 (F := Ideal)) ?_) ?_
  · funext a
    match a with
    | ⟨0, _⟩ => rfl
  · rw [val_main_v28_apply]
    rfl

/-- The sink of a head. -/
theorem sink_at (h : Fin 8) (g : Fin 4) :
    val_main_v53 (F := Ideal) x1 (ix4 (0 : Fin 1) h g (0 : Fin 1)) = x1 (ix1 ⟨h.val * 4 + g.val, by omega⟩) := by
  rw [val_main_v53_apply, val_main_v52_apply]
  refine congrArg x1 ?_
  funext a
  match a with
  | ⟨0, _⟩ => rfl

/-- A masked score of the reference. -/
theorem score_at (n : Fin 128) (h : Fin 8) (g : Fin 4) (r : Fin 128) (j : Fin 256) :
    val_main_v79 (F := Ideal) x0 (ix5 n h g r j)
      = Scalar.select (IntOp.andi (near r j) (begun (n.val % 32) j))
          ((∑ x : Fin 64, val_main_v12 (F := Ideal) x0 (ix4 n j h x) * val_main_v5 (F := Ideal) x0 (ix5 n r h g x))
              * Ideal.ofBits .f32 1040187392#32
            + -(val_main_v43 (F := Ideal) (ix1 ⟨h.val * 4 + g.val, by omega⟩)) * FloatOps.sitofp (F := Ideal) .f32 (dist r j))
          (Ideal.ofBits .f32 4286578688#32) := by
  rw [val_main_v79_apply, val_main_call2_v1_apply, val_main_v78_apply, val_main_v75_apply, val_main_v73_apply,
    val_main_v72_apply, val_main_v77_apply, val_main_v76_apply]
  have e1 : idx_main_call2_v1 (ix5 n h g r j) = ix5 n (0 : Fin 1) (0 : Fin 1) r j := ext5 rfl rfl rfl rfl rfl
  have e2 : idx_main_v76 (idx_main_v77 (ix5 n h g r j)) = ix4 h g r j := ext4 rfl rfl rfl rfl
  rw [e1, valid_at, e2, alibi_at]
  refine congrArg (fun z : EReal => Scalar.select (IntOp.andi (near r j) (begun (n.val % 32) j)) (z * _ + _) _)
    (Finset.sum_congr rfl fun x _ => congrArg₂ (fun a b : EReal => a * b)
      (congrArg (val_main_v12 (F := Ideal) x0) (ext4 rfl rfl rfl rfl))
      (congrArg (val_main_v5 (F := Ideal) x0) (ext5 rfl rfl rfl rfl rfl)))

/-- The largest score of a query. -/
theorem top_at (n : Fin 128) (h : Fin 8) (g : Fin 4) (r : Fin 128) :
    val_main_v82 (F := Ideal) x0 x1 (ix4 n h g r)
      = topOf (fun j => val_main_v79 (F := Ideal) x0 (ix5 n h g r j)) (x1 (ix1 ⟨h.val * 4 + g.val, by omega⟩)) := by
  rw [val_main_v82_apply, val_main_v81_apply, ← sink_at x1 h g]
  refine congrArg₂ (fun a b : EReal => max a b) ?_ (congrArg (val_main_v53 (F := Ideal) x1) (ext4 rfl rfl rfl rfl))
  pointwise [val_main_v80]
  rfl

/-- The weight of a key. -/
theorem weight_at (n : Fin 128) (h : Fin 8) (g : Fin 4) (r : Fin 128) (j : Fin 256) :
    val_main_v86 (F := Ideal) x0 x1 (ix5 n h g r j)
      = wOf (fun j => val_main_v79 (F := Ideal) x0 (ix5 n h g r j)) (x1 (ix1 ⟨h.val * 4 + g.val, by omega⟩)) j := by
  rw [val_main_v86_apply, val_main_v85_apply, val_main_v84_apply, val_main_v83_apply]
  have e : idx_main_v83 (idx_main_v84 (ix5 n h g r j)) = ix4 n h g r := ext4 rfl rfl rfl rfl
  rw [e, top_at]
  rfl

/-- The denominator of a query. -/
theorem den_at (n : Fin 128) (h : Fin 8) (g : Fin 4) (r : Fin 128) :
    val_main_v91 (F := Ideal) x0 x1 (ix4 n h g r)
      = denOf (fun j => val_main_v79 (F := Ideal) x0 (ix5 n h g r j)) (x1 (ix1 ⟨h.val * 4 + g.val, by omega⟩)) := by
  rw [val_main_v91_apply, val_main_v87_apply, val_main_v90_apply, val_main_v89_apply, val_main_v88_apply, top_at,
    val_main_cst_13_apply, Ideal.ofBits_def, zero32, zero_add]
  have e : idx_main_v88 (ix4 n h g r) = ix4 (0 : Fin 1) h g (0 : Fin 1) := ext4 rfl rfl rfl rfl
  rw [e, sink_at]
  refine congrArg (fun z : EReal => z + _) (Finset.sum_congr rfl fun j _ => ?_)
  have e' : idx_main_v87 (ix4 n h g r) j = ix5 n h g r j := ext5 rfl rfl rfl rfl rfl
  rw [e', weight_at]

/-- One number of a head's output. -/
theorem out_at (n r : Fin 128) (h : Fin 8) (g : Fin 4) (d : Fin 64) :
    val_main_v97 (F := Ideal) x0 x1 (ix3 (⟨n.val * 128 + r.val, by omega⟩ : Fin 16384) (⟨h.val * 4 + g.val, by omega⟩ : Fin 32) d)
      = outEarly (fun j => val_main_v79 (F := Ideal) x0 (ix5 n h g r j)) (x1 (ix1 ⟨h.val * 4 + g.val, by omega⟩))
          (fun j d => val_main_v19 (F := Ideal) x0 (ix4 n j h d)) d := by
  rw [val_main_v97_apply]
  refine (congrArg (val_main_v96 (F := Ideal) x0 x1) (ext5 (j := ix5 n r h g d) ?_ ?_ ?_ ?_ ?_)).trans ?_
  · show (((n.val * 128 + r.val) * 32 + (h.val * 4 + g.val)) * 64 + d.val) / 262144 = n.val
    omega
  · show (((n.val * 128 + r.val) * 32 + (h.val * 4 + g.val)) * 64 + d.val) / 2048 % 128 = r.val
    omega
  · show (((n.val * 128 + r.val) * 32 + (h.val * 4 + g.val)) * 64 + d.val) / 256 % 8 = h.val
    omega
  · show (((n.val * 128 + r.val) * 32 + (h.val * 4 + g.val)) * 64 + d.val) / 64 % 4 = g.val
    omega
  · show (((n.val * 128 + r.val) * 32 + (h.val * 4 + g.val)) * 64 + d.val) % 64 = d.val
    omega
  rw [val_main_v96_apply, val_main_v95_apply]
  unfold outEarly
  refine Finset.sum_congr rfl fun j _ => congrArg₂ (fun a b : EReal => a * b)
    ?_ ?_
  · have e : lidx_main_v95 (idx_main_v96 (ix5 n r h g d)) j = ix4 n j h d := ext4 rfl rfl rfl rfl
    rw [e]
  have e' : ridx_main_v95 (idx_main_v96 (ix5 n r h g d)) j = ix5 n h g r j := ext5 rfl rfl rfl rfl rfl
  rw [e', val_main_v94_apply, val_main_v93_apply, val_main_v92_apply, weight_at]
  have e : idx_main_v92 (idx_main_v93 (ix5 n h g r j)) = ix4 n h g r := ext4 rfl rfl rfl rfl
  rw [e, den_at, Ideal.hostDivf_def]

/-- One number of the first result. -/
theorem result_at (n r : Fin 128) (h : Fin 8) (g : Fin 4) (d : Fin 64) :
    val_main_v112 (F := Ideal) x0 x1 x2 (ix2 (⟨n.val * 128 + r.val, by omega⟩ : Fin 16384) (⟨(h.val * 4 + g.val) * 64 + d.val, by omega⟩ : Fin 2048))
      = nrm (outEarly (fun j => val_main_v79 (F := Ideal) x0 (ix5 n h g r j)) (x1 (ix1 ⟨h.val * 4 + g.val, by omega⟩))
          (fun j d => val_main_v19 (F := Ideal) x0 (ix4 n j h d))) d * x2 (ix1 ⟨(h.val * 4 + g.val) * 64 + d.val, by omega⟩) := by
  rw [val_main_v112_apply, val_main_v111_apply, val_main_v110_apply, val_main_v109_apply, val_main_v108_apply]
  have e : idx_main_v108 (ix2 (⟨n.val * 128 + r.val, by omega⟩ : Fin 16384) (⟨(h.val * 4 + g.val) * 64 + d.val, by omega⟩ : Fin 2048))
      = ix3 (⟨n.val * 128 + r.val, by omega⟩ : Fin 16384) (⟨h.val * 4 + g.val, by omega⟩ : Fin 32) d := ext3
    (by show ((n.val * 128 + r.val) * 2048 + ((h.val * 4 + g.val) * 64 + d.val)) / 2048 = n.val * 128 + r.val; omega)
    (by show ((n.val * 128 + r.val) * 2048 + ((h.val * 4 + g.val) * 64 + d.val)) / 64 % 32 = h.val * 4 + g.val; omega)
    (by show ((n.val * 128 + r.val) * 2048 + ((h.val * 4 + g.val) * 64 + d.val)) % 64 = d.val; omega)
  rw [e, val_main_v107_apply, val_main_v106_apply, val_main_v105_apply, val_main_v104_apply, val_main_v103_apply,
    val_main_v102_apply, val_main_v101_apply, val_main_v100_apply, val_main_v99_apply, out_at, val_main_cst_14_apply,
    Ideal.ofBits_def, zero32, zero_add]
  refine congrArg₂ (fun a b : EReal => a * b) (congrArg₂ (fun a b : EReal => a * b) rfl (congrArg (fun z : EReal =>
    Ideal.rsqrt (Ideal.div z _ + _)) (Finset.sum_congr rfl fun x _ => ?_))) (congrArg x2 ?_)
  · rw [val_main_v98_apply]
    refine (congrArg (fun i => val_main_v97 (F := Ideal) x0 x1 i * val_main_v97 (F := Ideal) x0 x1 i)
      (ext3 (j := ix3 (⟨n.val * 128 + r.val, by omega⟩ : Fin 16384) (⟨h.val * 4 + g.val, by omega⟩ : Fin 32) x) rfl rfl rfl)).trans ?_
    rw [out_at]
  · funext a
    match a with
    | ⟨0, _⟩ => rfl

end Cert.ReferenceIdeal.Attn

end
-- ==== Proof.Attn.Join.lean ====
module

public import proofs.«01_k».proof.Proof.Attn.Reads
public import proofs.«01_k».proof.Proof.Attn.Heads
public import proofs.«01_k».proof.Proof.Attn.Ref

@[expose] public section

set_option maxRecDepth 16384

noncomputable section

namespace Cert.KernelIdeal.Attn

open Cert.KernelIdeal Cert.KernelIdeal.Gen Idealize.ShloMosaic Idealize.ShloMosaic.TcCoe Idealize.SL.Sem Cert.AttnCore
open Cert.ReferenceIdeal.Read Cert.ReferenceIdeal.Attn

variable (m : (ℓ : Loc nD τ sig) → Buf (Elt Ideal) ℓ)

/-- The queries', keys' and values' array. -/
abbrev Qkv (c : Dev nD) : FVec Ideal S16384x3072 .bf16 := m ((c : Thread nD τ).loc main_arg0)

/-- The block of 128 queries a half of a grid point's block is. -/
def nOf (t : Fin cfg0.N) (s : Fin 2) : Fin 128 :=
  ⟨((grid0.coords t 0).val * 16 + (grid0.coords t 2).val) * 2 + s.val, by
    have := b_lt t; have := i_lt t; omega⟩

/-- The keys' and values' head of one of a grid point's eight heads. -/
def hOf (t : Fin cfg0.N) (hl : Fin 8) : Fin 8 := ⟨2 * (grid0.coords t 1).val + hl.val / 4, by have := p_lt t; omega⟩

/-- A head's place among the four of its keys' head. -/
def gOf (hl : Fin 8) : Fin 4 := ⟨hl.val % 4, by omega⟩

/-- A key that has begun is past the padding. -/
theorem begun_pos : ∀ (b : Fin 32) (j : Fin 256), begun b.val j = 1 → 128 ≤ b.val * 128 + j.val := by decide +kernel

/-- The first half's mask is the reference's. -/
theorem begun_even : ∀ (i : Fin 16) (j : Fin 256), IntOp.ori (IntOp.cmpi .sge (BitVec.ofNat 32 j.val) 128#32)
    (Scalar.cmpi .sgt (BitVec.ofNat 32 i.val) 0#32) = begun (i.val * 2) j := by decide +kernel

/-- In the second half no key is before the beginning. -/
theorem begun_odd : ∀ (i : Fin 16) (j : Fin 256), begun (i.val * 2 + 1) j = 1 := by decide +kernel

/-- A bit and one is the bit. -/
theorem and_one : ∀ a : BitVec 1, IntOp.andi a 1 = a := by decide
/-- If two bits together are one, the second is one. -/
theorem right_of_and : ∀ a b : BitVec 1, IntOp.andi a b = 1 → b = 1 := by decide

/-- The block number inside its sequence is twice the step's third coordinate, plus the half. -/
theorem nOf_mod (t : Fin cfg0.N) (s : Fin 2) : (nOf t s).val % 32 = (grid0.coords t 2).val * 2 + s.val := by
  have := b_lt t; have := i_lt t
  show (((grid0.coords t 0).val * 16 + (grid0.coords t 2).val) * 2 + s.val) % 32 = _
  omega

/-- The first half's mask admits the keys that are near and not before the beginning. -/
theorem mask_even (t : Fin cfg0.N) (r : Fin 128) (j : Fin 256) :
    k0_pay6 (grid0.coords t) (ix2 r j) = IntOp.andi (near r j) (begun ((nOf t 0).val % 32) j) := by
  rw [nOf_mod]
  have h : k0_pay6 (grid0.coords t) (ix2 r j) = IntOp.andi (near r j)
      (IntOp.ori (IntOp.cmpi .sge (BitVec.ofNat 32 j.val) 128#32) (Scalar.cmpi .sgt (BitVec.ofNat 32 (grid0.coords t 2).val) 0#32)) := by
    pointwise [k0_pay6, k0_pay5, k0_pay4]
    rfl
  rw [h]
  exact congrArg (IntOp.andi (near r j)) (begun_even ⟨(grid0.coords t 2).val, i_lt t⟩ j)

/-- The second half's mask admits the keys that are near and not before the beginning. -/
theorem mask_odd (t : Fin cfg0.N) (r : Fin 128) (j : Fin 256) :
    k0_pay5 (ix2 r j) = IntOp.andi (near r j) (begun ((nOf t 1).val % 32) j) := by
  rw [nOf_mod]
  have h : k0_pay5 (ix2 r j) = near r j := by
    pointwise [k0_pay5, k0_pay4]
    rfl
  have e := begun_odd ⟨(grid0.coords t 2).val, i_lt t⟩ j
  rw [h]
  exact ((congrArg (IntOp.andi (near r j)) e).trans (and_one _)).symm

/-- The slopes the kernel's host code makes are the reference's. -/
theorem slopes (c : Dev nD) : V m c main_v10 = val_main_v43 (F := Ideal) := rfl

/-- A query's number in its block. -/
theorem q_read (c : Dev nD) (t : Fin cfg0.N) (s : Fin 2) (hl : Fin 8) (a b : Nat) (ha : a = 128 * s.val) (hb : b = 64 * hl.val)
    (hq : ∀ x, (![a, b] : Fin 2 → Nat) x + S128x64.size x ≤ S256x512.size x) (r : Fin 128) (d : Fin 64) :
    View.ld (iblk m c 2 t) (Rect.unit (s := S256x512) ![a, b] ![128, 64] hq) (ix2 r d)
      = val_main_v5 (F := Ideal) (Qkv m c) (ix5 (nOf t s) r (hOf t hl) (gOf hl) d) := by
  have := b_lt t; have := i_lt t; have := p_lt t
  rw [q_at]
  show iblk m c 2 t _ = _
  refine (congrArg (iblk m c 2 t) (ext2 (j := ix2 ⟨128 * s.val + r.val, by omega⟩ ⟨64 * hl.val + d.val, by omega⟩) ?_ ?_)).trans
    (blk2 m c t _ _ _ _ ?_ ?_)
  · show a + 1 * r.val = 128 * s.val + r.val
    omega
  · show b + 1 * d.val = 64 * hl.val + d.val
    omega
  · show (((grid0.coords t 0).val * 16 + (grid0.coords t 2).val) * 2 + s.val) * 128 + r.val
      = ((grid0.coords t 0).val * 16 + (grid0.coords t 2).val) * 256 + (128 * s.val + r.val)
    omega
  · show ((2 * (grid0.coords t 1).val + hl.val / 4) * 4 + hl.val % 4) * 64 + d.val
      = (grid0.coords t 1).val * 512 + (64 * hl.val + d.val)
    omega

/-- A key's number in its block, wherever it is not padding. -/
theorem k_read (c : Dev nD) (t : Fin cfg0.N) (s : Fin 2) (hl : Fin 8) (a e : Nat) (ha : a = 128 * s.val) (he : e = 64 * (hl.val / 4))
    (hk : S384x128.Slices ![a, e] S256x64) (j : Fin 256) (d : Fin 64) (hv : 128 ≤ (nOf t s).val % 32 * 128 + j.val) :
    extractStridedSlice S256x64 ![a, e] (k0_pay8 (iblk m c 3 t) (iblk m c 4 t)) hk (ix2 j d)
      = val_main_v12 (F := Ideal) (Qkv m c) (ix4 (nOf t s) j (hOf t hl) d) := by
  have := b_lt t; have := i_lt t; have := p_lt t
  rw [k_at _ _ _ _ _ hv]
  rw [nOf_mod] at hv
  have hn : (nOf t s).val = ((grid0.coords t 0).val * 16 + (grid0.coords t 2).val) * 2 + s.val := rfl
  have hh : (hOf t hl).val = 2 * (grid0.coords t 1).val + hl.val / 4 := rfl
  show k0_pay8 (iblk m c 3 t) (iblk m c 4 t) _ = _
  refine (congrArg (k0_pay8 (iblk m c 3 t) (iblk m c 4 t))
    (ext2 (j := ix2 (⟨128 * s.val + j.val, by omega⟩ : Fin 384) (⟨64 * (hl.val / 4) + d.val, by omega⟩ : Fin 128)) ?_ ?_)).trans ?_
  · show a + j.val = 128 * s.val + j.val
    omega
  · show e + d.val = 64 * (hl.val / 4) + d.val
    omega
  generalize hX : iblk m c 3 t = X
  generalize hY : iblk m c 4 t = Y
  pointwise [k0_pay8]
  by_cases hj : 128 * s.val + j.val < 128
  · rw [dif_pos hj, ← hX]
    refine blk3 m c t _ _ _ _ ?_ ?_
    · show (nOf t s).val * 128 + j.val - 128 = ((grid0.coords t 0).val * 32 + (2 * (grid0.coords t 2).val - 1)) * 128 + (128 * s.val + j.val)
      omega
    · show 2048 + ((hOf t hl).val * 64 + d.val) = (16 + (grid0.coords t 1).val) * 128 + (64 * (hl.val / 4) + d.val)
      omega
  · rw [dif_neg hj, ← hY]
    refine blk4 m c t _ _ _ _ ?_ ?_
    · show (nOf t s).val * 128 + j.val - 128 = ((grid0.coords t 0).val * 16 + (grid0.coords t 2).val) * 256 + (128 * s.val + j.val - 128)
      omega
    · show 2048 + ((hOf t hl).val * 64 + d.val) = (16 + (grid0.coords t 1).val) * 128 + (64 * (hl.val / 4) + d.val)
      omega

/-- A value's number in its block, wherever it is not padding. -/
theorem v_read (c : Dev nD) (t : Fin cfg0.N) (s : Fin 2) (hl : Fin 8) (a e : Nat) (ha : a = 128 * s.val) (he : e = 64 * (hl.val / 4))
    (hk : S384x128.Slices ![a, e] S256x64) (j : Fin 256) (d : Fin 64) (hv : 128 ≤ (nOf t s).val % 32 * 128 + j.val) :
    extractStridedSlice S256x64 ![a, e] (k0_pay9 (iblk m c 5 t) (iblk m c 6 t)) hk (ix2 j d)
      = val_main_v19 (F := Ideal) (Qkv m c) (ix4 (nOf t s) j (hOf t hl) d) := by
  have := b_lt t; have := i_lt t; have := p_lt t
  rw [v_at _ _ _ _ _ hv]
  rw [nOf_mod] at hv
  have hn : (nOf t s).val = ((grid0.coords t 0).val * 16 + (grid0.coords t 2).val) * 2 + s.val := rfl
  have hh : (hOf t hl).val = 2 * (grid0.coords t 1).val + hl.val / 4 := rfl
  show k0_pay9 (iblk m c 5 t) (iblk m c 6 t) _ = _
  refine (congrArg (k0_pay9 (iblk m c 5 t) (iblk m c 6 t))
    (ext2 (j := ix2 (⟨128 * s.val + j.val, by omega⟩ : Fin 384) (⟨64 * (hl.val / 4) + d.val, by omega⟩ : Fin 128)) ?_ ?_)).trans ?_
  · show a + j.val = 128 * s.val + j.val
    omega
  · show e + d.val = 64 * (hl.val / 4) + d.val
    omega
  generalize hX : iblk m c 5 t = X
  generalize hY : iblk m c 6 t = Y
  pointwise [k0_pay9]
  by_cases hj : 128 * s.val + j.val < 128
  · rw [dif_pos hj, ← hX]
    refine blk5 m c t _ _ _ _ ?_ ?_
    · show (nOf t s).val * 128 + j.val - 128 = ((grid0.coords t 0).val * 32 + (2 * (grid0.coords t 2).val - 1)) * 128 + (128 * s.val + j.val)
      omega
    · show 2560 + ((hOf t hl).val * 64 + d.val) = (20 + (grid0.coords t 1).val) * 128 + (64 * (hl.val / 4) + d.val)
      omega
  · rw [dif_neg hj, ← hY]
    refine blk6 m c t _ _ _ _ ?_ ?_
    · show (nOf t s).val * 128 + j.val - 128 = ((grid0.coords t 0).val * 16 + (grid0.coords t 2).val) * 256 + (128 * s.val + j.val - 128)
      omega
    · show 2560 + ((hOf t hl).val * 64 + d.val) = (20 + (grid0.coords t 1).val) * 128 + (64 * (hl.val / 4) + d.val)
      omega

/-- The literal minus infinity. -/
theorem minus_inf : Ideal.ofBits .f32 4286578688#32 = ⊥ := by
  have h1 : (BitVec.extractLsb' 23 8 4286578688#32).toNat = 2 ^ 8 - 1 := by decide
  simp only [Ideal.ofBits, Ideal.ieee]
  rw [if_pos h1]
  simp

/-- One number of a head at a grid point is the reference's before the gain. -/
theorem headAt_at (c : Dev nD) (t : Fin cfg0.N) (mask : IVec S128x256 1) (s : Fin 2) (hl : Fin 8) (a b e : Nat)
    (ha : a = 128 * s.val) (hb : b = 64 * hl.val) (he : e = 64 * (hl.val / 4))
    (hq : ∀ x, (![a, b] : Fin 2 → Nat) x + S128x64.size x ≤ S256x512.size x) (hk : S384x128.Slices ![a, e] S256x64)
    (hmask : ∀ r j, mask (ix2 r j) = IntOp.andi (near r j) (begun ((nOf t s).val % 32) j)) (r : Fin 128) (d : Fin 64) :
    headAt m c t mask hl a b e hq hk (ix2 r d)
      = nrm (outEarly (fun j => val_main_v79 (F := Ideal) (Qkv m c) (ix5 (nOf t s) (hOf t hl) (gOf hl) r j))
          (m ((c : Thread nD τ).loc main_arg1) (ix1 ⟨(hOf t hl).val * 4 + (gOf hl).val, by omega⟩))
          (fun j d => val_main_v19 (F := Ideal) (Qkv m c) (ix4 (nOf t s) j (hOf t hl) d))) d := by
  have hH : (hOf t hl).val * 4 + (gOf hl).val = 8 * (grid0.coords t 1).val + hl.val := by
    show (2 * (grid0.coords t 1).val + hl.val / 4) * 4 + hl.val % 4 = _
    omega
  have hpos : ∀ r j, mask (ix2 r j) = 1 → 128 ≤ (nOf t s).val % 32 * 128 + j.val := fun r j h =>
    begun_pos ⟨(nOf t s).val % 32, by omega⟩ j (right_of_and _ _ ((hmask r j).symm.trans h))
  unfold headAt
  rw [head_at, sink_read m c t hl ⟨(hOf t hl).val * 4 + (gOf hl).val, by omega⟩ hH,
    slope_read m c t hl ⟨(hOf t hl).val * 4 + (gOf hl).val, by omega⟩ hH, slopes]
  have hs : ∀ j, scores mask (val_main_v43 (F := Ideal) (ix1 ⟨(hOf t hl).val * 4 + (gOf hl).val, by omega⟩))
        (View.ld (iblk m c 2 t) (Rect.unit (s := S256x512) ![a, b] ![128, 64] hq))
        (extractStridedSlice S256x64 ![a, e] (k0_pay8 (iblk m c 3 t) (iblk m c 4 t)) hk) (ix2 r j)
      = val_main_v79 (F := Ideal) (Qkv m c) (ix5 (nOf t s) (hOf t hl) (gOf hl) r j) := fun j => by
    rw [scores_at, score_at, hmask]
    by_cases hm : IntOp.andi (near r j) (begun ((nOf t s).val % 32) j) = 1
    · have hv := hpos r j ((hmask r j).trans hm)
      refine congrArg (fun z : EReal => Scalar.select _ z _) ?_
      rw [sub_eq_add_neg, EReal.neg_mul]
      refine congrArg₂ (fun x y : EReal => x * _ + y) (Finset.sum_congr rfl fun x _ => ?_) rfl
      rw [q_read m c t s hl a b ha hb hq, k_read m c t s hl a e ha he hk j x hv, mul_comm]
    · unfold Scalar.select
      rw [if_neg hm, if_neg hm]
  have hne : ∀ j, val_main_v79 (F := Ideal) (Qkv m c) (ix5 (nOf t s) (hOf t hl) (gOf hl) r j) ≠ ⊥ →
      128 ≤ (nOf t s).val % 32 * 128 + j.val := fun j h => by
    by_contra hv
    refine h ?_
    rw [score_at]
    unfold Scalar.select
    rw [if_neg fun hm => hv (hpos r j ((hmask r j).trans hm)), minus_inf]
  rw [funext hs]
  exact late_early _ _ _ _ (fun j hj d => v_read m c t s hl a e ha he hk j d (hne j hj)) d

end Cert.KernelIdeal.Attn

end
-- ==== Proof.Attn.Final.lean ====
module

public import proofs.«01_k».proof.Proof.Attn.Join

@[expose] public section

set_option maxRecDepth 16384

noncomputable section

namespace Cert.KernelIdeal.Attn

open Cert.KernelIdeal Cert.KernelIdeal.Gen Idealize.ShloMosaic Idealize.ShloMosaic.TcCoe Idealize.SL.Sem Cert.AttnCore
open Cert.ReferenceIdeal.Read Cert.ReferenceIdeal.Attn
open Idealize.ShloMosaic.Pipeline (Dat)

variable (m : (ℓ : Loc nD τ sig) → Buf (Elt Ideal) ℓ)

/-- Eight heads side by side, read at a column. -/
theorem cat8 (u : Fin 8 → FVec Ideal S128x64 .f32) (r : Fin 128) (C : Fin 512) :
    concatenate S128x512 1 [⟨S128x64, u 0⟩, ⟨S128x64, u 1⟩, ⟨S128x64, u 2⟩, ⟨S128x64, u 3⟩, ⟨S128x64, u 4⟩, ⟨S128x64, u 5⟩,
      ⟨S128x64, u 6⟩, ⟨S128x64, u 7⟩]
      concatenates_S128x64_S128x64_S128x64_S128x64_S128x64_S128x64_S128x64_S128x64_S128x512_d1 (ix2 r C)
      = u ⟨C.val / 64, by omega⟩ (ix2 r ⟨C.val % 64, by omega⟩) := by
  refine concatenate_ofFn_apply 1 u concatenates_S128x64_S128x64_S128x64_S128x64_S128x64_S128x64_S128x64_S128x64_S128x512_d1 rfl 64 rfl
    (ix2 r C) ⟨C.val / 64, by omega⟩ (by rfl) (ix2 r ⟨C.val % 64, by omega⟩) (by rfl) ?_
  intro b hb
  match b with
  | ⟨0, _⟩ => rfl
  | ⟨1, _⟩ => exact absurd rfl hb

/-- The stored block at a place: the two halves under one another, times the gain. -/
theorem pay2_at (u : Fin 8 → FVec Ideal S128x64 .f32) (w : FVec Ideal S128x512 .f32) (X : Vec Ideal S1x512 .f32)
    (R : Fin 256) (C : Fin 512) : k0_pay2 (u 0) (u 1) (u 2) (u 3) (u 4) (u 5) (u 6) (u 7) w X (ix2 R C)
      = (if h : R.val < 128 then u ⟨C.val / 64, by omega⟩ (ix2 ⟨R.val, h⟩ ⟨C.val % 64, by omega⟩)
          else w (ix2 ⟨R.val - 128, by omega⟩ C)) * X (ix2 (0 : Fin 1) C) := by
  have h8 := cat8 u
  unfold k0_pay2
  revert h8
  generalize concatenate S128x512 1 _ _ = z
  intro h8
  simp only [← h8]
  pointwise

/-- The heads of the first half. -/
def upper (c : Dev nD) (t : Fin cfg0.N) : Fin 8 → FVec Ideal S128x64 .f32 := fun n => match n with
  | 0 => headAt m c t (k0_pay6 (grid0.coords t)) 0 0 0 0 inb_S256x512_S128x64_0_0 slices_S384x128_o0_0_S256x64
  | 1 => headAt m c t (k0_pay6 (grid0.coords t)) 1 0 64 0 inb_S256x512_S128x64_0_64 slices_S384x128_o0_0_S256x64
  | 2 => headAt m c t (k0_pay6 (grid0.coords t)) 2 0 128 0 inb_S256x512_S128x64_0_128 slices_S384x128_o0_0_S256x64
  | 3 => headAt m c t (k0_pay6 (grid0.coords t)) 3 0 192 0 inb_S256x512_S128x64_0_192 slices_S384x128_o0_0_S256x64
  | 4 => headAt m c t (k0_pay6 (grid0.coords t)) 4 0 256 64 inb_S256x512_S128x64_0_256 slices_S384x128_o0_64_S256x64
  | 5 => headAt m c t (k0_pay6 (grid0.coords t)) 5 0 320 64 inb_S256x512_S128x64_0_320 slices_S384x128_o0_64_S256x64
  | 6 => headAt m c t (k0_pay6 (grid0.coords t)) 6 0 384 64 inb_S256x512_S128x64_0_384 slices_S384x128_o0_64_S256x64
  | 7 => headAt m c t (k0_pay6 (grid0.coords t)) 7 0 448 64 inb_S256x512_S128x64_0_448 slices_S384x128_o0_64_S256x64

/-- The heads of the second half. -/
def lower (c : Dev nD) (t : Fin cfg0.N) : Fin 8 → FVec Ideal S128x64 .f32 := fun n => match n with
  | 0 => headAt m c t k0_pay5 0 128 0 0 inb_S256x512_S128x64_128_0 slices_S384x128_o128_0_S256x64
  | 1 => headAt m c t k0_pay5 1 128 64 0 inb_S256x512_S128x64_128_64 slices_S384x128_o128_0_S256x64
  | 2 => headAt m c t k0_pay5 2 128 128 0 inb_S256x512_S128x64_128_128 slices_S384x128_o128_0_S256x64
  | 3 => headAt m c t k0_pay5 3 128 192 0 inb_S256x512_S128x64_128_192 slices_S384x128_o128_0_S256x64
  | 4 => headAt m c t k0_pay5 4 128 256 64 inb_S256x512_S128x64_128_256 slices_S384x128_o128_64_S256x64
  | 5 => headAt m c t k0_pay5 5 128 320 64 inb_S256x512_S128x64_128_320 slices_S384x128_o128_64_S256x64
  | 6 => headAt m c t k0_pay5 6 128 384 64 inb_S256x512_S128x64_128_384 slices_S384x128_o128_64_S256x64
  | 7 => headAt m c t k0_pay5 7 128 448 64 inb_S256x512_S128x64_128_448 slices_S384x128_o128_64_S256x64

/-- One number of the reference before the gain. -/
abbrev bare (c : Dev nD) (n : Fin 128) (h : Fin 8) (g : Fin 4) (r : Fin 128) (d : Fin 64) : EReal :=
  nrm (outEarly (fun j => val_main_v79 (F := Ideal) (Qkv m c) (ix5 n h g r j))
    (m ((c : Thread nD τ).loc main_arg1) (ix1 ⟨h.val * 4 + g.val, by omega⟩))
    (fun j d => val_main_v19 (F := Ideal) (Qkv m c) (ix4 n j h d))) d

/-- One number of a head in a step's first block is the reference's before the gain. -/
theorem upper_at (c : Dev nD) (t : Fin cfg0.N) (n : Fin 8) (r : Fin 128) (d : Fin 64) :
    upper m c t n (ix2 r d) = bare m c (nOf t 0) (hOf t n) (gOf n) r d := match n with
  | 0 => headAt_at m c t _ 0 0 _ _ _ rfl rfl rfl _ _ (mask_even t) r d
  | 1 => headAt_at m c t _ 0 1 _ _ _ rfl rfl rfl _ _ (mask_even t) r d
  | 2 => headAt_at m c t _ 0 2 _ _ _ rfl rfl rfl _ _ (mask_even t) r d
  | 3 => headAt_at m c t _ 0 3 _ _ _ rfl rfl rfl _ _ (mask_even t) r d
  | 4 => headAt_at m c t _ 0 4 _ _ _ rfl rfl rfl _ _ (mask_even t) r d
  | 5 => headAt_at m c t _ 0 5 _ _ _ rfl rfl rfl _ _ (mask_even t) r d
  | 6 => headAt_at m c t _ 0 6 _ _ _ rfl rfl rfl _ _ (mask_even t) r d
  | 7 => headAt_at m c t _ 0 7 _ _ _ rfl rfl rfl _ _ (mask_even t) r d

/-- One number of a head in a step's second block is the reference's before the gain. -/
theorem lower_at (c : Dev nD) (t : Fin cfg0.N) (n : Fin 8) (r : Fin 128) (d : Fin 64) :
    lower m c t n (ix2 r d) = bare m c (nOf t 1) (hOf t n) (gOf n) r d := match n with
  | 0 => headAt_at m c t _ 1 0 _ _ _ rfl rfl rfl _ _ (mask_odd t) r d
  | 1 => headAt_at m c t _ 1 1 _ _ _ rfl rfl rfl _ _ (mask_odd t) r d
  | 2 => headAt_at m c t _ 1 2 _ _ _ rfl rfl rfl _ _ (mask_odd t) r d
  | 3 => headAt_at m c t _ 1 3 _ _ _ rfl rfl rfl _ _ (mask_odd t) r d
  | 4 => headAt_at m c t _ 1 4 _ _ _ rfl rfl rfl _ _ (mask_odd t) r d
  | 5 => headAt_at m c t _ 1 5 _ _ _ rfl rfl rfl _ _ (mask_odd t) r d
  | 6 => headAt_at m c t _ 1 6 _ _ _ rfl rfl rfl _ _ (mask_odd t) r d
  | 7 => headAt_at m c t _ 1 7 _ _ _ rfl rfl rfl _ _ (mask_odd t) r d

/-- The attention's reference as one function of the arguments. -/
abbrev REF (c : Dev nD) : FVec Ideal S16384x2048 .bf16 := val_main_v112 (F := Ideal) (Qkv m c)
  (m ((c : Thread nD τ).loc main_arg1)) (m ((c : Thread nD τ).loc main_arg2))

/-- The reference's number at a half, a row, a head and a column of a grid point's block. -/
theorem ref_at (c : Dev nD) (t : Fin cfg0.N) (s : Fin 2) (n : Fin 8) (r : Fin 128) (d : Fin 64) (R : Fin 16384) (C : Fin 2048)
    (hR : R.val = ((grid0.coords t 0).val * 16 + (grid0.coords t 2).val) * 256 + (128 * s.val + r.val))
    (hC : C.val = (grid0.coords t 1).val * 512 + (64 * n.val + d.val)) :
    REF m c (ix2 R C) = bare m c (nOf t s) (hOf t n) (gOf n) r d * m ((c : Thread nD τ).loc main_arg2) (ix1 C) := by
  have e1 : R = ⟨(nOf t s).val * 128 + r.val, by omega⟩ := Fin.ext (by
    show R.val = (((grid0.coords t 0).val * 16 + (grid0.coords t 2).val) * 2 + s.val) * 128 + r.val
    omega)
  have e2 : C = ⟨((hOf t n).val * 4 + (gOf n).val) * 64 + d.val, by omega⟩ := Fin.ext (by
    show C.val = ((2 * (grid0.coords t 1).val + n.val / 4) * 4 + n.val % 4) * 64 + d.val
    omega)
  rw [e1, e2]
  exact result_at (Qkv m c) (m ((c : Thread nD τ).loc main_arg1)) (m ((c : Thread nD τ).loc main_arg2)) (nOf t s) r (hOf t n) (gOf n) d

/-- What a grid point stores at a place of its block is the reference's number at the place of the array. -/
theorem point (c : Dev nD) (t : Fin cfg0.N) (y : S256x512.Idx) :
    (dats m 0 c).after 9 t y = REF m c (((cfg0.win 9).blk t).view.emb y) := by
  have hb := b_lt t; have hi := i_lt t; have hp := p_lt t
  have hy0 : (y 0).val < 256 := (y 0).isLt
  have hy1 : (y 1).val < 512 := (y 1).isLt
  have ey : y = ix2 (⟨(y 0).val, hy0⟩ : Fin 256) (⟨(y 1).val, hy1⟩ : Fin 512) := ext2 rfl rfl
  have emb : ((cfg0.win 9).blk t).view.emb y
      = ix2 (⟨((grid0.coords t 0).val * 16 + (grid0.coords t 2).val) * 256 + (y 0).val, by omega⟩ : Fin 16384)
          (⟨(grid0.coords t 1).val * 512 + (y 1).val, by omega⟩ : Fin 2048) := by
    blk_ext [idx t]
  rw [emb, opened]
  refine (congrArg _ ey).trans ((pay2_at (upper m c t) _ _ _ _).trans ?_)
  rw [blk7 m c t ⟨(y 1).val, hy1⟩ ⟨(grid0.coords t 1).val * 512 + (y 1).val, by omega⟩ rfl]
  by_cases h : (y 0).val < 128
  · rw [dif_pos h, upper_at]
    refine (ref_at m c t 0 _ _ _ _ _ ?_ ?_).symm
    · show ((grid0.coords t 0).val * 16 + (grid0.coords t 2).val) * 256 + (y 0).val = ((grid0.coords t 0).val * 16 + (grid0.coords t 2).val) * 256 + (128 * 0 + (y 0).val)
      omega
    · show (grid0.coords t 1).val * 512 + (y 1).val = (grid0.coords t 1).val * 512 + (64 * ((y 1).val / 64) + (y 1).val % 64)
      omega
  · rw [dif_neg h]
    refine (congrArg (fun z : EReal => z * _) ((cat8 (lower m c t) _ _).trans (lower_at m c t _ _ _))).trans ?_
    refine (ref_at m c t 1 _ _ _ _ _ ?_ ?_).symm
    · show ((grid0.coords t 0).val * 16 + (grid0.coords t 2).val) * 256 + (y 0).val = ((grid0.coords t 0).val * 16 + (grid0.coords t 2).val) * 256 + (128 * 1 + ((y 0).val - 128))
      omega
    · show (grid0.coords t 1).val * 512 + (y 1).val = (grid0.coords t 1).val * 512 + (64 * ((y 1).val / 64) + (y 1).val % 64)
      omega

/-- The first result after the run is the reference's. -/
theorem final1 (c : Dev nD) : (dats m 0 c).arrAt 9 (cfgs 0).N = REF m c := by
  refine (dats m 0 c).arrAt_eq_of_covers 9 _ (by decide +kernel) fun t _ y => ?_
  blk_simp
  exact point m c t y

/-- Where the two windows of the side work stand. -/
theorem idxSide : ∀ t : Fin cfg0.N, win0_8.index t = ![((grid0.coords t 0).val * 4 + (grid0.coords t 1).val) * 16 + (grid0.coords t 2).val, 0, 0] ∧ win0_10.index t = ![((grid0.coords t 0).val * 4 + (grid0.coords t 1).val) * 16 + (grid0.coords t 2).val, 0, 0] :=
  (by decide +kernel : ∀ t : Fin grid0.N, _)

/-- The table the side work converts, as the kernel's host code lays it out. -/
theorem side_arr (c : Dev nD) : V m c main_v0 = val_main_v113 (F := Ideal) (m ((c : Thread nD τ).loc main_arg3)) := rfl

/-- The second result after the run is the reference's. -/
theorem final2 (c : Dev nD) : (dats m 0 c).arrAt 10 (cfgs 0).N
    = val_main_v114 (F := Ideal) (m ((c : Thread nD τ).loc main_arg3)) := by
  refine (dats m 0 c).arrAt_eq_of_covers 10 _ (by decide +kernel) fun t _ y => ?_
  blk_simp
  rw [after0_10]
  unfold outsAt0
  dsimp only
  frame_out
  have h : k0_pay3 (iblk m c 8 t) y = iblk m c 8 t y := by
    generalize iblk m c 8 t = X
    pointwise [k0_pay3]
  refine h.trans ?_
  rw [val_main_v114_apply, ← side_arr]
  show iblk m c 8 t y = V m c main_v0 _
  blk_ext [iblk, idxSide t]

/-- The reference's first result, its arguments equal to given arrays. -/
theorem ref_one (m' : (ℓ : Loc Cert.ReferenceIdeal.nD Cert.ReferenceIdeal.τ Cert.ReferenceIdeal.sig) → Buf (Elt Ideal) ℓ)
    (c : Dev Cert.ReferenceIdeal.nD) (X0 : FVec Ideal S16384x3072 .bf16) (X1 : FVec Ideal S32 .f32) (X2 : FVec Ideal S2048 .f32)
    (h0 : m' ((c.tc : Thread Cert.ReferenceIdeal.nD Cert.ReferenceIdeal.τ).loc Cert.ReferenceIdeal.main_arg0) = X0)
    (h1 : m' ((c.tc : Thread Cert.ReferenceIdeal.nD Cert.ReferenceIdeal.τ).loc Cert.ReferenceIdeal.main_arg1) = X1)
    (h2 : m' ((c.tc : Thread Cert.ReferenceIdeal.nD Cert.ReferenceIdeal.τ).loc Cert.ReferenceIdeal.main_arg2) = X2) :
    Cert.ReferenceIdeal.Value.res_main_v112 m' c = val_main_v112 (F := Ideal) X0 X1 X2 := by
  rw [val_main_v112_eq, h0, h1, h2]

end Cert.KernelIdeal.Attn

end
-- ==== Proof.Proj.R.lean ====
module

public import proofs.«01_k».proof.Proof.Gen.KernelProjRIdeal.Value
public import proofs.«01_k».proof.Proof.Gen.ReferenceProjRIdeal.Read
public import Idealize.ShloMosaic.Lib.Pipeline.ValueKit

@[expose] public section

set_option maxRecDepth 16384

noncomputable section

namespace Cert.KernelProjRIdeal.Val

open Cert.KernelProjRIdeal Cert.KernelProjRIdeal.Gen Idealize.ShloMosaic Idealize.ShloMosaic.TcCoe Idealize.SL.Sem
open Idealize.ShloMosaic.Pipeline (Dat)

variable (m : (ℓ : Loc nD τ sig) → Buf (Elt Ideal) ℓ)

/-- The recurrence's columns of the input projection as one function of the arguments: the reference's own stages. -/
abbrev REF (X0 : FVec Ideal S16384x4096 .bf16) (X1 : FVec Ideal S4096x9664 .f32) : FVec Ideal S16384x6656 .bf16 :=
  Cert.ReferenceProjRIdeal.Read.val_main_v4 (F := Ideal) X0 X1

/-- Where the windows stand at a grid point. -/
theorem idx : ∀ t : Fin cfg0.N, win0_0.index t = ![(grid0.coords t 0).val, 0] ∧ win0_1.index t = ![0, (grid0.coords t 1).val]
    ∧ win0_2.index t = ![(grid0.coords t 0).val, (grid0.coords t 1).val] :=
  (by decide +kernel : ∀ t : Fin grid0.N, _)

/-- The padded weights as the kernel's host code builds them: `w_in`'s first 6592 columns, then zeros. -/
theorem weights (c : Dev nD) (k : Fin 4096) (j : Fin 6656) : V m c main_v3 (ix2 k j)
    = if h : (j : ℕ) < 6592 then m ((c : Thread nD τ).loc main_arg1) (ix2 k ⟨j, by omega⟩) else (0 : EReal) := by
  entry_read
  pointwise

/-- What a grid point stores at a place of its block is the reference's entry at the place of the array. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF, Cert.ReferenceProjRIdeal.Read.val_main_v0,
    Cert.ReferenceProjRIdeal.Read.val_main_v1,
    Cert.ReferenceProjRIdeal.Read.val_main_v2,
    Cert.ReferenceProjRIdeal.Read.val_main_c,
    Cert.ReferenceProjRIdeal.Read.val_main_call0_v0,
    Cert.ReferenceProjRIdeal.Read.val_main_v3,
    Cert.ReferenceProjRIdeal.Read.val_main_v4]
  have he : ((((cfg0.win 2).blk t).view.emb y) 1 : ℕ) = (grid0.coords t 1).val * 512 + (y 1).val := by
    blk_simp [idx t]
  have hj : (grid0.coords t 1).val * 512 + (y 1).val < 6656 := he.symm.trans_lt (((cfg0.win 2).blk t).view.emb y 1).isLt
  have hw : ∀ k : Fin 4096, iblk m c 1 t (ix2 k (y 1))
      = V m c main_v3 (ix2 k ⟨(grid0.coords t 1).val * 512 + (y 1).val, hj⟩) := fun k => by
    blk_ext [iblk, idx t]
  have hu : ∀ k : Fin 4096, iblk m c 0 t (ix2 (y 0) k)
      = m ((c : Thread nD τ).loc main_arg0) (ix2 (((cfg0.win 2).blk t).view.emb y 0) k) := fun k => by
    blk_ext [iblk, V, idx t]
  split
  · rename_i hlt
    refine Finset.sum_congr rfl fun k _ => congrArg₂ (· * ·) (hu k) ((hw k).trans ((weights m c k _).trans ?_))
    refine (dif_pos (he.symm.trans_lt hlt)).trans ?_
    exact congrArg (fun z => m ((c : Thread nD τ).loc main_arg1) (ix2 k z)) (Fin.ext he.symm)
  · rename_i hlt
    refine (Finset.sum_eq_zero fun k _ => ?_).trans ?_
    · have hz : iblk m c 1 t (ix2 k (y 1)) = (0 : EReal) := (hw k).trans ((weights m c k _).trans (dif_neg fun h => hlt (he.trans_lt h)))
      exact (congrArg (HMul.hMul (α := EReal) (β := EReal) (iblk m c 0 t (ix2 (y 0) k))) hz).trans
        (mul_zero (M₀ := EReal) _)
    · exact (EReal.coe_zero.symm.trans (congrArg Real.toEReal (by norm_num)) : (0 : EReal) = (((0#32 : BitVec 32).toInt : ℝ) : EReal))

/-- The array after the run is the reference's. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.KernelProjRIdeal.Val

end
-- ==== Proof.Proj.A.lean ====
module

public import proofs.«01_k».proof.Proof.Gen.KernelProjAIdeal.Value
public import proofs.«01_k».proof.Proof.Gen.ReferenceProjAIdeal.Read
public import Idealize.ShloMosaic.Lib.Pipeline.ValueKit

@[expose] public section

set_option maxRecDepth 16384

noncomputable section

namespace Cert.KernelProjAIdeal.Val

open Cert.KernelProjAIdeal Cert.KernelProjAIdeal.Gen Idealize.ShloMosaic Idealize.ShloMosaic.TcCoe Idealize.SL.Sem
open Idealize.ShloMosaic.Pipeline (Dat)

variable (m : (ℓ : Loc nD τ sig) → Buf (Elt Ideal) ℓ)

/-- The attention columns of the input projection as one function of the two arguments: the reference's own stages. -/
abbrev REF (X : FVec Ideal S16384x4096 .bf16) (W : FVec Ideal S4096x9664 .f32) : FVec Ideal S16384x3072 .bf16 :=
  Cert.ReferenceProjAIdeal.Read.val_main_v3 (F := Ideal) X W

/-- Where the three windows stand at a grid point. -/
theorem idx : ∀ t : Fin cfg0.N, win0_0.index t = ![(grid0.coords t 0).val, 0]
    ∧ win0_1.index t = ![0, (grid0.coords t 1).val]
    ∧ win0_2.index t = ![(grid0.coords t 0).val, (grid0.coords t 1).val] :=
  (by decide +kernel : ∀ t : Fin grid0.N, _)

/-- What a grid point stores at a place of its block is the reference's entry at the place of the array. -/
theorem point (c : Dev nD) (t : Fin cfg0.N) (y) : k0_pay1 (iblk m c 0 t) (iblk m c 1 t) y
    = REF (m ((c : Thread nD τ).loc main_arg0)) (m ((c : Thread nD τ).loc main_arg1))
        (((cfg0.win 2).blk t).view.emb y) := by
  pointwise [k0_pay1, REF, Cert.ReferenceProjAIdeal.Read.val_main_v3, Cert.ReferenceProjAIdeal.Read.val_main_v2,
    Cert.ReferenceProjAIdeal.Read.val_main_v1, Cert.ReferenceProjAIdeal.Read.val_main_v0]
  blk_point [iblk, V, idx t]

/-- The array after the run is the reference's. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.KernelProjAIdeal.Val

end
-- ==== Proof.Proj.Out.lean ====
module

public import proofs.«01_k».proof.Proof.Gen.KernelOutIdeal.Value
public import proofs.«01_k».proof.Proof.Gen.ReferenceOutIdeal.Read
public import Idealize.ShloMosaic.Lib.Pipeline.ValueKit

@[expose] public section

set_option maxRecDepth 16384

noncomputable section

namespace Cert.KernelOutIdeal.Val

open Cert.KernelOutIdeal Cert.KernelOutIdeal.Gen Idealize.ShloMosaic Idealize.ShloMosaic.TcCoe Idealize.SL.Sem
open Idealize.ShloMosaic.Pipeline (Dat)

variable (m : (ℓ : Loc nD τ sig) → Buf (Elt Ideal) ℓ)

/-- The output projection with its gated residual as one function of the arguments: the reference's own stages. -/
abbrev REF (X0 X1 : FVec Ideal S16384x2048 .bf16) (X2 : FVec Ideal S4096x4096 .bf16) (X3 : FVec Ideal S4x4096x4096 .f32)
    (X4 : FVec Ideal S4x4096 .f32) : FVec Ideal S16384x4096 .f32 :=
  Cert.ReferenceOutIdeal.Read.val_main_v9 (F := Ideal) X0 X1 X2 X3 X4

/-- Where the windows stand at a grid point. -/
theorem idx : ∀ t : Fin cfg0.N, win0_0.index t = ![(grid0.coords t 0).val, 0] ∧ win0_1.index t = ![(grid0.coords t 0).val, 0]
    ∧ win0_2.index t = ![0, (grid0.coords t 1).val] ∧ win0_3.index t = ![1, (grid0.coords t 1).val]
    ∧ win0_4.index t = ![(grid0.coords t 0).val, (grid0.coords t 1).val] ∧ win0_5.index t = ![(grid0.coords t 0).val / 4, 0, (grid0.coords t 1).val]
    ∧ win0_6.index t = ![(grid0.coords t 0).val, (grid0.coords t 1).val] :=
  (by decide +kernel : ∀ t : Fin grid0.N, _)

/-- The residual as the kernel's host code lays it out: the batch's rows one after the other. -/
theorem residual (c : Dev nD) (r : Fin 16384) (k : Fin 4096) : V m c main_v0 (ix2 r k)
    = m ((c : Thread nD τ).loc main_arg3) (ix3 ⟨r / 4096, by omega⟩ ⟨r % 4096, by omega⟩ k) := by
  entry_read
  pointwise
  try rfl

/-- The gate as the kernel's host code lays it out: one row a batch. -/
theorem gate (c : Dev nD) (b : Fin 4) (k : Fin 4096) : V m c main_v1 (ix3 b 0 k)
    = m ((c : Thread nD τ).loc main_arg4) (ix2 b k) := by
  entry_read
  pointwise
  try rfl

/-- What a grid point stores at a place of its block is the reference's entry at the place of the array. -/
theorem point (c : Dev nD) (t : Fin cfg0.N) (y) : k0_pay1 (iblk m c 0 t) (iblk m c 2 t) (iblk m c 1 t) (iblk m c 3 t) (iblk m c 4 t) (iblk m c 5 t) y
    = REF (m ((c : Thread nD τ).loc main_arg0)) (m ((c : Thread nD τ).loc main_arg1)) (m ((c : Thread nD τ).loc main_arg2)) (m ((c : Thread nD τ).loc main_arg3)) (m ((c : Thread nD τ).loc main_arg4)) (((cfg0.win 6).blk t).view.emb y) := by
  pointwise [k0_pay1, REF, Cert.ReferenceOutIdeal.Read.val_main_v0,
    Cert.ReferenceOutIdeal.Read.val_main_v1,
    Cert.ReferenceOutIdeal.Read.val_main_v2,
    Cert.ReferenceOutIdeal.Read.val_main_v3,
    Cert.ReferenceOutIdeal.Read.val_main_v4,
    Cert.ReferenceOutIdeal.Read.val_main_v5,
    Cert.ReferenceOutIdeal.Read.val_main_v6,
    Cert.ReferenceOutIdeal.Read.val_main_v7,
    Cert.ReferenceOutIdeal.Read.val_main_v8,
    Cert.ReferenceOutIdeal.Read.val_main_v9]
  refine congrArg₂ (· + ·) ?_ (congrArg₂ (· * ·) ?_ (congrArg₂ (· + ·)
    (Finset.sum_congr rfl fun k _ => congrArg₂ (· * ·) ?_ ?_) (Finset.sum_congr rfl fun k _ => congrArg₂ (· * ·) ?_ ?_)))
  · refine Eq.trans ?_ (residual m c _ _)
    blk_ext [iblk, idx t]
  · refine Eq.trans ?_ (gate m c _ _)
    blk_ext [iblk, idx t]
  · blk_ext [iblk, V, idx t]
  · blk_ext [iblk, V, idx t]
  · blk_ext [iblk, V, idx t]
  · blk_ext [iblk, V, idx t]

/-- The array after the run is the reference's. -/
theorem final (c : Dev nD) : (dats m 0 c).arrAt 6 (cfgs 0).N
    = REF (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]; frame_out
  exact point m c t y

end Cert.KernelOutIdeal.Val

end
-- ==== Proof.Proj.Norm.lean ====
module

public import proofs.«01_k».proof.Proof.Gen.KernelNormIdeal.Value
public import proofs.«01_k».proof.Proof.Gen.ReferenceNormIdeal.Read
public import Idealize.ShloMosaic.Lib.Pipeline.ValueKit

@[expose] public section

set_option maxRecDepth 16384

noncomputable section

namespace Cert.KernelNormIdeal.Val

open Cert.KernelNormIdeal Cert.KernelNormIdeal.Gen Idealize.ShloMosaic Idealize.ShloMosaic.TcCoe Idealize.SL.Sem
open Idealize.ShloMosaic.Pipeline (Dat)

variable (m : (ℓ : Loc nD τ sig) → Buf (Elt Ideal) ℓ)

/-- The first norm with its modulation as one function of the arguments: the reference's own stages. -/
abbrev REF (X0 : FVec Ideal S4x4096x4096 .f32) (X1 : FVec Ideal S4096 .f32) (X2 X3 : FVec Ideal S4x4096 .f32) : FVec Ideal S16384x4096 .bf16 :=
  Cert.ReferenceNormIdeal.Read.val_main_v22 (F := Ideal) X0 X1 X2 X3

/-- Where the windows stand at a grid point. -/
theorem idx : ∀ t : Fin cfg0.N, win0_0.index t = ![(grid0.coords t 0).val, 0] ∧ win0_1.index t = ![0, 0]
    ∧ win0_2.index t = ![(grid0.coords t 0).val / 8, 0, 0] ∧ win0_3.index t = ![(grid0.coords t 0).val / 8, 0, 0]
    ∧ win0_4.index t = ![(grid0.coords t 0).val, 0] :=
  (by decide +kernel : ∀ t : Fin grid0.N, _)

/-- The layer's input as the kernel's host code lays it out: the batch's rows one after the other. -/
theorem rows (c : Dev nD) (r : Fin 16384) (k : Fin 4096) : V m c main_v0 (ix2 r k)
    = m ((c : Thread nD τ).loc main_arg0) (ix3 ⟨r / 4096, by omega⟩ ⟨r % 4096, by omega⟩ k) := by
  entry_read
  pointwise

/-- The norm's weights as the kernel's host code lays them out: one row. -/
theorem gain (c : Dev nD) (k : Fin 4096) : V m c main_v1 (ix2 0 k) = m ((c : Thread nD τ).loc main_arg1) (ix1 k) := by
  entry_read
  pointwise

/-- The scale as the kernel's host code lays it out: one row a batch. -/
theorem scale (c : Dev nD) (b : Fin 4) (k : Fin 4096) : V m c main_v2 (ix3 b 0 k)
    = m ((c : Thread nD τ).loc main_arg2) (ix2 b k) := by
  entry_read
  pointwise

/-- The shift as the kernel's host code lays it out: one row a batch. -/
theorem shift (c : Dev nD) (b : Fin 4) (k : Fin 4096) : V m c main_v3 (ix3 b 0 k)
    = m ((c : Thread nD τ).loc main_arg3) (ix2 b k) := by
  entry_read
  pointwise

/-- What a grid point stores at a place of its block is the reference's entry at the place of the array. -/
theorem point (c : Dev nD) (t : Fin cfg0.N) (y) : k0_pay1 (iblk m c 0 t) (iblk m c 1 t) (iblk m c 2 t) (iblk m c 3 t) y
    = REF (m ((c : Thread nD τ).loc main_arg0)) (m ((c : Thread nD τ).loc main_arg1)) (m ((c : Thread nD τ).loc main_arg2)) (m ((c : Thread nD τ).loc main_arg3)) (((cfg0.win 4).blk t).view.emb y) := by
  pointwise [k0_pay1, REF, Cert.ReferenceNormIdeal.Read.val_main_v0,
    Cert.ReferenceNormIdeal.Read.val_main_cst,
    Cert.ReferenceNormIdeal.Read.val_main_v1,
    Cert.ReferenceNormIdeal.Read.val_main_v2,
    Cert.ReferenceNormIdeal.Read.val_main_cst_0,
    Cert.ReferenceNormIdeal.Read.val_main_v3,
    Cert.ReferenceNormIdeal.Read.val_main_v4,
    Cert.ReferenceNormIdeal.Read.val_main_cst_1,
    Cert.ReferenceNormIdeal.Read.val_main_v5,
    Cert.ReferenceNormIdeal.Read.val_main_v6,
    Cert.ReferenceNormIdeal.Read.val_main_v7,
    Cert.ReferenceNormIdeal.Read.val_main_v8,
    Cert.ReferenceNormIdeal.Read.val_main_v9,
    Cert.ReferenceNormIdeal.Read.val_main_v10,
    Cert.ReferenceNormIdeal.Read.val_main_v11,
    Cert.ReferenceNormIdeal.Read.val_main_v12,
    Cert.ReferenceNormIdeal.Read.val_main_v13,
    Cert.ReferenceNormIdeal.Read.val_main_cst_2,
    Cert.ReferenceNormIdeal.Read.val_main_v14,
    Cert.ReferenceNormIdeal.Read.val_main_v15,
    Cert.ReferenceNormIdeal.Read.val_main_v16,
    Cert.ReferenceNormIdeal.Read.val_main_v17,
    Cert.ReferenceNormIdeal.Read.val_main_v18,
    Cert.ReferenceNormIdeal.Read.val_main_v19,
    Cert.ReferenceNormIdeal.Read.val_main_v20,
    Cert.ReferenceNormIdeal.Read.val_main_v21,
    Cert.ReferenceNormIdeal.Read.val_main_v22]
  have hx : ∀ k : Fin 4096, iblk m c 0 t (ix2 (y 0) k)
      = V m c main_v0 (ix2 (((cfg0.win 4).blk t).view.emb y 0) k) := fun k => by
    blk_ext [iblk, idx t]
  refine congrArg₂ (· + ·) (congrArg₂ (· * ·) (congrArg₂ (· * ·) (congrArg₂ (· * ·) ?_ (congrArg Ideal.rsqrt
    (congrArg (· + _) (congrArg (Ideal.div · _) (Finset.sum_congr rfl fun k _ => congrArg₂ (· * ·) ?_ ?_))))) ?_)
      (congrArg (1 + ·) ?_)) ?_
  · refine Eq.trans ?_ (rows m c _ _)
    blk_ext [iblk, idx t]
  · exact (hx k).trans (rows m c _ _)
  · exact (hx k).trans (rows m c _ _)
  · refine Eq.trans ?_ (gain m c _)
    blk_ext [iblk, idx t]
  · refine Eq.trans ?_ (scale m c _ _)
    blk_ext [iblk, idx t]
  · refine Eq.trans ?_ (shift m c _ _)
    blk_ext [iblk, idx t]

/-- The array after the run is the reference's. -/
theorem final (c : Dev nD) : (dats m 0 c).arrAt 4 (cfgs 0).N
    = REF (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  exact point m c t y

end Cert.KernelNormIdeal.Val

end
-- ==== Proof.Route.Sort.lean ====
module

public import Idealize.ShloMosaic.PureOps.Ideal
public import Idealize.ShloMosaic.Lib.PlanTiles.StableSort
public import Idealize.ShloMosaic.Lib.ValueIdx

@[expose] public section

noncomputable section

namespace Cert.Route

open Idealize.ShloMosaic

/-- One place of a row stands before another: its entry is greater, or the entries are equal and the place comes first. -/
def Before {n : Nat} (f : Fin n → EReal) (a b : Fin n) : Prop := f b < f a ∨ (f a = f b ∧ a < b)

/-- How many entries of a row lie below the entry at a place. -/
def rank {n : Nat} (f : Fin n → EReal) (k : Fin n) : Nat := (Finset.univ.filter fun j => f j < f k).card

/-- A smaller entry has a smaller rank. -/
theorem rank_lt {n : Nat} (f : Fin n → EReal) {a b : Fin n} (h : f a < f b) : rank f a < rank f b := by
  refine Finset.card_lt_card ⟨fun j hj => ?_, fun hs => ?_⟩
  · simp only [Finset.mem_filter, Finset.mem_univ, true_and] at hj ⊢
    exact hj.trans h
  · have := hs (Finset.mem_filter.mpr ⟨Finset.mem_univ a, h⟩)
    simp at this

/-- An entry not larger has a rank not larger. -/
theorem rank_le {n : Nat} (f : Fin n → EReal) {a b : Fin n} (h : f a ≤ f b) : rank f a ≤ rank f b :=
  Finset.card_le_card fun j hj => by
    simp only [Finset.mem_filter, Finset.mem_univ, true_and] at hj ⊢
    exact hj.trans_le h

/-- Ranks are ordered as the entries are. -/
theorem rank_lt_iff {n : Nat} (f : Fin n → EReal) (a b : Fin n) : rank f a < rank f b ↔ f a < f b :=
  ⟨fun h => by by_contra hc; exact absurd (rank_le f (not_lt.mp hc)) (by omega), rank_lt f⟩

/-- The order in which the places of a row come out of a stable sort by descending entries. -/
abbrev order {n : Nat} (f : Fin n → EReal) : Fin n → Fin n := sortedFrom fun a b => decide (f b < f a)

/-- Of two places of the sorted row the earlier one's entry stands before the later one's. -/
theorem order_before {n : Nat} (f : Fin n → EReal) {i j : Fin n} (h : i < j) : Before f (order f i) (order f j) := by
  have e : (fun a b : Fin n => decide (f b < f a)) = fun a b => decide (rank f b < rank f a) := by
    funext a b; simp only [rank_lt_iff]
  have hp := List.pairwise_iff_get.mp
    (PlanTiles.pairwise_stableSort_lex (rank f) (· < ·) (List.finRange n) (List.pairwise_lt_finRange n))
  unfold order
  rw [e]
  have := hp (i.cast (length_sortPositions n _).symm) (j.cast (length_sortPositions n _).symm) (show i.val < j.val from h)
  rcases this with h1 | ⟨h1, h2⟩
  · exact Or.inl ((rank_lt_iff f _ _).mp h1)
  · refine Or.inr ⟨le_antisymm (not_lt.mp fun hc => ?_) (not_lt.mp fun hc => ?_), h2⟩
    · exact absurd (rank_lt f hc) (by unfold sortedFrom sortPositions; omega)
    · exact absurd (rank_lt f hc) (by unfold sortedFrom sortPositions; omega)

/-- The first place of the sorted row stands before every other one. -/
theorem order_first (f : Fin 8 → EReal) (k : Fin 8) (hk : k ≠ order f 0) : Before f (order f 0) k := by
  obtain ⟨i, rfl⟩ := sortedFrom_surjective (fun a b => decide (f b < f a)) k
  exact order_before f (Fin.pos_iff_ne_zero.mpr fun h => hk (by rw [h]))

/-- The second place of the sorted row stands before every other one but the first. -/
theorem order_second (f : Fin 8 → EReal) (k : Fin 8) (h0 : k ≠ order f 0) (h1 : k ≠ order f 1) :
    Before f (order f 1) k := by
  obtain ⟨i, rfl⟩ := sortedFrom_surjective (fun a b => decide (f b < f a)) k
  refine order_before f ?_
  have hi : i ≠ 0 := fun h => h0 (by rw [h])
  have hj : i ≠ 1 := fun h => h1 (by rw [h])
  revert hi hj
  generalize i = q
  revert q
  decide

/-- The second place of the sorted row is not the first. -/
theorem order_ne (f : Fin 8 → EReal) : order f 1 ≠ order f 0 := fun h =>
  absurd (sortedFrom_injective _ h) (by decide)

/-- An order that holds of a row after a strictly increasing map holds of the row. -/
theorem Before.of_mono {n : Nat} {f g : Fin n → EReal} (h1 : ∀ x y, g x < g y → f x < f y) (h2 : ∀ x y, g x = g y → f x = f y)
    {a b : Fin n} (h : Before f a b) : Before g a b := by
  rcases lt_trichotomy (g a) (g b) with hg | hg | hg
  · have := h1 _ _ hg
    rcases h with h | ⟨h, -⟩
    · exact absurd (this.trans h) (lt_irrefl _)
    · exact absurd this (by rw [h]; exact lt_irrefl _)
  · rcases h with h | ⟨-, hl⟩
    · exact absurd h (by rw [h2 _ _ hg]; exact lt_irrefl _)
    · exact Or.inr ⟨hg, hl⟩
  · exact Or.inl hg

end Cert.Route

end
-- ==== Proof.Route.Row.lean ====
module

public import proofs.«01_k».proof.Proof.Gen.KernelRouteIdeal.Value
public import proofs.«01_k».proof.Proof.Route.Sort
public import Idealize.ShloMosaic.Lib.Pipeline.ValueKit

@[expose] public section

set_option maxRecDepth 16384

noncomputable section

namespace Cert.Route

open Cert.KernelRouteIdeal Cert.KernelRouteIdeal.Gen Idealize.ShloMosaic Idealize.ShloMosaic.TcCoe

/-! ## The literals -/

/-- The value of a constant of the programs. -/
theorem lit2 : Ideal.ofBits .f32 1073741824#32 = ((2 : ℝ) : EReal) := by
  simp [Ideal.ofBits, Ideal.ieee]; norm_cast <;> norm_num
/-- The value of a constant of the programs. -/
theorem lit3 : Ideal.ofBits .f32 1077936128#32 = ((3 : ℝ) : EReal) := by
  simp [Ideal.ofBits, Ideal.ieee]; norm_cast <;> norm_num
/-- The value of a constant of the programs. -/
theorem lit8 : Ideal.ofBits .f32 1090519040#32 = ((8 : ℝ) : EReal) := by
  simp [Ideal.ofBits, Ideal.ieee]; norm_cast <;> norm_num
/-- The value of a constant of the programs. -/
theorem litBig : Ideal.ofBits .f32 1315859240#32 = ((1000000000 : ℝ) : EReal) := by
  simp [Ideal.ofBits, Ideal.ieee]; norm_cast <;> norm_num
/-- The value of a constant of the programs. -/
theorem litBot : Ideal.ofBits .f32 4286578688#32 = ⊥ := by
  have h1 : (BitVec.extractLsb' 23 8 4286578688#32).toNat = 2 ^ 8 - 1 := by decide
  simp only [Ideal.ofBits, Ideal.ieee]
  rw [if_pos h1]
  simp
/-- The value of a constant of the programs. -/
theorem litTop : Ideal.ofBits .f32 2139095040#32 = ⊤ := by
  have h1 : (BitVec.extractLsb' 23 8 2139095040#32).toNat = 2 ^ 8 - 1 := by decide
  simp only [Ideal.ofBits, Ideal.ieee]
  rw [if_pos h1]
  simp

/-! ## The greatest entry and its first place -/

/-- The greatest of a row is the entry that stands before all others. -/
theorem fold_max_of_before {n : Nat} (f : Fin n → EReal) (p : Fin n) (h : ∀ k, k ≠ p → Before f p k) :
    Finset.fold max ⊥ f Finset.univ = f p := by
  refine le_antisymm (Finset.fold_max_le _ |>.mpr ⟨bot_le, fun j _ => ?_⟩) (Finset.le_fold_max _ |>.mpr (Or.inr ⟨p, Finset.mem_univ _, le_rfl⟩))
  by_cases hj : j = p
  · rw [hj]
  · rcases h j hj with h1 | ⟨h1, -⟩
    · exact h1.le
    · exact h1.ge

/-- The least place at which a row has its greatest entry is the place that stands before all others. -/
theorem fold_min_of_before {n : Nat} (f : Fin n → EReal) (p : Fin n) (h : ∀ k, k ≠ p → Before f p k) (big : EReal)
    (hbig : ((p.val : ℝ) : EReal) ≤ big) :
    Finset.fold min ⊤ (fun x => if f x = f p then ((x.val : ℝ) : EReal) else big) Finset.univ = ((p.val : ℝ) : EReal) := by
  refine le_antisymm (Finset.fold_min_le _ |>.mpr (Or.inr ⟨p, Finset.mem_univ _, by rw [if_pos rfl]⟩))
    (Finset.le_fold_min _ |>.mpr ⟨le_top, fun j _ => ?_⟩)
  split_ifs with hj
  · by_cases hp : j = p
    · rw [hp]
    · rcases h j hp with h1 | ⟨-, h1⟩
      · exact absurd hj h1.ne
      · exact_mod_cast h1.le
  · exact hbig

/-- A sum over all lanes of what stands in the first eight is the sum over the eight. -/
theorem sum_eight (F : Fin 128 → EReal) :
    (∑ x : Fin 128, if x.val < 8 then F x else 0) = ∑ k : Fin 8, F ⟨k.val, by omega⟩ := by
  rw [show (∑ x : Fin 128, if x.val < 8 then F x else 0) = ∑ x : Fin (8 + 120), if x.val < 8 then F x else 0 from rfl, Fin.sum_univ_add]
  have h1 : (∑ i : Fin 120, if (Fin.natAdd 8 i).val < 8 then F (Fin.natAdd 8 i) else 0) = 0 :=
    Finset.sum_eq_zero fun i _ => if_neg (by simp)
  rw [h1, add_zero]
  exact Finset.sum_congr rfl fun k _ => if_pos k.isLt

/-- The first eight lanes by their number as a real. -/
theorem lane_lt_eight (x : Fin 128) : ((x.val : ℝ) : EReal) < ((8 : ℝ) : EReal) ↔ x.val < 8 := by
  rw [EReal.coe_lt_coe_iff]; norm_cast

/-- A lane's number as a real is that of a natural number exactly when it is that lane. -/
theorem lane_eq (x : Fin 128) (n : ℕ) (z : ℝ) (hz : (n : ℝ) = z) : ((x.val : ℝ) : EReal) = (z : EReal) ↔ x.val = n := by
  rw [EReal.coe_eq_coe_iff, ← hz, Nat.cast_inj]

/-- The first four lanes hold one real number each, and the others nought. -/
theorem four_lanes (x : Fin 128) (A B C D : ℝ) :
    (if ((x.val : ℝ) : EReal) = ((0 : ℝ) : EReal) then (A : EReal) else if ((x.val : ℝ) : EReal) = ((1 : ℝ) : EReal) then (B : EReal)
      else if ((x.val : ℝ) : EReal) = ((2 : ℝ) : EReal) then (C : EReal) else if ((x.val : ℝ) : EReal) = ((3 : ℝ) : EReal) then (D : EReal)
      else ((0 : ℝ) : EReal))
    = ((if x.val = 0 then A else if x.val = 1 then B else if x.val = 2 then C else if x.val = 3 then D else 0 : ℝ) : EReal) := by
  rw [if_congr (lane_eq x 0 0 Nat.cast_zero) rfl rfl, if_congr (lane_eq x 1 1 Nat.cast_one) rfl rfl,
    if_congr (lane_eq x 2 2 (Nat.cast_ofNat)) rfl rfl, if_congr (lane_eq x 3 3 (Nat.cast_ofNat)) rfl rfl]
  rw [apply_ite (fun z : ℝ => (z : EReal)), apply_ite (fun z : ℝ => (z : EReal)), apply_ite (fun z : ℝ => (z : EReal)),
    apply_ite (fun z : ℝ => (z : EReal))]

/-- A finite sum of reals, read as an extended real. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The real number one divided by a positive sum. -/
theorem div_real (a b : ℝ) (hb : b ≠ 0) : Ideal.div ((a : ℝ) : EReal) ((b : ℝ) : EReal) = ((a / b : ℝ) : EReal) := by
  unfold Ideal.div
  rw [if_neg (by exact_mod_cast hb), ← EReal.coe_inv, ← EReal.coe_mul, div_eq_mul_inv]

/-- The exponential of a difference of reals. -/
theorem exp_sub_real (a b : ℝ) : Ideal.exp (((a : ℝ) : EReal) - ((b : ℝ) : EReal)) = ((Real.exp (a - b) : ℝ) : EReal) := by
  rw [← EReal.coe_sub]; rfl

/-! ## A row of the kernel -/

section Row

/-- A group's lane is one of the row's. -/
theorem group_lt (k : Fin 8) : k.val < 128 := by omega
/-- An expert's lane is one of the row's. -/
theorem expert_lt (a k : Fin 8) : 8 + 8 * a.val + k.val < 128 := by omega

variable (v35 : FVec Ideal S256x128 .f32) (v36 : IVec S256x128 32) (r : Fin 256)
  (hcol : ∀ x : Fin 128, FloatOps.sitofp (F := Ideal) FTy.f32 (v36 (ix2 r x)) = ((x.val : ℝ) : EReal))
  (g : Fin 8 → ℝ) (e : Fin 8 → Fin 8 → ℝ)
  (hg : ∀ k : Fin 8, v35 (ix2 r ⟨k.val, group_lt k⟩) = ((g k : ℝ) : EReal))
  (he : ∀ a k : Fin 8, v35 (ix2 r ⟨8 + 8 * a.val + k.val, expert_lt a k⟩) = ((e a k : ℝ) : EReal))
  (a b c : Fin 8)
  (ha : ∀ k, k ≠ a → Before (fun k => ((g k : ℝ) : EReal)) a k)
  (hb : ∀ k, k ≠ b → Before (fun k => ((e a k : ℝ) : EReal)) b k)
  (hc : ∀ k, k ≠ b → k ≠ c → Before (fun k => ((e a k : ℝ) : EReal)) c k) (hcb : c ≠ b)

include hcol

/-- The group logits, and minus infinity in the other lanes. -/
theorem pay6_at (x : Fin 128) : k0_pay6 (F := Ideal) v35 v36 (ix2 r x) = if x.val < 8 then v35 (ix2 r x) else ⊥ := by
  pointwise [k0_pay6, k0_pay5, k0_pay4]
  rw [hcol, lit8, litBot]
  exact if_congr (lane_lt_eight x) rfl rfl

include hg ha

/-- Among the lanes the chosen group's logit stands before all others. -/
theorem pay6_before (k : Fin 128) (hk : k ≠ ⟨a.val, by omega⟩) :
    Before (fun x => k0_pay6 (F := Ideal) v35 v36 (ix2 r x)) ⟨a.val, by omega⟩ k := by
  unfold Before
  simp only [pay6_at v35 v36 r hcol]
  have e1 : v35 (ix2 r ⟨a.val, by omega⟩) = ((g a : ℝ) : EReal) := hg a
  rw [if_pos a.isLt, e1]
  by_cases h : k.val < 8
  · rw [if_pos h]
    have e2 : v35 (ix2 r k) = ((g ⟨k.val, h⟩ : ℝ) : EReal) := hg ⟨k.val, h⟩
    rw [e2]
    exact ha ⟨k.val, h⟩ fun hq => hk (by subst hq; rfl)
  · rw [if_neg h]
    exact Or.inl (EReal.bot_lt_coe _)

/-- The greatest group logit. -/
theorem pay7_at : k0_pay7 (F := Ideal) v35 v36 (ix2 r 0) = ((g a : ℝ) : EReal) := by
  pointwise [k0_pay7]
  rw [litBot]
  refine (fold_max_of_before (fun x => k0_pay6 (F := Ideal) v35 v36 (ix2 r x)) ⟨a.val, by omega⟩
    (pay6_before v35 v36 r hcol g hg a ha)).trans ?_
  rw [pay6_at v35 v36 r hcol, if_pos a.isLt]
  exact hg a

/-- The weight of the chosen group: one over the sum of the exponentials. -/
theorem pay8_at : k0_pay8 (F := Ideal) v35 v36 (ix2 r 0) = ((1 / ∑ k, Real.exp (g k - g a) : ℝ) : EReal) := by
  pointwise [k0_pay8]
  have e1 : (∑ x : Fin 128, Scalar.select (k0_pay5 (F := Ideal) v36 (ix2 r x))
      (Ideal.exp (k0_pay6 (F := Ideal) v35 v36 (ix2 r x) - k0_pay7 (F := Ideal) v35 v36 (ix2 r 0))) 0)
      = ((∑ k, Real.exp (g k - g a) : ℝ) : EReal) := by
    rw [pay7_at v35 v36 r hcol g hg a ha]
    have e2 : ∀ x : Fin 128, Scalar.select (k0_pay5 (F := Ideal) v36 (ix2 r x))
        (Ideal.exp (k0_pay6 (F := Ideal) v35 v36 (ix2 r x) - ((g a : ℝ) : EReal))) (0 : EReal)
        = if x.val < 8 then Ideal.exp (v35 (ix2 r x) - ((g a : ℝ) : EReal)) else 0 := fun x => by
      rw [pay6_at v35 v36 r hcol]
      pointwise [k0_pay5, k0_pay4]
      rw [hcol, lit8]
      by_cases h : x.val < 8
      · rw [if_pos ((lane_lt_eight x).mpr h), if_pos h, if_pos h]
      · rw [if_neg fun hq => h ((lane_lt_eight x).mp hq), if_neg h]
    rw [Finset.sum_congr rfl fun x _ => e2 x, sum_eight]
    rw [coe_sum]
    refine Finset.sum_congr rfl fun k _ => ?_
    rw [hg k, exp_sub_real]
  rw [e1, ← EReal.coe_one]
  exact div_real _ _ (Finset.sum_pos (fun k _ => Real.exp_pos _) ⟨a, Finset.mem_univ _⟩).ne'

/-- The logits of the chosen group's experts, and minus infinity in the other lanes. -/
theorem pay9_at (x : Fin 128) : k0_pay9 (F := Ideal) v35 v36 (ix2 r x)
    = if 8 + 8 * a.val ≤ x.val ∧ x.val < 16 + 8 * a.val then v35 (ix2 r x) else ⊥ := by
  pointwise [k0_pay9, k0_pay4]
  have e1 : Finset.fold min (Ideal.ofBits FTy.f32 2139095040#32)
      (fun x => if k0_pay6 (F := Ideal) v35 v36 (ix2 r x) = k0_pay7 (F := Ideal) v35 v36 (ix2 r 0) then
          FloatOps.sitofp (F := Ideal) FTy.f32 (v36 (ix2 r x)) else Ideal.ofBits FTy.f32 1315859240#32) Finset.univ
      = ((a.val : ℝ) : EReal) := by
    have e2 : k0_pay7 (F := Ideal) v35 v36 (ix2 r 0) = k0_pay6 (F := Ideal) v35 v36 (ix2 r ⟨a.val, by omega⟩) := by
      rw [pay7_at v35 v36 r hcol g hg a ha, pay6_at v35 v36 r hcol, if_pos a.isLt]
      exact (hg a).symm
    simp only [hcol, litTop, litBig, e2]
    exact fold_min_of_before (fun x => k0_pay6 (F := Ideal) v35 v36 (ix2 r x)) ⟨a.val, by omega⟩
      (pay6_before v35 v36 r hcol g hg a ha) _ (by
        rw [EReal.coe_le_coe_iff]
        have : (a.val : ℝ) ≤ 8 := by exact_mod_cast a.isLt.le
        show (a.val : ℝ) ≤ _
        linarith)
  rw [e1, hcol, lit8, litBot]
  have e3 : ((8 : ℝ) : EReal) + ((a.val : ℝ) : EReal) * ((8 : ℝ) : EReal) = (((8 + 8 * a.val : ℕ) : ℝ) : EReal) := by
    rw [← EReal.coe_mul, ← EReal.coe_add]
    congr 1; push_cast; ring
  have e4 : (((8 + 8 * a.val : ℕ) : ℝ) : EReal) + ((8 : ℝ) : EReal) = (((16 + 8 * a.val : ℕ) : ℝ) : EReal) := by
    rw [← EReal.coe_add]
    congr 1; push_cast; ring
  rw [e3, e4]
  simp only [EReal.coe_le_coe_iff, EReal.coe_lt_coe_iff, Nat.cast_le, Nat.cast_lt]
  by_cases h1 : 8 + 8 * a.val ≤ x.val <;> by_cases h2 : x.val < 16 + 8 * a.val <;> simp [h1, h2, Scalar.select, IntOp.andi]

include he

/-- The chosen group's logits in their lanes. -/
theorem pay9_in (k : Fin 8) : k0_pay9 (F := Ideal) v35 v36 (ix2 r ⟨8 + 8 * a.val + k.val, by omega⟩) = ((e a k : ℝ) : EReal) := by
  rw [pay9_at v35 v36 r hcol g hg a ha, if_pos ⟨by show _ ≤ 8 + 8 * a.val + k.val; omega, by show 8 + 8 * a.val + k.val < _; omega⟩]
  exact he a k

/-- A lane is one of the chosen group's or holds minus infinity. -/
theorem pay9_cases (x : Fin 128) : (∃ k : Fin 8, x = ⟨8 + 8 * a.val + k.val, by omega⟩) ∨ k0_pay9 (F := Ideal) v35 v36 (ix2 r x) = ⊥ := by
  by_cases h : 8 + 8 * a.val ≤ x.val ∧ x.val < 16 + 8 * a.val
  · exact Or.inl ⟨⟨x.val - (8 + 8 * a.val), by omega⟩, Fin.ext (by show x.val = 8 + 8 * a.val + (x.val - (8 + 8 * a.val)); omega)⟩
  · exact Or.inr ((pay9_at v35 v36 r hcol g hg a ha x).trans (if_neg h))

include hb

/-- Among the lanes the first expert's logit stands before all others. -/
theorem pay9_before (x : Fin 128) (hx : x ≠ ⟨8 + 8 * a.val + b.val, by omega⟩) :
    Before (fun x => k0_pay9 (F := Ideal) v35 v36 (ix2 r x)) ⟨8 + 8 * a.val + b.val, by omega⟩ x := by
  rcases pay9_cases v35 v36 r hcol g e hg he a ha x with ⟨k, rfl⟩ | h
  · have := hb k fun hq => hx (by rw [hq])
    unfold Before at this ⊢
    simp only [pay9_in v35 v36 r hcol g e hg he a ha]
    rcases this with h1 | ⟨h1, h2⟩
    · exact Or.inl h1
    · exact Or.inr ⟨h1, by show 8 + 8 * a.val + b.val < 8 + 8 * a.val + k.val; have : b.val < k.val := h2; omega⟩
  · refine Or.inl ?_
    show k0_pay9 (F := Ideal) v35 v36 (ix2 r x) < k0_pay9 (F := Ideal) v35 v36 (ix2 r _)
    rw [h, pay9_in v35 v36 r hcol g e hg he a ha]
    exact EReal.bot_lt_coe _

/-- The greatest logit of the group's experts. -/
theorem pay10_at : k0_pay10 (F := Ideal) v35 v36 (ix2 r 0) = ((e a b : ℝ) : EReal) := by
  pointwise [k0_pay10]
  rw [litBot]
  exact (fold_max_of_before (fun x => k0_pay9 (F := Ideal) v35 v36 (ix2 r x)) _
    (pay9_before v35 v36 r hcol g e hg he a b ha hb)).trans (pay9_in v35 v36 r hcol g e hg he a ha b)

/-- The lane of the first expert. -/
theorem pay11_at : k0_pay11 (F := Ideal) v35 v36 (ix2 r 0) = (((8 + 8 * a.val + b.val : ℕ) : ℝ) : EReal) := by
  pointwise [k0_pay11, k0_pay4]
  have e2 : k0_pay10 (F := Ideal) v35 v36 (ix2 r 0) = k0_pay9 (F := Ideal) v35 v36 (ix2 r ⟨8 + 8 * a.val + b.val, by omega⟩) := by
    rw [pay10_at v35 v36 r hcol g e hg he a b ha hb, pay9_in v35 v36 r hcol g e hg he a ha b]
  simp only [hcol, litTop, litBig, e2]
  exact fold_min_of_before (fun x => k0_pay9 (F := Ideal) v35 v36 (ix2 r x)) ⟨8 + 8 * a.val + b.val, by omega⟩
    (pay9_before v35 v36 r hcol g e hg he a b ha hb) _ (by
      rw [EReal.coe_le_coe_iff]
      have : ((8 + 8 * a.val + b.val : ℕ) : ℝ) ≤ (128 : ℕ) := Nat.cast_le.mpr (by omega)
      push_cast at this ⊢
      linarith)

/-- Whether a lane is the first expert's. -/
theorem pay12_at (x : Fin 128) : k0_pay12 (F := Ideal) v35 v36 (ix2 r x) = BitVec.ofBool (decide (x.val = 8 + 8 * a.val + b.val)) := by
  pointwise [k0_pay12, k0_pay4]
  rw [hcol, pay11_at v35 v36 r hcol g e hg he a b ha hb]
  simp only [EReal.coe_eq_coe_iff, Nat.cast_inj]

include hc hcb

/-- Among the lanes without the first expert's the second expert's logit stands before all others. -/
theorem second_before (x : Fin 128) (hx : x ≠ ⟨8 + 8 * a.val + c.val, by omega⟩) :
    Before (fun x => Scalar.select (k0_pay12 (F := Ideal) v35 v36 (ix2 r x)) (⊥ : EReal) (k0_pay9 (F := Ideal) v35 v36 (ix2 r x)))
      ⟨8 + 8 * a.val + c.val, by omega⟩ x := by
  have hne : c.val ≠ b.val := fun h => hcb (Fin.ext h)
  have e1 : Scalar.select (k0_pay12 (F := Ideal) v35 v36 (ix2 r ⟨8 + 8 * a.val + c.val, by omega⟩)) (⊥ : EReal)
      (k0_pay9 (F := Ideal) v35 v36 (ix2 r ⟨8 + 8 * a.val + c.val, by omega⟩)) = ((e a c : ℝ) : EReal) := by
    rw [pay12_at v35 v36 r hcol g e hg he a b ha hb, pay9_in v35 v36 r hcol g e hg he a ha]
    rw [show decide ((⟨8 + 8 * a.val + c.val, by omega⟩ : Fin 128).val = 8 + 8 * a.val + b.val) = false from decide_eq_false (by show ¬ 8 + 8 * a.val + c.val = _; omega)]
    rfl
  unfold Before
  simp only [e1]
  by_cases h : x.val = 8 + 8 * a.val + b.val
  · refine Or.inl ?_
    rw [pay12_at v35 v36 r hcol g e hg he a b ha hb, show decide (x.val = 8 + 8 * a.val + b.val) = true from decide_eq_true h]
    exact EReal.bot_lt_coe _
  · have e2 : Scalar.select (k0_pay12 (F := Ideal) v35 v36 (ix2 r x)) (⊥ : EReal) (k0_pay9 (F := Ideal) v35 v36 (ix2 r x))
        = k0_pay9 (F := Ideal) v35 v36 (ix2 r x) := by
      rw [pay12_at v35 v36 r hcol g e hg he a b ha hb, show decide (x.val = 8 + 8 * a.val + b.val) = false from decide_eq_false h]
      rfl
    rw [e2]
    rcases pay9_cases v35 v36 r hcol g e hg he a ha x with ⟨k, rfl⟩ | h'
    · rw [pay9_in v35 v36 r hcol g e hg he a ha]
      rcases hc k (fun hq => h (by rw [hq])) (fun hq => hx (by rw [hq])) with h1 | ⟨h1, h2⟩
      · exact Or.inl h1
      · exact Or.inr ⟨h1, by show 8 + 8 * a.val + c.val < 8 + 8 * a.val + k.val; have : c.val < k.val := h2; omega⟩
    · rw [h']
      exact Or.inl (EReal.bot_lt_coe _)

/-- The second entry's logit, as the greatest without the first. -/
theorem second_at (x : Fin 128) (hx : x = ⟨8 + 8 * a.val + c.val, by omega⟩) :
    Scalar.select (k0_pay12 (F := Ideal) v35 v36 (ix2 r x)) (⊥ : EReal) (k0_pay9 (F := Ideal) v35 v36 (ix2 r x)) = ((e a c : ℝ) : EReal) := by
  subst hx
  have hne : c.val ≠ b.val := fun h => hcb (Fin.ext h)
  rw [pay12_at v35 v36 r hcol g e hg he a b ha hb, pay9_in v35 v36 r hcol g e hg he a ha]
  rw [show decide ((⟨8 + 8 * a.val + c.val, by omega⟩ : Fin 128).val = 8 + 8 * a.val + b.val) = false from decide_eq_false (by show ¬ 8 + 8 * a.val + c.val = _; omega)]
  rfl

set_option maxHeartbeats 1000000 in
/-- A row of the kernel's second result: the two experts, their two weights, and nought in the other lanes. -/
theorem pay13_at (j : Fin 128) : k0_pay13 (F := Ideal) (k0_pay4 (F := Ideal) v36) (k0_pay8 v35 v36) (k0_pay9 v35 v36) (k0_pay10 v35 v36)
      (k0_pay11 v35 v36) (k0_pay12 (F := Ideal) v35 v36) (ix2 r j)
    = (((if j.val = 0 then ((8 * a.val + b.val : ℕ) : ℝ) else if j.val = 1 then ((8 * a.val + c.val : ℕ) : ℝ)
        else if j.val = 2 then (1 / ∑ k, Real.exp (g k - g a)) * (1 / (1 + Real.exp (e a c - e a b)))
        else if j.val = 3 then (1 / ∑ k, Real.exp (g k - g a)) * (Real.exp (e a c - e a b) / (1 + Real.exp (e a c - e a b))) else 0 : ℝ)) : EReal) := by
  pointwise [k0_pay13]
  have p4 : ∀ x : Fin 128, k0_pay4 (F := Ideal) v36 (ix2 r x) = ((x.val : ℝ) : EReal) := fun x => hcol x
  have hM := fold_max_of_before _ _ (second_before v35 v36 r hcol g e hg he a b c ha hb hc hcb)
  have hs := second_at v35 v36 r hcol g e hg he a b c ha hb hc hcb _ rfl
  have hm := fold_min_of_before _ _ (second_before v35 v36 r hcol g e hg he a b c ha hb hc hcb) ((1000000000 : ℝ) : EReal) (by
      rw [EReal.coe_le_coe_iff]
      have : ((8 + 8 * a.val + c.val : ℕ) : ℝ) ≤ (128 : ℕ) := Nat.cast_le.mpr (by omega)
      push_cast at this ⊢
      linarith)
  simp only [p4, litBot, litTop, litBig, lit2, lit3, lit8, hM, hm]
  rw [hs, pay8_at v35 v36 r hcol g hg a ha, pay10_at v35 v36 r hcol g e hg he a b ha hb,
    pay11_at v35 v36 r hcol g e hg he a b ha hb]
  have hpos : (1 : ℝ) + Real.exp (e a c - e a b) ≠ 0 := (add_pos one_pos (Real.exp_pos _)).ne'
  rw [exp_sub_real, ← EReal.coe_one, ← EReal.coe_zero, ← EReal.coe_add, div_real _ _ hpos, div_real _ _ hpos]
  have t0 : (((8 + 8 * a.val + b.val : ℕ) : ℝ) : EReal) - ((8 : ℝ) : EReal) = (((8 * a.val + b.val : ℕ) : ℝ) : EReal) := by
    rw [← EReal.coe_sub, EReal.coe_eq_coe_iff]; push_cast; ring
  have t1 : (((8 + 8 * a.val + c.val : ℕ) : ℝ) : EReal) - ((8 : ℝ) : EReal) = (((8 * a.val + c.val : ℕ) : ℝ) : EReal) := by
    rw [← EReal.coe_sub, EReal.coe_eq_coe_iff]; push_cast; ring
  rw [t0, t1]
  generalize (1 / ∑ k, Real.exp (g k - g a)) = W
  generalize Real.exp (e a c - e a b) = E
  simp only [← EReal.coe_mul]
  exact four_lanes j _ _ _ _

end Row

end Cert.Route

end
-- ==== Proof.Route.Soft.lean ====
module

public import proofs.«01_k».proof.Proof.Route.Row
public import proofs.«01_k».proof.Proof.Gen.ReferenceRouteIdeal.Read

@[expose] public section

set_option maxRecDepth 16384

noncomputable section

namespace Cert.Route

open Cert.ReferenceRouteIdeal Cert.ReferenceRouteIdeal.Gen Idealize.ShloMosaic Idealize.ShloMosaic.TcCoe

/-! ## The greatest entries of a row -/

/-- The host's choice of the greatest entries of each row: the row's entries, and their places, in the order of a stable sort. -/
theorem topK_at {q : Nat} (x : FVec Ideal S16384x8 .f32) (h : S16384x8.Slices (fun _ => 0) ⟨2, ![16384, q]⟩) (r : Fin 16384)
    (p : Fin q) (hp : p.val < 8) :
    (Host.topK ⟨2, ![16384, q]⟩ 1 (FloatOps.cmpfTotal (F := Ideal) (φ := .f32) .gt) x h).1 (ix2 r p)
        = x (ix2 r (order (fun k : Fin 8 => x (ix2 r k)) ⟨p.val, hp⟩))
    ∧ (Host.topK ⟨2, ![16384, q]⟩ 1 (FloatOps.cmpfTotal (F := Ideal) (φ := .f32) .gt) x h).2 (ix2 r p)
        = BitVec.ofNat 32 (order (fun k : Fin 8 => x (ix2 r k)) ⟨p.val, hp⟩).val := by
  have e : (fun a : Fin S16384x8.rank => (⟨0 + ((ix2 r p : (⟨2, ![16384, q]⟩ : Shape).Idx) (a.cast h.1.symm)).val,
      Nat.lt_of_lt_of_le (Nat.add_lt_add_left ((ix2 r p : (⟨2, ![16384, q]⟩ : Shape).Idx) _).isLt _) (h.2 a)⟩ : Fin (S16384x8.size a)))
      = (ix2 r (⟨p.val, hp⟩ : Fin 8) : S16384x8.Idx) := by
    funext a
    match a with
    | ⟨0, _⟩ => exact Fin.ext (Nat.zero_add _)
    | ⟨1, _⟩ => exact Fin.ext (Nat.zero_add _)
  have al : ∀ (i k : Fin 8), Shape.Idx.along (s := S16384x8) (ix2 r i) (1 : Fin 2) k = ix2 r k := by
    intro i k
    funext a
    match a with
    | ⟨0, _⟩ => rfl
    | ⟨1, _⟩ => rfl
  have hs : ∀ i : Fin 8, sortedFrom (fun k k' : Fin 8 => (FloatOps.cmpfTotal (F := Ideal) (φ := .f32) .gt
      (x (Shape.Idx.along (s := S16384x8) (ix2 r i) (1 : Fin 2) k))
      (x (Shape.Idx.along (s := S16384x8) (ix2 r i) (1 : Fin 2) k')) == 1#1)) i = order (fun k : Fin 8 => x (ix2 r k)) i := by
    intro i
    refine congrArg (fun f => sortedFrom f i) (funext fun k => funext fun k' => ?_)
    rw [al, al]
    show (BitVec.ofBool (decide (x (ix2 r k') < x (ix2 r k))) == 1#1) = decide (x (ix2 r k') < x (ix2 r k))
    cases decide (x (ix2 r k') < x (ix2 r k)) <;> rfl
  have key : ∀ (i : Fin 8) (z : IVec S16384x8 32), (Host.sort2 S16384x8 1 (fun l r : EReal × BitVec 32 => FloatOps.cmpfTotal (F := Ideal) (φ := .f32) .gt l.1 r.1) x z).1 (ix2 r i)
        = x (ix2 r (order (fun k : Fin 8 => x (ix2 r k)) i))
      ∧ (Host.sort2 S16384x8 1 (fun l r : EReal × BitVec 32 => FloatOps.cmpfTotal (F := Ideal) (φ := .f32) .gt l.1 r.1) x z).2 (ix2 r i)
        = z (ix2 r (order (fun k : Fin 8 => x (ix2 r k)) i)) := by
    intro i z
    unfold Host.sort2
    rw [dif_pos (show 1 < S16384x8.rank by decide)]
    refine ⟨congrArg x (Eq.trans ?_ (al i _)), congrArg z (Eq.trans ?_ (al i _))⟩
    · exact congrArg (Shape.Idx.along (s := S16384x8) (ix2 r i) (1 : Fin 2)) (hs i)
    · exact congrArg (Shape.Idx.along (s := S16384x8) (ix2 r i) (1 : Fin 2)) (hs i)
  unfold Host.topK extractStridedSlice
  have k2 := key ⟨p.val, hp⟩ (fun i => if hd : 1 < S16384x8.rank then iotaInDim S16384x8 32 ⟨1, hd⟩ i else 0#32)
  exact ⟨(congrArg _ e).trans k2.1, ((congrArg _ e).trans k2.2).trans rfl⟩

/-! ## The softmax of a row -/

/-- The softmax of a row of reals: its stable order is that of the row, and its entries are the exponentials less the
    first one's, divided by their sum. -/
theorem softmax_row (g : Fin 8 → ℝ) (S : Fin 8 → EReal)
    (hS : ∀ k, S k = Ideal.div (Ideal.exp ((g k : EReal) - Finset.fold max ⊥ (fun k => (g k : EReal)) Finset.univ))
      (∑ j, Ideal.exp ((g j : EReal) - Finset.fold max ⊥ (fun k => (g k : EReal)) Finset.univ))) :
    (∀ k, k ≠ order S 0 → Before (fun k => (g k : EReal)) (order S 0) k)
    ∧ (∀ k, k ≠ order S 0 → k ≠ order S 1 → Before (fun k => (g k : EReal)) (order S 1) k)
    ∧ ∀ k, S k = ((Real.exp (g k - g (order S 0)) / ∑ j, Real.exp (g j - g (order S 0)) : ℝ) : EReal) := by
  obtain ⟨b, hb⟩ := Finite.exists_max g
  have hM : Finset.fold max ⊥ (fun k => (g k : EReal)) Finset.univ = ((g b : ℝ) : EReal) :=
    le_antisymm (Finset.fold_max_le _ |>.mpr ⟨bot_le, fun j _ => by exact_mod_cast hb j⟩)
      (Finset.le_fold_max _ |>.mpr (Or.inr ⟨b, Finset.mem_univ _, le_rfl⟩))
  have hS' : ∀ k, S k = ((Real.exp (g k - g b) / ∑ j, Real.exp (g j - g b) : ℝ) : EReal) := by
    intro k
    rw [hS, hM]
    simp only [exp_sub_real]
    rw [← coe_sum]
    exact div_real _ _ (Finset.sum_pos (fun k _ => Real.exp_pos _) ⟨b, Finset.mem_univ _⟩).ne'
  have hZ : 0 < ∑ j, Real.exp (g j - g b) := Finset.sum_pos (fun k _ => Real.exp_pos _) ⟨b, Finset.mem_univ _⟩
  have h1 : ∀ x y, (g x : EReal) < (g y : EReal) → S x < S y := by
    intro x y h
    rw [hS', hS', EReal.coe_lt_coe_iff]
    exact div_lt_div_of_pos_right (Real.exp_lt_exp.mpr (sub_lt_sub_right (EReal.coe_lt_coe_iff.mp h) _)) hZ
  have h2 : ∀ x y, (g x : EReal) = (g y : EReal) → S x = S y := by
    intro x y h
    rw [hS', hS', EReal.coe_eq_coe_iff.mp h]
  have hf : ∀ k, k ≠ order S 0 → Before (fun k => (g k : EReal)) (order S 0) k := fun k hk =>
    Before.of_mono (g := fun k => (g k : EReal)) h1 h2 (order_first S k hk)
  refine ⟨hf, fun k h0 h1' => Before.of_mono (g := fun k => (g k : EReal)) h1 h2 (order_second S k h0 h1'), fun k => ?_⟩
  have he : g (order S 0) = g b := by
    refine le_antisymm (hb _) ?_
    by_cases h : b = order S 0
    · rw [← h]
    · rcases hf b h with h3 | ⟨h3, -⟩
      · exact (EReal.coe_lt_coe_iff.mp h3).le
      · exact (EReal.coe_eq_coe_iff.mp h3).ge
  rw [he]
  exact hS' k

/-! ## The chosen group's row -/

/-- A group's number as a word, read back. -/
theorem toInt_group : ∀ a : Fin 8, (BitVec.ofNat 32 a.val).toInt = a.val := by decide

/-- The host's gather of one group's row a token: where the index is that of a group, the group's row. -/
theorem gather_at (x : FVec Ideal S16384x8x8 .f32) (idx : IVec S16384x1x1 32) (r : Fin 16384) (a k : Fin 8)
    (h : idx (ix3 r 0 0) = BitVec.ofNat 32 a.val) :
    Host.gather gather_S16384x8x8_S16384x1x1_S16384x1x8_2_1_0_0_1_2_118 x idx (ix3 r 0 k) = x (ix3 r a k) := by
  unfold Host.gather
  refine congrArg x (funext fun b => Fin.ext ?_)
  match b with
  | ⟨0, _⟩ =>
    show GatherDims.start gather_S16384x8x8_S16384x1x1_S16384x1x8_2_1_0_0_1_2_118 (ix3 r 0 k) idx (0 : Fin 3)
      + GatherDims.batchCoord gather_S16384x8x8_S16384x1x1_S16384x1x8_2_1_0_0_1_2_118 (ix3 r 0 k) (0 : Fin 3)
      + GatherDims.offCoord gather_S16384x8x8_S16384x1x1_S16384x1x8_2_1_0_0_1_2_118 (ix3 r 0 k) (0 : Fin 3) = r.val
    rw [GatherDims.start_batching _ _ _ _ (show (0 : Fin 3) ∈ [(0 : Fin 3)] by decide), GatherDims.offCoord_eq_zero _ _ _ (by decide)]
    unfold GatherDims.batchCoord
    rw [dif_pos (show (0 : Fin S16384x8x8.rank) ∈ gather_S16384x8x8_S16384x1x1_S16384x1x8_2_1_0_0_1_2_118.operandBatchingDims by decide)]
    simp only [Nat.zero_add, Nat.add_zero]
    rfl
  | ⟨1, _⟩ =>
    show GatherDims.start gather_S16384x8x8_S16384x1x1_S16384x1x8_2_1_0_0_1_2_118 (ix3 r 0 k) idx (1 : Fin 3)
      + GatherDims.batchCoord gather_S16384x8x8_S16384x1x1_S16384x1x8_2_1_0_0_1_2_118 (ix3 r 0 k) (1 : Fin 3)
      + GatherDims.offCoord gather_S16384x8x8_S16384x1x1_S16384x1x8_2_1_0_0_1_2_118 (ix3 r 0 k) (1 : Fin 3) = a.val
    rw [GatherDims.batchCoord_eq_zero _ _ _ (show ¬(1 : Fin 3) ∈ [(0 : Fin 3)] by decide), GatherDims.offCoord_eq_zero _ _ _ (by decide)]
    unfold GatherDims.start
    rw [dif_pos (show (1 : Fin S16384x8x8.rank) ∈ gather_S16384x8x8_S16384x1x1_S16384x1x8_2_1_0_0_1_2_118.startIndexMap by decide)]
    have hsi : gather_S16384x8x8_S16384x1x1_S16384x1x8_2_1_0_0_1_2_118.siIdx (ix3 r 0 k) ⟨[(1 : Fin 3)].idxOf 1, by decide⟩ = ix3 r 0 0 := by
      funext b'
      match b' with
      | ⟨0, _⟩ => rfl
      | ⟨1, _⟩ => rfl
      | ⟨2, _⟩ => rfl
    have e : (idx (gather_S16384x8x8_S16384x1x1_S16384x1x8_2_1_0_0_1_2_118.siIdx (ix3 r 0 k) ⟨[(1 : Fin 3)].idxOf 1, by decide⟩)).toInt = a.val := by
      rw [hsi, h, toInt_group]
    have e2 : min (idx (gather_S16384x8x8_S16384x1x1_S16384x1x8_2_1_0_0_1_2_118.siIdx (ix3 r 0 k) ⟨[(1 : Fin 3)].idxOf 1, by decide⟩)).toInt.toNat 7 + 0 + 0 = a.val := by
      rw [e]
      omega
    exact e2
  | ⟨2, _⟩ =>
    show GatherDims.start gather_S16384x8x8_S16384x1x1_S16384x1x8_2_1_0_0_1_2_118 (ix3 r 0 k) idx (2 : Fin 3)
      + GatherDims.batchCoord gather_S16384x8x8_S16384x1x1_S16384x1x8_2_1_0_0_1_2_118 (ix3 r 0 k) (2 : Fin 3)
      + GatherDims.offCoord gather_S16384x8x8_S16384x1x1_S16384x1x8_2_1_0_0_1_2_118 (ix3 r 0 k) (2 : Fin 3) = k.val
    rw [GatherDims.batchCoord_eq_zero _ _ _ (show ¬(2 : Fin 3) ∈ [(0 : Fin 3)] by decide)]
    unfold GatherDims.start GatherDims.offCoord
    rw [dif_neg (show ¬(2 : Fin S16384x8x8.rank) ∈ gather_S16384x8x8_S16384x1x1_S16384x1x8_2_1_0_0_1_2_118.startIndexMap by decide), dif_pos (show (2 : Fin S16384x8x8.rank) ∈ gather_S16384x8x8_S16384x1x1_S16384x1x8_2_1_0_0_1_2_118.sKept by decide)]
    simp only [Nat.zero_add, Nat.add_zero]
    rfl

end Cert.Route

end
-- ==== Proof.Route.Ref.lean ====
module

public import proofs.«01_k».proof.Proof.Route.Soft
public import Idealize.ShloMosaic.Lib.Pipeline.ValueKit
public import Idealize.ShloMosaic.Lib.KernelVsHost
public import Idealize.ShloMosaic.Lib.ReduceAll

@[expose] public section

set_option maxRecDepth 16384

noncomputable section

namespace Cert.Route

open Cert.ReferenceRouteIdeal Cert.ReferenceRouteIdeal.Gen Cert.ReferenceRouteIdeal.Read Idealize.ShloMosaic Idealize.ShloMosaic.TcCoe

variable (x0 : FVec Ideal S4x4096x4096 .f32) (x1 : FVec Ideal S4096 .f32) (x2 x3 : FVec Ideal S4x4096 .f32)
  (x4 : FVec Ideal S4096x8 .f32) (x5 : FVec Ideal S8 .f32) (x6 : FVec Ideal S4096x64 .f32) (x7 : FVec Ideal S64 .f32)

/-- The host's exponential of a difference. -/
theorem host_exp_sub (a b : EReal) : FloatOps.hostUnary (F := Ideal) (φ := .f32) .exp (FloatOps.subf (F := Ideal) (φ := .f32) a b) = Ideal.exp (a - b) := rfl

/-- The greatest group logit of a token. -/
theorem v26_at (r : Fin 16384) : val_main_v26 (F := Ideal) x0 x1 x2 x3 x4 x5 (ix1 r)
    = Finset.fold max ⊥ (fun k : Fin 8 => val_main_v25 (F := Ideal) x0 x1 x2 x3 x4 x5 (ix2 r k)) Finset.univ := by
  unfold val_main_v26
  generalize val_main_v25 (F := Ideal) x0 x1 x2 x3 x4 x5 = y
  pointwise [val_main_cst_3]
  rw [litBot]

/-- The greatest logit of a token among its group's experts. -/
theorem v47_at (r : Fin 16384) : val_main_v47 (F := Ideal) x0 x1 x2 x3 x4 x5 x6 x7 (ix1 r)
    = Finset.fold max ⊥ (fun k : Fin 8 => val_main_v46 (F := Ideal) x0 x1 x2 x3 x4 x5 x6 x7 (ix2 r k)) Finset.univ := by
  unfold val_main_v47
  generalize val_main_v46 (F := Ideal) x0 x1 x2 x3 x4 x5 x6 x7 = y
  pointwise [val_main_cst_6]
  rw [litBot]

/-- The group probabilities of a token: the softmax of its group logits. -/
theorem v36_at (r : Fin 16384) (k : Fin 8) : val_main_v36 (F := Ideal) x0 x1 x2 x3 x4 x5 (ix2 r k)
    = Ideal.div (Ideal.exp (val_main_v25 (F := Ideal) x0 x1 x2 x3 x4 x5 (ix2 r k)
        - Finset.fold max ⊥ (fun k : Fin 8 => val_main_v25 (F := Ideal) x0 x1 x2 x3 x4 x5 (ix2 r k)) Finset.univ))
      (∑ j : Fin 8, Ideal.exp (val_main_v25 (F := Ideal) x0 x1 x2 x3 x4 x5 (ix2 r j)
        - Finset.fold max ⊥ (fun k : Fin 8 => val_main_v25 (F := Ideal) x0 x1 x2 x3 x4 x5 (ix2 r k)) Finset.univ)) := by
  rw [← v26_at]
  have hM : val_main_v28 (F := Ideal) x0 x1 x2 x3 x4 x5 (ix1 r) = val_main_v26 (F := Ideal) x0 x1 x2 x3 x4 x5 (ix1 r) := by
    rw [val_main_v28_apply, val_main_v27_apply, val_main_cst_4_apply]
    show max (Ideal.ofBits .f32 4286578688#32) _ = _
    rw [litBot]
    exact max_eq_right bot_le
  have hE : ∀ j : Fin 8, val_main_v32 (F := Ideal) x0 x1 x2 x3 x4 x5 (ix2 r j)
      = Ideal.exp (val_main_v25 (F := Ideal) x0 x1 x2 x3 x4 x5 (ix2 r j) - val_main_v26 (F := Ideal) x0 x1 x2 x3 x4 x5 (ix1 r)) := by
    intro j
    rw [val_main_v32_apply, val_main_v31_apply, val_main_v30_apply, val_main_v29_apply]
    rw [show idx_main_v29 (idx_main_v30 (ix2 r j)) = ix1 r from funext fun a => by match a with | ⟨0, _⟩ => rfl, hM]
    exact host_exp_sub _ _
  rw [val_main_v36_apply, val_main_v35_apply, val_main_v34_apply, hE]
  rw [show idx_main_v34 (idx_main_v35 (ix2 r k)) = ix1 r from funext fun a => by match a with | ⟨0, _⟩ => rfl]
  rw [val_main_v33_apply]
  have h0 : val_main_cst_5 (F := Ideal) (Shape.Idx.first h_S_) = (0 : EReal) := by
    rw [val_main_cst_5_apply]
    exact Ideal.ofBits_zero_f32
  rw [h0, zero_add]
  refine congrArg (Ideal.div _) (Finset.sum_congr rfl fun j _ => ?_)
  rw [show idx_main_v33 (ix1 r) j = ix2 r j from funext fun a => by match a with | ⟨0, _⟩ => rfl | ⟨1, _⟩ => rfl]
  exact hE j

/-- The experts' probabilities of a token inside its group: the softmax of their logits. -/
theorem v57_at (r : Fin 16384) (k : Fin 8) : val_main_v57 (F := Ideal) x0 x1 x2 x3 x4 x5 x6 x7 (ix2 r k)
    = Ideal.div (Ideal.exp (val_main_v46 (F := Ideal) x0 x1 x2 x3 x4 x5 x6 x7 (ix2 r k)
        - Finset.fold max ⊥ (fun k : Fin 8 => val_main_v46 (F := Ideal) x0 x1 x2 x3 x4 x5 x6 x7 (ix2 r k)) Finset.univ))
      (∑ j : Fin 8, Ideal.exp (val_main_v46 (F := Ideal) x0 x1 x2 x3 x4 x5 x6 x7 (ix2 r j)
        - Finset.fold max ⊥ (fun k : Fin 8 => val_main_v46 (F := Ideal) x0 x1 x2 x3 x4 x5 x6 x7 (ix2 r k)) Finset.univ)) := by
  rw [← v47_at]
  have hM : val_main_v49 (F := Ideal) x0 x1 x2 x3 x4 x5 x6 x7 (ix1 r) = val_main_v47 (F := Ideal) x0 x1 x2 x3 x4 x5 x6 x7 (ix1 r) := by
    rw [val_main_v49_apply, val_main_v48_apply, val_main_cst_7_apply]
    show max (Ideal.ofBits .f32 4286578688#32) _ = _
    rw [litBot]
    exact max_eq_right bot_le
  have hE : ∀ j : Fin 8, val_main_v53 (F := Ideal) x0 x1 x2 x3 x4 x5 x6 x7 (ix2 r j)
      = Ideal.exp (val_main_v46 (F := Ideal) x0 x1 x2 x3 x4 x5 x6 x7 (ix2 r j) - val_main_v47 (F := Ideal) x0 x1 x2 x3 x4 x5 x6 x7 (ix1 r)) := by
    intro j
    rw [val_main_v53_apply, val_main_v52_apply, val_main_v51_apply, val_main_v50_apply]
    rw [show idx_main_v50 (idx_main_v51 (ix2 r j)) = ix1 r from funext fun a => by match a with | ⟨0, _⟩ => rfl, hM]
    exact host_exp_sub _ _
  rw [val_main_v57_apply, val_main_v56_apply, val_main_v55_apply, hE]
  rw [show idx_main_v55 (idx_main_v56 (ix2 r k)) = ix1 r from funext fun a => by match a with | ⟨0, _⟩ => rfl]
  rw [val_main_v54_apply]
  have h0 : val_main_cst_8 (F := Ideal) (Shape.Idx.first h_S_) = (0 : EReal) := by
    rw [val_main_cst_8_apply]
    exact Ideal.ofBits_zero_f32
  rw [h0, zero_add]
  refine congrArg (Ideal.div _) (Finset.sum_congr rfl fun j _ => ?_)
  rw [show idx_main_v54 (ix1 r) j = ix2 r j from funext fun a => by match a with | ⟨0, _⟩ => rfl | ⟨1, _⟩ => rfl]
  exact hE j

/-- The group a token goes to. -/
abbrev grp (r : Fin 16384) : Fin 8 := order (fun k : Fin 8 => val_main_v36 (F := Ideal) x0 x1 x2 x3 x4 x5 (ix2 r k)) 0

/-- The chosen group's number as the host holds it. -/
theorem v38_at (r : Fin 16384) : val_main_v38 (F := Ideal) x0 x1 x2 x3 x4 x5 (ix1 r) = BitVec.ofNat 32 (grp x0 x1 x2 x3 x4 x5 r).val := by
  rw [val_main_v38_apply, show idx_main_v38 (ix1 r) = ix2 r 0 from funext fun a => by
    match a with
    | ⟨0, _⟩ => exact Fin.ext (Nat.div_one _)
    | ⟨1, _⟩ => rfl]
  exact (topK_at _ _ r (0 : Fin 1) (by decide)).2

/-- The chosen group's probability. -/
theorem v37_at (r : Fin 16384) : val_main_v37 (F := Ideal) x0 x1 x2 x3 x4 x5 (ix1 r)
    = val_main_v36 (F := Ideal) x0 x1 x2 x3 x4 x5 (ix2 r (grp x0 x1 x2 x3 x4 x5 r)) := by
  rw [val_main_v37_apply, show idx_main_v37 (ix1 r) = ix2 r 0 from funext fun a => by
    match a with
    | ⟨0, _⟩ => exact Fin.ext (Nat.div_one _)
    | ⟨1, _⟩ => rfl]
  exact (topK_at _ _ r (0 : Fin 1) (by decide)).1

/-- A group's number is not negative, so wrapping leaves it. -/
theorem wrap_group : ∀ a : Fin 8, Scalar.select (IntOp.cmpi .slt (BitVec.ofNat 32 a.val) 0#32) (IntOp.addi (BitVec.ofNat 32 a.val) 8#32)
    (BitVec.ofNat 32 a.val) = BitVec.ofNat 32 a.val := by decide

/-- A group's number lies in bounds. -/
theorem bounds_group : ∀ a : Fin 8, IntOp.andi (IntOp.cmpi .sge (BitVec.ofNat 32 a.val) 0#32) (IntOp.cmpi .sle (BitVec.ofNat 32 a.val) 7#32)
    = 1#1 := by decide

/-- The index the gather reads for a token: its group. -/
theorem call_v4_at (r : Fin 16384) : val_main_call0_v4 (F := Ideal) x0 x1 x2 x3 x4 x5 (ix3 r 0 0) = BitVec.ofNat 32 (grp x0 x1 x2 x3 x4 x5 r).val := by
  have h : val_main_v44 (F := Ideal) x0 x1 x2 x3 x4 x5 (ix3 r 0 0) = BitVec.ofNat 32 (grp x0 x1 x2 x3 x4 x5 r).val := by
    rw [val_main_v44_apply, show idx_main_v44 (ix3 r 0 0) = ix1 r from funext fun a => by match a with | ⟨0, _⟩ => rfl]
    exact v38_at x0 x1 x2 x3 x4 x5 r
  rw [val_main_call0_v4_apply, val_main_call0_v1_apply, val_main_call0_v3_apply, h, val_main_call0_v0_apply, val_main_call0_c_apply,
    val_main_call0_v2_apply, val_main_call0_c_0_apply]
  exact wrap_group _

/-- Every index lies in bounds. -/
theorem call_v11_at (i : S16384x1.Idx) : val_main_call0_v11 (F := Ideal) x0 x1 x2 x3 x4 x5 i = 1#1 := by
  unfold val_main_call0_v11
  refine Host.reduce_andi_one _ _ _ _ _ (val_main_call0_c_3_apply _) fun j => ?_
  obtain ⟨r, rfl⟩ : ∃ r : Fin 16384, j = (ix3 r 0 0 : S16384x1x1.Idx) := ⟨j 0, funext fun a => by
    match a with
    | ⟨0, _⟩ => rfl
    | ⟨1, _⟩ => exact Subsingleton.elim (α := Fin 1) _ _
    | ⟨2, _⟩ => exact Subsingleton.elim (α := Fin 1) _ _⟩
  rw [val_main_call0_v10_apply, val_main_call0_v6_apply, val_main_call0_v9_apply, call_v4_at, val_main_call0_v5_apply, val_main_call0_c_2_apply,
    val_main_call0_v8_apply, val_main_call0_v7_apply, val_main_call0_c_1_apply]
  exact bounds_group _

/-- The logits of the chosen group's experts. -/
theorem v46_at (r : Fin 16384) (k : Fin 8) : val_main_v46 (F := Ideal) x0 x1 x2 x3 x4 x5 x6 x7 (ix2 r k)
    = val_main_v43 (F := Ideal) x0 x1 x2 x3 x6 x7 (ix3 r (grp x0 x1 x2 x3 x4 x5 r) k) := by
  rw [val_main_v46_apply, show idx_main_v46 (ix2 r k) = ix3 r 0 k from funext fun a => by
    match a with
    | ⟨0, _⟩ => exact Fin.ext (show (r.val * 8 + k.val) / 8 = r.val by omega)
    | ⟨1, _⟩ => rfl
    | ⟨2, _⟩ => exact Fin.ext (show (r.val * 8 + k.val) % 8 = k.val by omega)]
  rw [val_main_v45_apply, val_main_call0_v13_apply, call_v11_at]
  show val_main_call0_v12 (F := Ideal) x0 x1 x2 x3 x4 x5 x6 x7 (ix3 r 0 k) = _
  unfold val_main_call0_v12
  exact gather_at _ _ r _ k (call_v4_at x0 x1 x2 x3 x4 x5 r)

/-- The places of a token's experts inside its group. -/
abbrev exp2 (r : Fin 16384) (p : Fin 8) : Fin 8 := order (fun k : Fin 8 => val_main_v57 (F := Ideal) x0 x1 x2 x3 x4 x5 x6 x7 (ix2 r k)) p

/-- The probabilities of a token's two chosen experts are the entries at the first two places of its order. -/
theorem values_at (r : Fin 16384) (p : Fin 2) : val_main_values_9 (F := Ideal) x0 x1 x2 x3 x4 x5 x6 x7 (ix2 r p)
    = val_main_v57 (F := Ideal) x0 x1 x2 x3 x4 x5 x6 x7 (ix2 r (exp2 x0 x1 x2 x3 x4 x5 x6 x7 r ⟨p.val, by omega⟩)) :=
  (topK_at _ _ r p (by omega)).1

/-- The numbers of a token's two chosen experts inside its group are the first two places of its order. -/
theorem indices_at (r : Fin 16384) (p : Fin 2) : val_main_indices_10 (F := Ideal) x0 x1 x2 x3 x4 x5 x6 x7 (ix2 r p)
    = BitVec.ofNat 32 (exp2 x0 x1 x2 x3 x4 x5 x6 x7 r ⟨p.val, by omega⟩).val :=
  (topK_at _ _ r p (by omega)).2

/-- A group's and a place's number, put together to an expert's, and read back. -/
theorem toInt_expert : ∀ a b : Fin 8, (IntOp.addi (IntOp.muli (BitVec.ofNat 32 a.val) 8#32) (BitVec.ofNat 32 b.val)).toInt = ((8 * a.val + b.val : ℕ) : Int) := by
  decide

/-- The experts' numbers as the result holds them. -/
theorem v70_at (r : Fin 16384) (p : Fin 2) : val_main_v70 (F := Ideal) x0 x1 x2 x3 x4 x5 x6 x7 (ix2 r p)
    = (((8 * (grp x0 x1 x2 x3 x4 x5 r).val + (exp2 x0 x1 x2 x3 x4 x5 x6 x7 r ⟨p.val, by omega⟩).val : ℕ) : ℝ) : EReal) := by
  rw [val_main_v70_apply, val_main_v66_apply, indices_at, val_main_v65_apply, val_main_v64_apply, val_main_v62_apply, val_main_v63_apply,
    val_main_c_apply, show idx_main_v62 (idx_main_v65 (ix2 r p)) = ix1 r from funext fun a => by match a with | ⟨0, _⟩ => rfl, v38_at]
  show (((IntOp.addi (IntOp.muli _ _) _).toInt : ℝ) : EReal) = _
  rw [toInt_expert]
  norm_cast

/-- The weights as the result holds them: the group's probability times the expert's share. -/
theorem v69_at (r : Fin 16384) (p : Fin 2) : val_main_v69 (F := Ideal) x0 x1 x2 x3 x4 x5 x6 x7 (ix2 r p)
    = val_main_v36 (F := Ideal) x0 x1 x2 x3 x4 x5 (ix2 r (grp x0 x1 x2 x3 x4 x5 r))
      * Ideal.div (val_main_v57 (F := Ideal) x0 x1 x2 x3 x4 x5 x6 x7 (ix2 r (exp2 x0 x1 x2 x3 x4 x5 x6 x7 r ⟨p.val, by omega⟩)))
        (val_main_v57 (F := Ideal) x0 x1 x2 x3 x4 x5 x6 x7 (ix2 r (exp2 x0 x1 x2 x3 x4 x5 x6 x7 r 0))
          + val_main_v57 (F := Ideal) x0 x1 x2 x3 x4 x5 x6 x7 (ix2 r (exp2 x0 x1 x2 x3 x4 x5 x6 x7 r 1))) := by
  rw [val_main_v69_apply, val_main_v68_apply, val_main_v67_apply, val_main_v61_apply, val_main_v60_apply, val_main_v59_apply, values_at,
    show idx_main_v67 (idx_main_v68 (ix2 r p)) = ix1 r from funext fun a => by match a with | ⟨0, _⟩ => rfl,
    show idx_main_v59 (idx_main_v60 (ix2 r p)) = ix1 r from funext fun a => by match a with | ⟨0, _⟩ => rfl, v37_at, val_main_v58_apply]
  have h0 : val_main_cst_11 (F := Ideal) (Shape.Idx.first h_S_) = (0 : EReal) := by
    rw [val_main_cst_11_apply]
    exact Ideal.ofBits_zero_f32
  have hv : ∀ q : Fin 2, val_main_values_9 (F := Ideal) x0 x1 x2 x3 x4 x5 x6 x7 (idx_main_v58 (ix1 r) q)
      = val_main_v57 (F := Ideal) x0 x1 x2 x3 x4 x5 x6 x7 (ix2 r (exp2 x0 x1 x2 x3 x4 x5 x6 x7 r ⟨q.val, by omega⟩)) := by
    intro q
    rw [show idx_main_v58 (ix1 r) q = ix2 r q from funext fun a => by match a with | ⟨0, _⟩ => rfl | ⟨1, _⟩ => rfl]
    exact values_at x0 x1 x2 x3 x4 x5 x6 x7 r q
  rw [h0, zero_add, Fin.sum_univ_two, hv, hv]
  rfl

/-- A lane of the result: two experts' numbers, two weights, nought elsewhere. -/
theorem v72_lanes (r : Fin 16384) (j : Fin 128) : val_main_v72 (F := Ideal) x0 x1 x2 x3 x4 x5 x6 x7 (ix2 r j)
    = if h : j.val < 2 then val_main_v70 (F := Ideal) x0 x1 x2 x3 x4 x5 x6 x7 (ix2 r ⟨j.val, h⟩)
      else if h : j.val < 4 then val_main_v69 (F := Ideal) x0 x1 x2 x3 x4 x5 x6 x7 (ix2 r ⟨j.val - 2, by omega⟩) else 0 := by
  unfold val_main_v72
  by_cases h4 : j.val < 4
  · rw [pad_apply_of_inside _ _ _ _ _ _ _ (ix2 r j) (ix2 r (⟨j.val, h4⟩ : Fin 4)) (by
      intro a
      match a with
      | ⟨0, _⟩ => show r.val = 0 + r.val * (0 + 1); omega
      | ⟨1, _⟩ => show j.val = 0 + j.val * (0 + 1); omega)]
    unfold val_main_v71
    by_cases h2 : j.val < 2
    · rw [dif_pos h2]
      exact concatenate_pair_apply_left (t := S16384x4) (s₁ := S16384x2) (s₂ := S16384x2) (1 : Fin 2) (val_main_v70 (F := Ideal) x0 x1 x2 x3 x4 x5 x6 x7) (val_main_v69 (F := Ideal) x0 x1 x2 x3 x4 x5 x6 x7)
        concatenates_S16384x2_S16384x2_S16384x4_d1 (ix2 r (⟨j.val, h4⟩ : Fin 4)) rfl (ix2 r (⟨j.val, h2⟩ : Fin 2)) (by
        intro b
        match b with
        | ⟨0, _⟩ => rfl
        | ⟨1, _⟩ => rfl)
    · rw [dif_neg h2, dif_pos h4]
      exact concatenate_pair_apply_right (t := S16384x4) (s₁ := S16384x2) (s₂ := S16384x2) (1 : Fin 2) (val_main_v70 (F := Ideal) x0 x1 x2 x3 x4 x5 x6 x7) (val_main_v69 (F := Ideal) x0 x1 x2 x3 x4 x5 x6 x7)
        concatenates_S16384x2_S16384x2_S16384x4_d1 (ix2 r (⟨j.val, h4⟩ : Fin 4)) rfl rfl (ix2 r (⟨j.val - 2, by omega⟩ : Fin 2)) (by
        intro b hb
        match b with
        | ⟨0, _⟩ => rfl
        | ⟨1, _⟩ => exact absurd rfl hb) (by
        show j.val - 2 + 2 = j.val
        omega)
  · rw [dif_neg (by omega), dif_neg h4]
    rw [pad_apply_of_not_inside _ _ _ _ _ _ _ _ (1 : Fin 2) (by
      intro hin
      have := hin.2.2
      have h5 : (j.val - 0) / (0 + 1) < 4 := this
      simp at h5
      omega)]
    show (((0#32 : BitVec 32).toInt : ℝ) : EReal) = 0
    simp

/-- The four lanes, put together. -/
theorem lanes_real (I W : S16384x2.Idx → EReal) (r : Fin 16384) (j : Fin 128) (i0 i1 w0 w1 : ℝ)
    (hi0 : I (ix2 r 0) = (i0 : EReal)) (hi1 : I (ix2 r 1) = (i1 : EReal)) (hw0 : W (ix2 r 0) = (w0 : EReal)) (hw1 : W (ix2 r 1) = (w1 : EReal)) :
    (if h : j.val < 2 then I (ix2 r ⟨j.val, h⟩) else if h : j.val < 4 then W (ix2 r ⟨j.val - 2, by omega⟩) else 0)
      = ((if j.val = 0 then i0 else if j.val = 1 then i1 else if j.val = 2 then w0 else if j.val = 3 then w1 else 0 : ℝ) : EReal) := by
  by_cases h0 : j.val = 0
  · rw [dif_pos (by omega), if_pos h0]
    exact (congrArg (fun q : Fin 2 => I (ix2 r q)) (Fin.ext h0)).trans hi0
  · rw [if_neg h0]
    by_cases h1 : j.val = 1
    · rw [dif_pos (by omega), if_pos h1]
      exact (congrArg (fun q : Fin 2 => I (ix2 r q)) (Fin.ext h1)).trans hi1
    · rw [dif_neg (by omega), if_neg h1]
      by_cases h2 : j.val = 2
      · rw [dif_pos (by omega), if_pos h2]
        exact (congrArg (fun q : Fin 2 => W (ix2 r q)) (Fin.ext (show j.val - 2 = 0 by omega))).trans hw0
      · rw [if_neg h2]
        by_cases h3 : j.val = 3
        · rw [dif_pos (by omega), if_pos h3]
          exact (congrArg (fun q : Fin 2 => W (ix2 r q)) (Fin.ext (show j.val - 2 = 1 by omega))).trans hw1
        · rw [dif_neg (by omega), if_neg h3]
          rfl

/-- A group's probability times one of its two experts' share, in reals. -/
theorem weight_real (P S T : ℝ) (hST : S + T ≠ 0) : ((P : ℝ) : EReal) * Ideal.div (S : EReal) ((S : EReal) + (T : EReal)) = ((P * (S / (S + T)) : ℝ) : EReal) := by
  rw [← EReal.coe_add, div_real _ _ hST, ← EReal.coe_mul]

/-- The same with the other expert's share. -/
theorem weight_real' (P S T : ℝ) (hST : S + T ≠ 0) : ((P : ℝ) : EReal) * Ideal.div (T : EReal) ((S : EReal) + (T : EReal)) = ((P * (T / (S + T)) : ℝ) : EReal) := by
  rw [← EReal.coe_add, div_real _ _ hST, ← EReal.coe_mul]

/-- A row of the reference's second result, where the token's logits are real: the experts' numbers, and their weights by the
    exponentials of the logits less the greatest one's. -/
theorem v72_at (r : Fin 16384) (g : Fin 8 → ℝ) (e : Fin 8 → Fin 8 → ℝ)
    (hg : ∀ k : Fin 8, val_main_v25 (F := Ideal) x0 x1 x2 x3 x4 x5 (ix2 r k) = ((g k : ℝ) : EReal))
    (he : ∀ a k : Fin 8, val_main_v43 (F := Ideal) x0 x1 x2 x3 x6 x7 (ix3 r a k) = ((e a k : ℝ) : EReal)) :
    ∃ a b c : Fin 8, (∀ k, k ≠ a → Before (fun k => ((g k : ℝ) : EReal)) a k)
      ∧ (∀ k, k ≠ b → Before (fun k => ((e a k : ℝ) : EReal)) b k)
      ∧ (∀ k, k ≠ b → k ≠ c → Before (fun k => ((e a k : ℝ) : EReal)) c k) ∧ c ≠ b
      ∧ ∀ j : Fin 128, val_main_v72 (F := Ideal) x0 x1 x2 x3 x4 x5 x6 x7 (ix2 r j)
        = (((if j.val = 0 then ((8 * a.val + b.val : ℕ) : ℝ) else if j.val = 1 then ((8 * a.val + c.val : ℕ) : ℝ)
            else if j.val = 2 then (1 / ∑ k, Real.exp (g k - g a)) * (1 / (1 + Real.exp (e a c - e a b)))
            else if j.val = 3 then (1 / ∑ k, Real.exp (g k - g a)) * (Real.exp (e a c - e a b) / (1 + Real.exp (e a c - e a b))) else 0 : ℝ)) : EReal) := by
  have hS := softmax_row g (fun k : Fin 8 => val_main_v36 (F := Ideal) x0 x1 x2 x3 x4 x5 (ix2 r k)) (fun k => by
    show val_main_v36 (F := Ideal) x0 x1 x2 x3 x4 x5 (ix2 r k) = _
    rw [v36_at]
    simp only [hg])
  have hT := softmax_row (e (grp x0 x1 x2 x3 x4 x5 r)) (fun k : Fin 8 => val_main_v57 (F := Ideal) x0 x1 x2 x3 x4 x5 x6 x7 (ix2 r k)) (fun k => by
    show val_main_v57 (F := Ideal) x0 x1 x2 x3 x4 x5 x6 x7 (ix2 r k) = _
    rw [v57_at]
    simp only [v46_at, he])
  have hw : ∀ p : Fin 2, val_main_v69 (F := Ideal) x0 x1 x2 x3 x4 x5 x6 x7 (ix2 r p) = _ := v69_at x0 x1 x2 x3 x4 x5 x6 x7 r
  have hid := v70_at x0 x1 x2 x3 x4 x5 x6 x7 r
  have hl := v72_lanes x0 x1 x2 x3 x4 x5 x6 x7 r
  have hne : exp2 x0 x1 x2 x3 x4 x5 x6 x7 r 1 ≠ exp2 x0 x1 x2 x3 x4 x5 x6 x7 r 0 := order_ne _
  obtain ⟨hS1, -, hS2⟩ := hS
  obtain ⟨hT1, hT2, hT3⟩ := hT
  have hS3 := hS2 (grp x0 x1 x2 x3 x4 x5 r)
  have hTb := hT3 (exp2 x0 x1 x2 x3 x4 x5 x6 x7 r 0)
  have hTc := hT3 (exp2 x0 x1 x2 x3 x4 x5 x6 x7 r 1)
  refine ⟨grp x0 x1 x2 x3 x4 x5 r, exp2 x0 x1 x2 x3 x4 x5 x6 x7 r 0, exp2 x0 x1 x2 x3 x4 x5 x6 x7 r 1, hS1, hT1, hT2, hne, fun j => ?_⟩
  rw [hl j]
  have hw0 := hw 0
  have hw1 := hw 1
  have hi0 := hid 0
  have hi1 := hid 1
  simp only [Fin.val_zero, Fin.val_one, Fin.zero_eta, Fin.mk_one] at hw0 hw1 hi0 hi1
  clear hl hw hid hS1 hS2 hT1 hT2 hT3 hne
  generalize val_main_v72 (F := Ideal) x0 x1 x2 x3 x4 x5 x6 x7 = V at *
  generalize val_main_v69 (F := Ideal) x0 x1 x2 x3 x4 x5 x6 x7 = W at *
  generalize val_main_v70 (F := Ideal) x0 x1 x2 x3 x4 x5 x6 x7 = I at *
  rw [hS3, hTb, hTc] at hw0 hw1
  clear hS3 hTb hTc hg he
  change _ = ((Real.exp (g (grp x0 x1 x2 x3 x4 x5 r) - g (grp x0 x1 x2 x3 x4 x5 r)) / ∑ j, Real.exp (g j - g (grp x0 x1 x2 x3 x4 x5 r)) : ℝ) : EReal) * _ at hw0 hw1
  generalize grp x0 x1 x2 x3 x4 x5 r = a at *
  change _ = _ * Ideal.div ((Real.exp (e a (exp2 x0 x1 x2 x3 x4 x5 x6 x7 r 0) - e a (exp2 x0 x1 x2 x3 x4 x5 x6 x7 r 0)) / ∑ j, Real.exp (e a j - e a (exp2 x0 x1 x2 x3 x4 x5 x6 x7 r 0)) : ℝ) : EReal)
    (((Real.exp (e a (exp2 x0 x1 x2 x3 x4 x5 x6 x7 r 0) - e a (exp2 x0 x1 x2 x3 x4 x5 x6 x7 r 0)) / ∑ j, Real.exp (e a j - e a (exp2 x0 x1 x2 x3 x4 x5 x6 x7 r 0)) : ℝ) : EReal)
      + ((Real.exp (e a (exp2 x0 x1 x2 x3 x4 x5 x6 x7 r 1) - e a (exp2 x0 x1 x2 x3 x4 x5 x6 x7 r 0)) / ∑ j, Real.exp (e a j - e a (exp2 x0 x1 x2 x3 x4 x5 x6 x7 r 0)) : ℝ) : EReal)) at hw0
  change _ = _ * Ideal.div ((Real.exp (e a (exp2 x0 x1 x2 x3 x4 x5 x6 x7 r 1) - e a (exp2 x0 x1 x2 x3 x4 x5 x6 x7 r 0)) / ∑ j, Real.exp (e a j - e a (exp2 x0 x1 x2 x3 x4 x5 x6 x7 r 0)) : ℝ) : EReal)
    (((Real.exp (e a (exp2 x0 x1 x2 x3 x4 x5 x6 x7 r 0) - e a (exp2 x0 x1 x2 x3 x4 x5 x6 x7 r 0)) / ∑ j, Real.exp (e a j - e a (exp2 x0 x1 x2 x3 x4 x5 x6 x7 r 0)) : ℝ) : EReal)
      + ((Real.exp (e a (exp2 x0 x1 x2 x3 x4 x5 x6 x7 r 1) - e a (exp2 x0 x1 x2 x3 x4 x5 x6 x7 r 0)) / ∑ j, Real.exp (e a j - e a (exp2 x0 x1 x2 x3 x4 x5 x6 x7 r 0)) : ℝ) : EReal)) at hw1
  generalize exp2 x0 x1 x2 x3 x4 x5 x6 x7 r 0 = b at *
  generalize exp2 x0 x1 x2 x3 x4 x5 x6 x7 r 1 = c at *
  have hY : 0 < ∑ j, Real.exp (e a j - e a b) := Finset.sum_pos (fun k _ => Real.exp_pos _) ⟨b, Finset.mem_univ _⟩
  have hE : 0 < Real.exp (e a c - e a b) := Real.exp_pos _
  rw [sub_self, sub_self, Real.exp_zero] at hw0 hw1
  generalize ∑ j, Real.exp (e a j - e a b) = Y at *
  generalize Real.exp (e a c - e a b) = X at *
  have hne : 1 / Y + X / Y ≠ 0 := (add_pos (div_pos one_pos hY) (div_pos hE hY)).ne'
  have hX : (1 : ℝ) + X ≠ 0 := (add_pos one_pos hE).ne'
  rw [weight_real _ _ _ hne, show 1 / Y / (1 / Y + X / Y) = 1 / (1 + X) by field_simp] at hw0
  rw [weight_real' _ _ _ hne, show X / Y / (1 / Y + X / Y) = X / (1 + X) by field_simp] at hw1
  exact lanes_real I W r j _ _ _ _ hi0 hi1 hw0 hw1

end Cert.Route

end
-- ==== Proof.Route.Kern.lean ====
module

public import proofs.«01_k».proof.Proof.Gen.KernelRouteIdeal.Value
public import proofs.«01_k».proof.Proof.Route.Ref
public import Idealize.ShloMosaic.Lib.Pipeline.ValueKit

@[expose] public section

set_option maxRecDepth 16384

noncomputable section

namespace Cert.KernelRouteIdeal.Val

open Cert.KernelRouteIdeal Cert.KernelRouteIdeal.Gen Idealize.ShloMosaic Idealize.ShloMosaic.TcCoe Idealize.SL.Sem
open Idealize.ShloMosaic.Pipeline (Dat)

variable (m : (ℓ : Loc nD τ sig) → Buf (Elt Ideal) ℓ)

/-- The second norm with its modulation as one function of the arguments: the reference's own stages. -/
abbrev NRM (X0 : FVec Ideal S4x4096x4096 .f32) (X1 : FVec Ideal S4096 .f32) (X2 X3 : FVec Ideal S4x4096 .f32) : FVec Ideal S16384x4096 .f32 :=
  Cert.ReferenceRouteIdeal.Read.val_main_v21 (F := Ideal) X0 X1 X2 X3

/-- Where the windows stand at a grid point. -/
theorem idx : ∀ t : Fin cfg0.N, win0_0.index t = ![(grid0.coords t 0).val, 0] ∧ win0_1.index t = ![0, 0]
    ∧ win0_2.index t = ![(grid0.coords t 0).val / 16, 0, 0] ∧ win0_3.index t = ![(grid0.coords t 0).val / 16, 0, 0]
    ∧ win0_4.index t = ![0, 0] ∧ win0_5.index t = ![0, 0]
    ∧ win0_6.index t = ![(grid0.coords t 0).val, 0] ∧ win0_7.index t = ![(grid0.coords t 0).val, 0] :=
  (by decide +kernel : ∀ t : Fin grid0.N, _)

/-- The stream as the kernel's host code lays it out: the batch's rows one after the other. -/
theorem rows (c : Dev nD) (r : Fin 16384) (k : Fin 4096) : V m c main_v6 (ix2 r k)
    = m ((c : Thread nD τ).loc main_arg0) (ix3 ⟨r / 4096, by omega⟩ ⟨r % 4096, by omega⟩ k) := by
  entry_read
  pointwise

/-- The norm's weights as the kernel's host code lays them out: one row. -/
theorem gain (c : Dev nD) (k : Fin 4096) : V m c main_v7 (ix2 0 k) = m ((c : Thread nD τ).loc main_arg1) (ix1 k) := by
  entry_read
  pointwise

/-- The scale as the kernel's host code lays it out: one row a batch. -/
theorem scale (c : Dev nD) (b : Fin 4) (k : Fin 4096) : V m c main_v8 (ix3 b 0 k)
    = m ((c : Thread nD τ).loc main_arg2) (ix2 b k) := by
  entry_read
  pointwise

/-- The shift as the kernel's host code lays it out: one row a batch. -/
theorem shift (c : Dev nD) (b : Fin 4) (k : Fin 4096) : V m c main_v9 (ix3 b 0 k)
    = m ((c : Thread nD τ).loc main_arg3) (ix2 b k) := by
  entry_read
  pointwise

/-- The router's weights as the kernel's host code lays them out, whole: the groups' columns, the experts', and nought. -/
theorem weights_whole (c : Dev nD) : V m c main_v2
    = truncf .bf16 (concatenate S4096x128 1 [⟨S4096x8, (m ((c : Thread nD τ).loc main_arg4) : FVec Ideal S4096x8 .f32)⟩, ⟨S4096x64, (m ((c : Thread nD τ).loc main_arg6) : FVec Ideal S4096x64 .f32)⟩,
      ⟨S4096x56, broadcastInDim S4096x56 ![] bcast_S_S4096x56 (constant (F := Ideal) S_ .f32 0x00000000#32)⟩] concatenates_S4096x8_S4096x64_S4096x56_S4096x128_d1) bitsLt_bf16_f32 := rfl

/-- The router's biases as the kernel's host code lays them out, whole: the groups', the experts', and nought, as one row. -/
theorem biases_whole (c : Dev nD) : V m c main_v5
    = shapeCast S1x128 (concatenate S128 0 [⟨S8, (m ((c : Thread nD τ).loc main_arg5) : FVec Ideal S8 .f32)⟩, ⟨S64, (m ((c : Thread nD τ).loc main_arg7) : FVec Ideal S64 .f32)⟩,
      ⟨S56, broadcastInDim S56 ![] bcast_S_S56 (constant (F := Ideal) S_ .f32 0x00000000#32)⟩] concatenates_S8_S64_S56_S128_d0) shapeCasts_S128_S1x128 := rfl

/-- A lane of the router's weights: a group's column, an expert's, or nought. -/
theorem weights (c : Dev nD) (k : Fin 4096) (j : Fin 128) : V m c main_v2 (ix2 k j)
    = if h : j.val < 8 then m ((c : Thread nD τ).loc main_arg4) (ix2 k ⟨j.val, h⟩)
      else if h : j.val - 8 < 64 then m ((c : Thread nD τ).loc main_arg6) (ix2 k ⟨j.val - 8, h⟩) else (0 : EReal) := by
  rw [weights_whole]
  pointwise

/-- A lane of the router's biases: a group's, an expert's, or nought. -/
theorem biases (c : Dev nD) (j : Fin 128) : V m c main_v5 (ix2 0 j)
    = if h : j.val < 8 then m ((c : Thread nD τ).loc main_arg5) (ix1 ⟨j.val, h⟩)
      else if h : j.val - 8 < 64 then m ((c : Thread nD τ).loc main_arg7) (ix1 ⟨j.val - 8, h⟩) else (0 : EReal) := by
  rw [biases_whole]
  pointwise

/-- A logit of a grid point's block: the normed row against the lane's weights, and its bias. -/
theorem lane (x0 : FVec Ideal S256x4096 .f32) (x1 : FVec Ideal S1x4096 .f32) (x2 x3 : FVec Ideal S1x1x4096 .f32) (x4 : FVec Ideal S4096x128 .bf16) (x5 : FVec Ideal S1x128 .f32) (r : Fin 256) (j : Fin 128) :
    k0_pay3 (F := Ideal) x0 x1 x2 x3 x4 x5 (ix2 r j) = ((∑ x : Fin 4096, k0_pay1 (F := Ideal) x0 x1 x2 x3 (ix2 r x) * x4 (ix2 x j) : EReal) + x5 (ix2 0 j) : EReal) := by
  pointwise [k0_pay3]

open Cert.ReferenceRouteIdeal.Read in
/-- A group's logit in the reference: the normed row against the group's weights, and its bias. -/
theorem ref_group (x0 : FVec Ideal S4x4096x4096 .f32) (x1 : FVec Ideal S4096 .f32) (x2 x3 : FVec Ideal S4x4096 .f32) (x4 : FVec Ideal S4096x8 .f32) (x5 : FVec Ideal S8 .f32) (R : Fin 16384) (k : Fin 8) :
    val_main_v25 (F := Ideal) x0 x1 x2 x3 x4 x5 (ix2 R k) = ((∑ x : Fin 4096, NRM x0 x1 x2 x3 (ix2 R x) * x4 (ix2 x k) : EReal) + x5 (ix1 k) : EReal) := by
  pointwise [val_main_v25, val_main_v24, val_main_v23, val_main_v22]

open Cert.ReferenceRouteIdeal.Read in
/-- An expert's logit in the reference: the normed row against the expert's weights, and its bias. -/
theorem ref_expert (x0 : FVec Ideal S4x4096x4096 .f32) (x1 : FVec Ideal S4096 .f32) (x2 x3 : FVec Ideal S4x4096 .f32) (x6 : FVec Ideal S4096x64 .f32) (x7 : FVec Ideal S64 .f32) (R : Fin 16384) (a k : Fin 8) :
    val_main_v43 (F := Ideal) x0 x1 x2 x3 x6 x7 (ix3 R a k) = ((∑ x : Fin 4096, NRM x0 x1 x2 x3 (ix2 R x) * x6 (ix2 x (⟨8 * a.val + k.val, by omega⟩ : Fin 64)) : EReal) + x7 (ix1 (⟨8 * a.val + k.val, by omega⟩ : Fin 64)) : EReal) := by
  pointwise [val_main_v43, val_main_v42, val_main_v41, val_main_v40, val_main_v39]
  simp only [Nat.mul_comm a.val 8]

/-- A normed row of a grid point's block is the reference's row at the place of the array. -/
theorem normed (c : Dev nD) (t : Fin cfg0.N) (r : Fin 256) (x : Fin 4096) (R : Fin 16384) (hR : R.val = (grid0.coords t 0).val * 256 + r.val) :
    k0_pay1 (iblk m c 0 t) (iblk m c 1 t) (iblk m c 2 t) (iblk m c 3 t) (ix2 r x)
    = NRM (m ((c : Thread nD τ).loc main_arg0)) (m ((c : Thread nD τ).loc main_arg1)) (m ((c : Thread nD τ).loc main_arg2)) (m ((c : Thread nD τ).loc main_arg3)) (ix2 R x) := by
  pointwise [k0_pay1, NRM, Cert.ReferenceRouteIdeal.Read.val_main_v0,
    Cert.ReferenceRouteIdeal.Read.val_main_cst,
    Cert.ReferenceRouteIdeal.Read.val_main_v1,
    Cert.ReferenceRouteIdeal.Read.val_main_v2,
    Cert.ReferenceRouteIdeal.Read.val_main_cst_0,
    Cert.ReferenceRouteIdeal.Read.val_main_v3,
    Cert.ReferenceRouteIdeal.Read.val_main_v4,
    Cert.ReferenceRouteIdeal.Read.val_main_cst_1,
    Cert.ReferenceRouteIdeal.Read.val_main_v5,
    Cert.ReferenceRouteIdeal.Read.val_main_v6,
    Cert.ReferenceRouteIdeal.Read.val_main_v7,
    Cert.ReferenceRouteIdeal.Read.val_main_v8,
    Cert.ReferenceRouteIdeal.Read.val_main_v9,
    Cert.ReferenceRouteIdeal.Read.val_main_v10,
    Cert.ReferenceRouteIdeal.Read.val_main_v11,
    Cert.ReferenceRouteIdeal.Read.val_main_v12,
    Cert.ReferenceRouteIdeal.Read.val_main_v13,
    Cert.ReferenceRouteIdeal.Read.val_main_cst_2,
    Cert.ReferenceRouteIdeal.Read.val_main_v14,
    Cert.ReferenceRouteIdeal.Read.val_main_v15,
    Cert.ReferenceRouteIdeal.Read.val_main_v16,
    Cert.ReferenceRouteIdeal.Read.val_main_v17,
    Cert.ReferenceRouteIdeal.Read.val_main_v18,
    Cert.ReferenceRouteIdeal.Read.val_main_v19,
    Cert.ReferenceRouteIdeal.Read.val_main_v20,
    Cert.ReferenceRouteIdeal.Read.val_main_v21]
  have ht : (grid0.coords t 0).val < 64 := (grid0.coords t 0).isLt
  have hx : ∀ k : Fin 4096, iblk m c 0 t (ix2 r k) = V m c main_v6 (ix2 R k) := fun k => by
    blk_ext [iblk, idx t]
  refine congrArg₂ (· + ·) (congrArg₂ (· * ·) (congrArg₂ (· * ·) (congrArg₂ (· * ·) ?_ (congrArg Ideal.rsqrt
    (congrArg (· + _) (congrArg (Ideal.div · _) (Finset.sum_congr rfl fun k _ => congrArg₂ (· * ·) ?_ ?_))))) ?_)
      (congrArg (1 + ·) ?_)) ?_
  · exact (hx x).trans (rows m c _ _)
  · exact (hx k).trans (rows m c _ _)
  · exact (hx k).trans (rows m c _ _)
  · refine Eq.trans ?_ (gain m c _)
    blk_ext [iblk, idx t]
  · refine Eq.trans ?_ (scale m c _ _)
    blk_ext [iblk, idx t]
  · refine Eq.trans ?_ (shift m c _ _)
    blk_ext [iblk, idx t]

/-- A group's logit at a row of a grid point's block is the reference's at the row of the array. -/
theorem group (c : Dev nD) (t : Fin cfg0.N) (r : Fin 256) (k : Fin 8) (R : Fin 16384) (hR : R.val = (grid0.coords t 0).val * 256 + r.val) :
    k0_pay3 (iblk m c 0 t) (iblk m c 1 t) (iblk m c 2 t) (iblk m c 3 t) (iblk m c 4 t) (iblk m c 5 t) (ix2 r (⟨k.val, by omega⟩ : Fin 128))
    = Cert.ReferenceRouteIdeal.Read.val_main_v25 (F := Ideal) (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (ix2 R k) := by
  refine (lane _ _ _ _ _ _ _ _).trans (Eq.trans ?_ (ref_group _ _ _ _ _ _ _ _).symm)
  have hw : ∀ x : Fin 4096, iblk m c 4 t (ix2 x (⟨k.val, by omega⟩ : Fin 128)) = m ((c : Thread nD τ).loc main_arg4) (ix2 x k) := fun x => by
    refine Eq.trans (b := V m c main_v2 (ix2 x (⟨k.val, by omega⟩ : Fin 128))) ?_ ((weights m c x _).trans (dif_pos k.isLt))
    blk_ext [iblk, idx t]
  have hb : iblk m c 5 t (ix2 0 (⟨k.val, by omega⟩ : Fin 128)) = m ((c : Thread nD τ).loc main_arg5) (ix1 k) := by
    refine Eq.trans (b := V m c main_v5 (ix2 0 (⟨k.val, by omega⟩ : Fin 128))) ?_ ((biases m c _).trans (dif_pos k.isLt))
    blk_ext [iblk, idx t]
  exact congrArg₂ (· + ·) (Finset.sum_congr rfl fun x _ => congrArg₂ (· * ·) (normed m c t r x R hR) (hw x)) hb

/-- An expert's logit at a row of a grid point's block is the reference's at the row of the array. -/
theorem expert (c : Dev nD) (t : Fin cfg0.N) (r : Fin 256) (a k : Fin 8) (R : Fin 16384) (hR : R.val = (grid0.coords t 0).val * 256 + r.val) :
    k0_pay3 (iblk m c 0 t) (iblk m c 1 t) (iblk m c 2 t) (iblk m c 3 t) (iblk m c 4 t) (iblk m c 5 t) (ix2 r (⟨8 + 8 * a.val + k.val, by omega⟩ : Fin 128))
    = Cert.ReferenceRouteIdeal.Read.val_main_v43 (F := Ideal) (m ((c : Thread nD τ).loc main_arg0)) (m ((c : Thread nD τ).loc main_arg1)) (m ((c : Thread nD τ).loc main_arg2)) (m ((c : Thread nD τ).loc main_arg3))
      (m ((c : Thread nD τ).loc main_arg6)) (m ((c : Thread nD τ).loc main_arg7)) (ix3 R a k) := by
  refine (lane _ _ _ _ _ _ _ _).trans (Eq.trans ?_ (ref_expert _ _ _ _ _ _ _ _ _).symm)
  have h0 : ¬ (8 + 8 * a.val + k.val < 8) := by omega
  have h1 : 8 + 8 * a.val + k.val - 8 < 64 := by omega
  have hz : (⟨8 + 8 * a.val + k.val - 8, h1⟩ : Fin 64) = ⟨8 * a.val + k.val, by omega⟩ := Fin.ext (by show 8 + 8 * a.val + k.val - 8 = 8 * a.val + k.val; omega)
  have hw : ∀ x : Fin 4096, iblk m c 4 t (ix2 x (⟨8 + 8 * a.val + k.val, by omega⟩ : Fin 128)) = m ((c : Thread nD τ).loc main_arg6) (ix2 x (⟨8 * a.val + k.val, by omega⟩ : Fin 64)) := fun x => by
    refine Eq.trans (b := V m c main_v2 (ix2 x (⟨8 + 8 * a.val + k.val, by omega⟩ : Fin 128))) ?_
      (((weights m c x _).trans (dif_neg h0)).trans ((dif_pos h1).trans (congrArg (fun z => m ((c : Thread nD τ).loc main_arg6) (ix2 x z)) hz)))
    blk_ext [iblk, idx t]
  have hb : iblk m c 5 t (ix2 0 (⟨8 + 8 * a.val + k.val, by omega⟩ : Fin 128)) = m ((c : Thread nD τ).loc main_arg7) (ix1 (⟨8 * a.val + k.val, by omega⟩ : Fin 64)) := by
    refine Eq.trans (b := V m c main_v5 (ix2 0 (⟨8 + 8 * a.val + k.val, by omega⟩ : Fin 128))) ?_
      (((biases m c _).trans (dif_neg h0)).trans ((dif_pos h1).trans (congrArg (fun z => m ((c : Thread nD τ).loc main_arg7) (ix1 z)) hz)))
    blk_ext [iblk, idx t]
  exact congrArg₂ (· + ·) (Finset.sum_congr rfl fun x _ => congrArg₂ (· * ·) (normed m c t r x R hR) (hw x)) hb

/-- A lane's number as a word reads back as the number. -/
theorem lane_word : ∀ x : Fin 128, (BitVec.ofNat 32 x.val).toInt = (x.val : ℤ) := by decide

/-- The kernel's lane numbers, read as floats. -/
theorem lanes (x0 : FVec Ideal S256x4096 .f32) (x1 : FVec Ideal S1x4096 .f32) (x2 x3 : FVec Ideal S1x1x4096 .f32) (x4 : FVec Ideal S4096x128 .bf16) (x5 : FVec Ideal S1x128 .f32) (r : Fin 256) (x : Fin 128) :
    FloatOps.sitofp (F := Ideal) FTy.f32 (k0_pay14 (F := Ideal) x0 x1 x2 x3 x4 x5 (ix2 r x)) = ((x.val : ℝ) : EReal) := by
  unfold k0_pay14
  pointwise
  show (((BitVec.ofNat 32 x.val).toInt : ℝ) : EReal) = _
  rw [lane_word x]
  norm_cast

/-- Where the first result's block stands in the array. -/
theorem place6 (t : Fin cfg0.N) (r : Fin 256) (x : Fin 4096) (R : Fin 16384) (hR : R.val = (grid0.coords t 0).val * 256 + r.val) :
    ((cfg0.win 6).blk t).view.emb (ix2 r x : S256x4096.Idx) = (ix2 R x : S16384x4096.Idx) := by
  blk_ext [idx t]

/-- Where the second result's block stands in the array. -/
theorem place7 (t : Fin cfg0.N) (r : Fin 256) (x : Fin 128) (R : Fin 16384) (hR : R.val = (grid0.coords t 0).val * 256 + r.val) :
    ((cfg0.win 7).blk t).view.emb (ix2 r x : S256x128.Idx) = (ix2 R x : S16384x128.Idx) := by
  blk_ext [idx t]

/-- The first result after the run is the reference's normed and modulated rows. -/
theorem final6 (c : Dev nD) : (dats m 0 c).arrAt 6 (cfgs 0).N
    = Cert.ReferenceRouteIdeal.Read.val_main_v73 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t _ y => ?_
  blk_simp
  rw [after0_6]; frame_out
  have ht : (grid0.coords t 0).val < 64 := (grid0.coords t 0).isLt
  obtain ⟨r, x, rfl⟩ : ∃ (r : Fin 256) (x : Fin 4096), y = (ix2 r x : S256x4096.Idx) := ⟨y 0, y 1, by funext k; match k with | ⟨0, _⟩ => rfl | ⟨1, _⟩ => rfl⟩
  rw [place6 t r x ⟨(grid0.coords t 0).val * 256 + r.val, by omega⟩ rfl]
  exact normed m c t r x ⟨(grid0.coords t 0).val * 256 + r.val, by omega⟩ rfl

/-- A lane of a grid point's second block is the reference's entry at the place of the array, when the row's logits are finite. -/
theorem point7 (c : Dev nD) (t : Fin cfg0.N) (r : Fin 256) (j : Fin 128) (R : Fin 16384) (hR : R.val = (grid0.coords t 0).val * 256 + r.val)
    (hv25 : ∀ k : Fin 8, ∃ z : ℝ, Cert.ReferenceRouteIdeal.Read.val_main_v25 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 R k) = ((z : ℝ) : EReal))
    (hv43 : ∀ a k : Fin 8, ∃ z : ℝ, Cert.ReferenceRouteIdeal.Read.val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (ix3 R a k) = ((z : ℝ) : EReal)) :
    k0_pay13 (F := Ideal) (k0_pay4 (F := Ideal) (k0_pay14 (iblk m c 0 t) (iblk m c 1 t) (iblk m c 2 t) (iblk m c 3 t) (iblk m c 4 t) (iblk m c 5 t)))
      (k0_pay8 (k0_pay3 (iblk m c 0 t) (iblk m c 1 t) (iblk m c 2 t) (iblk m c 3 t) (iblk m c 4 t) (iblk m c 5 t)) (k0_pay14 (iblk m c 0 t) (iblk m c 1 t) (iblk m c 2 t) (iblk m c 3 t) (iblk m c 4 t) (iblk m c 5 t)))
      (k0_pay9 (k0_pay3 (iblk m c 0 t) (iblk m c 1 t) (iblk m c 2 t) (iblk m c 3 t) (iblk m c 4 t) (iblk m c 5 t)) (k0_pay14 (iblk m c 0 t) (iblk m c 1 t) (iblk m c 2 t) (iblk m c 3 t) (iblk m c 4 t) (iblk m c 5 t)))
      (k0_pay10 (k0_pay3 (iblk m c 0 t) (iblk m c 1 t) (iblk m c 2 t) (iblk m c 3 t) (iblk m c 4 t) (iblk m c 5 t)) (k0_pay14 (iblk m c 0 t) (iblk m c 1 t) (iblk m c 2 t) (iblk m c 3 t) (iblk m c 4 t) (iblk m c 5 t)))
      (k0_pay11 (k0_pay3 (iblk m c 0 t) (iblk m c 1 t) (iblk m c 2 t) (iblk m c 3 t) (iblk m c 4 t) (iblk m c 5 t)) (k0_pay14 (iblk m c 0 t) (iblk m c 1 t) (iblk m c 2 t) (iblk m c 3 t) (iblk m c 4 t) (iblk m c 5 t)))
      (k0_pay12 (F := Ideal) (k0_pay3 (iblk m c 0 t) (iblk m c 1 t) (iblk m c 2 t) (iblk m c 3 t) (iblk m c 4 t) (iblk m c 5 t)) (k0_pay14 (iblk m c 0 t) (iblk m c 1 t) (iblk m c 2 t) (iblk m c 3 t) (iblk m c 4 t) (iblk m c 5 t)))
      (ix2 r j)
    = Cert.ReferenceRouteIdeal.Read.val_main_v72 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 R j) := by
  choose g hg using hv25
  choose e he using hv43
  obtain ⟨a, b, d, ha, hb, hd, hdb, hv⟩ := Cert.Route.v72_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) R g e hg he
  refine Eq.trans ?_ (hv j).symm
  exact Cert.Route.pay13_at _ _ r (fun x => lanes _ _ _ _ _ _ r x) g e (fun k => (group m c t r k R hR).trans (hg k))
    (fun a k => (expert m c t r a k R hR).trans (he a k)) a b d ha hb hd hdb j

/-- The second result after the run is the reference's routing, when the logits are finite. -/
theorem final7 (c : Dev nD)
    (hv25 : ∀ (R : Fin 16384) (k : Fin 8), ∃ z : ℝ, Cert.ReferenceRouteIdeal.Read.val_main_v25 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 R k) = ((z : ℝ) : EReal))
    (hv43 : ∀ (R : Fin 16384) (a k : Fin 8), ∃ z : ℝ, Cert.ReferenceRouteIdeal.Read.val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (ix3 R a k) = ((z : ℝ) : EReal)) :
    (dats m 0 c).arrAt 7 (cfgs 0).N = Cert.ReferenceRouteIdeal.Read.val_main_v72 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 7 _ (by decide +kernel) fun t _ y => ?_
  blk_simp
  rw [after0_7]; unfold out0_7 k0_pay15; frame_out
  have ht : (grid0.coords t 0).val < 64 := (grid0.coords t 0).isLt
  obtain ⟨r, x, rfl⟩ : ∃ (r : Fin 256) (x : Fin 128), y = (ix2 r x : S256x128.Idx) := ⟨y 0, y 1, by funext k; match k with | ⟨0, _⟩ => rfl | ⟨1, _⟩ => rfl⟩
  rw [place7 t r x ⟨(grid0.coords t 0).val * 256 + r.val, by omega⟩ rfl]
  exact point7 m c t r x ⟨(grid0.coords t 0).val * 256 + r.val, by omega⟩ rfl (hv25 _) (hv43 _)

end Cert.KernelRouteIdeal.Val

end
-- ==== Proof.Route.Finite.lean ====
module

public import proofs.«01_k».proof.Proof.Route.Ref
public import proofs.«01_k».proof.Pre_finite_route
public import Idealize.ShloMosaic.Lib.Pipeline.ValueKit
public import Idealize.ShloMosaic.Lib.ReduceAll

@[expose] public section

set_option maxRecDepth 16384

noncomputable section

namespace Cert.Route

open Idealize.ShloMosaic

/-- An extended real that is a real number. -/
def Finite (z : EReal) : Prop := ∃ x : ℝ, z = (x : EReal)

/-- A sum of two finite numbers is finite. -/
theorem Finite.add {a b : EReal} (ha : Finite a) (hb : Finite b) : Finite (a + b) := by
  obtain ⟨x, rfl⟩ := ha; obtain ⟨y, rfl⟩ := hb; exact ⟨x + y, (EReal.coe_add x y).symm⟩

/-- A product of two finite numbers is finite. -/
theorem Finite.mul {a b : EReal} (ha : Finite a) (hb : Finite b) : Finite (a * b) := by
  obtain ⟨x, rfl⟩ := ha; obtain ⟨y, rfl⟩ := hb; exact ⟨x * y, (EReal.coe_mul x y).symm⟩

/-- A finite sum of finite numbers is finite. -/
theorem Finite.sum {n : ℕ} {f : Fin n → EReal} (h : ∀ k, Finite (f k)) : Finite (∑ k, f k) := by
  choose g hg using h
  exact ⟨∑ k, g k, by rw [coe_sum]; exact Finset.sum_congr rfl fun k _ => hg k⟩

/-- The literal the mean divides by. -/
theorem litN : Ideal.ofBits FTy.f32 1166016512#32 = ((4096 : ℝ) : EReal) := by
  simp [Ideal.ofBits, Ideal.ieee]
  rw [← EReal.coe_mul, EReal.coe_eq_coe_iff]
  norm_num

/-- The literal added under the root is a positive real number. -/
theorem litEps : ∃ x : ℝ, 0 < x ∧ Ideal.ofBits FTy.f32 897988541#32 = (x : EReal) := by
  simp [Ideal.ofBits, Ideal.ieee]
  exact ⟨8796093 * (2 ^ 43)⁻¹, by positivity, (EReal.coe_mul _ _).symm⟩

/-- The root mean square's inverse of finite numbers is finite. -/
theorem Finite.rms {n : ℕ} {f : Fin n → EReal} (h : ∀ k, Finite (f k)) :
    Finite (Ideal.rsqrt (Ideal.div (∑ k, f k * f k) (Ideal.ofBits FTy.f32 1166016512#32) + Ideal.ofBits FTy.f32 897988541#32)) := by
  choose g hg using h
  obtain ⟨e, he, hE⟩ := litEps
  have hs : (∑ k, f k * f k) = ((∑ k, g k * g k : ℝ) : EReal) := by
    rw [coe_sum]; exact Finset.sum_congr rfl fun k _ => by rw [hg k, EReal.coe_mul]
  have hn : (0 : ℝ) ≤ ∑ k, g k * g k := Finset.sum_nonneg fun k _ => mul_self_nonneg _
  have hp : (0 : ℝ) < (∑ k, g k * g k) / 4096 + e := add_pos_of_nonneg_of_pos (div_nonneg hn (by norm_num)) he
  rw [hs, litN, hE, div_real _ _ (by norm_num), ← EReal.coe_add]
  refine ⟨(Real.sqrt ((∑ k, g k * g k) / 4096 + e))⁻¹, ?_⟩
  show (if (∑ k, g k * g k) / 4096 + e < 0 then (⊥ : EReal) else if (∑ k, g k * g k) / 4096 + e = 0 then ⊤ else _) = _
  rw [if_neg hp.le.not_gt, if_neg hp.ne']

section Stages
open Cert.ReferenceRouteIdeal Cert.ReferenceRouteIdeal.Gen Cert.ReferenceRouteIdeal.Read

variable (x0 : FVec Ideal S4x4096x4096 .f32) (x1 : FVec Ideal S4096 .f32) (x2 x3 : FVec Ideal S4x4096 .f32)
  (x4 : FVec Ideal S4096x8 .f32) (x5 : FVec Ideal S8 .f32) (x6 : FVec Ideal S4096x64 .f32) (x7 : FVec Ideal S64 .f32)
  (h0 : ∀ i, Finite (x0 i)) (h1 : ∀ i, Finite (x1 i)) (h2 : ∀ i, Finite (x2 i)) (h3 : ∀ i, Finite (x3 i))
  (h4 : ∀ i, Finite (x4 i)) (h5 : ∀ i, Finite (x5 i)) (h6 : ∀ i, Finite (x6 i)) (h7 : ∀ i, Finite (x7 i))

include h0 h1 h2 h3 in
/-- The normed and modulated rows of finite arguments are finite. -/
theorem finite_v21 (R : Fin 16384) (x : Fin 4096) : Finite (val_main_v21 (F := Ideal) x0 x1 x2 x3 (ix2 R x)) := by
  pointwise [val_main_v0, val_main_cst, val_main_v1, val_main_v2, val_main_cst_0, val_main_v3, val_main_v4, val_main_cst_1,
    val_main_v5, val_main_v6, val_main_v7, val_main_v8, val_main_v9, val_main_v10, val_main_v11, val_main_v12, val_main_v13,
    val_main_cst_2, val_main_v14, val_main_v15, val_main_v16, val_main_v17, val_main_v18, val_main_v19, val_main_v20, val_main_v21]
  exact ((((h0 _).mul (Finite.rms fun k => h0 _)).mul (h1 _)).mul (Finite.add (a := 1) ⟨1, rfl⟩ (h2 _))).add (h3 _)

include h0 h1 h2 h3 h4 h5 in
/-- The groups' logits of finite arguments are finite. -/
theorem finite_v25 (R : Fin 16384) (k : Fin 8) : Finite (val_main_v25 (F := Ideal) x0 x1 x2 x3 x4 x5 (ix2 R k)) := by
  pointwise [val_main_v25, val_main_v24, val_main_v23, val_main_v22]
  exact (Finite.sum fun x => (finite_v21 x0 x1 x2 x3 h0 h1 h2 h3 R x).mul (h4 _)).add (h5 _)

include h0 h1 h2 h3 h6 h7 in
/-- The experts' logits of finite arguments are finite. -/
theorem finite_v43 (R : Fin 16384) (a k : Fin 8) : Finite (val_main_v43 (F := Ideal) x0 x1 x2 x3 x6 x7 (ix3 R a k)) := by
  pointwise [val_main_v43, val_main_v42, val_main_v41, val_main_v40, val_main_v39]
  exact (Finite.sum fun x => (finite_v21 x0 x1 x2 x3 h0 h1 h2 h3 R x).mul (h6 _)).add (h7 _)

end Stages

/-- A number whose absolute value is below infinity is finite. -/
theorem finite_of_abs_lt {x : EReal} (h : max x (-x) < ⊤) : Finite x := by
  induction x with
  | bot => simp at h
  | coe r => exact ⟨r, rfl⟩
  | top => simp at h

section Pre
open Cert.Pre_finite_route

/-- An array whose entries' absolute values all compare below infinity has finite entries. -/
theorem finite_of_reduce {s : Shape} (x : FVec Ideal s .f32) (hb : S_.BroadcastsInDim s (![] : Fin 0 → Fin s.rank)) {axes} (hr : s.ReducesTo axes S_) (hu : 0 < S_.numel) (j : S_.Idx)
    (h : Host.reduce IntOp.andi (cmpf .olt (Host.absf x) (broadcastInDim s ![] hb (constant S_ .f32 0x7F800000#32))) (constantI S_ 1 1#1) hr hu j = 1#1) (i : s.Idx) :
    Finite (x i) := by
  haveI : Subsingleton S_.Idx := ⟨fun a b => funext fun k => k.elim0⟩
  have := Host.reduce_andi_all _ _ _ _ j h i
  have h2 : BitVec.ofBool (decide (max (x i) (-(x i)) < Ideal.ofBits FTy.f32 2139095040#32)) = 1#1 := this
  rw [litTop] at h2
  refine finite_of_abs_lt (not_not.1 fun hn => ?_)
  rw [decide_eq_false hn] at h2
  exact absurd h2 (by decide)

variable [Facts]
open Facts

/-- The precondition makes every entry of the arguments finite. -/
theorem finite_of_pre (x0 : FVec Ideal S4x4096x4096 .f32) (x1 : FVec Ideal S4096 .f32) (x2 x3 : FVec Ideal S4x4096 .f32)
    (x4 : FVec Ideal S4096x8 .f32) (x5 : FVec Ideal S8 .f32) (x6 : FVec Ideal S4096x64 .f32) (x7 : FVec Ideal S64 .f32)
    (h : fn (F := Ideal) x0 x1 x2 x3 x4 x5 x6 x7 = fun _ => 1#1) :
    (∀ i, Finite (x0 i)) ∧ (∀ i, Finite (x1 i)) ∧ (∀ i, Finite (x2 i)) ∧ (∀ i, Finite (x3 i))
      ∧ (∀ i, Finite (x4 i)) ∧ (∀ i, Finite (x5 i)) ∧ (∀ i, Finite (x6 i)) ∧ (∀ i, Finite (x7 i)) := by
  have hj := congrFun h (fun k => k.elim0)
  unfold fn fn_part1 fn_part2 at hj
  obtain ⟨hj, q7⟩ := IntOp.andi_eq_one.1 hj
  obtain ⟨hj, q6⟩ := IntOp.andi_eq_one.1 hj
  obtain ⟨hj, q5⟩ := IntOp.andi_eq_one.1 hj
  obtain ⟨hj, q4⟩ := IntOp.andi_eq_one.1 hj
  obtain ⟨hj, q3⟩ := IntOp.andi_eq_one.1 hj
  obtain ⟨hj, q2⟩ := IntOp.andi_eq_one.1 hj
  obtain ⟨q0, q1⟩ := IntOp.andi_eq_one.1 hj
  exact ⟨finite_of_reduce x0 _ _ _ _ q0, finite_of_reduce x1 _ _ _ _ q1, finite_of_reduce x2 _ _ _ _ q2, finite_of_reduce x3 _ _ _ _ q3,
    finite_of_reduce x4 _ _ _ _ q4, finite_of_reduce x5 _ _ _ _ q5, finite_of_reduce x6 _ _ _ _ q6, finite_of_reduce x7 _ _ _ _ q7⟩

end Pre

end Cert.Route

end
-- ==== Proof.lean ====
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.KernelProjR.Frame
public import proofs.«01_k».proof.Proof.Gen.KernelProjRIdeal.Frame
public import proofs.«01_k».proof.Proof.Gen.KernelProjRIdeal.Value
public import proofs.«01_k».proof.Proof.Gen.ReferenceProjRIdeal.Run
public import proofs.«01_k».proof.Proof.Gen.ReferenceProjRIdeal.Read
public import proofs.«01_k».proof.Proof.Gen.KernelProjA.Frame
public import proofs.«01_k».proof.Proof.Gen.KernelProjAIdeal.Frame
public import proofs.«01_k».proof.Proof.Gen.KernelProjAIdeal.Value
public import proofs.«01_k».proof.Proof.Gen.ReferenceProjAIdeal.Run
public import proofs.«01_k».proof.Proof.Gen.ReferenceProjAIdeal.Read
public import proofs.«01_k».proof.Proof.Gen.KernelOut.Frame
public import proofs.«01_k».proof.Proof.Gen.KernelOutIdeal.Frame
public import proofs.«01_k».proof.Proof.Gen.KernelOutIdeal.Value
public import proofs.«01_k».proof.Proof.Gen.ReferenceOutIdeal.Run
public import proofs.«01_k».proof.Proof.Gen.ReferenceOutIdeal.Read
public import proofs.«01_k».proof.Proof.Gen.KernelNorm.Frame
public import proofs.«01_k».proof.Proof.Gen.KernelNormIdeal.Frame
public import proofs.«01_k».proof.Proof.Gen.KernelNormIdeal.Value
public import proofs.«01_k».proof.Proof.Gen.ReferenceNormIdeal.Run
public import proofs.«01_k».proof.Proof.Gen.ReferenceNormIdeal.Read
public import proofs.«01_k».proof.Proof.Gen.KernelRoute.Frame
public import proofs.«01_k».proof.Proof.Gen.KernelRouteIdeal.Frame
public import proofs.«01_k».proof.Proof.Gen.KernelRouteIdeal.Value
public import proofs.«01_k».proof.Proof.Gen.ReferenceRouteIdeal.Run
public import proofs.«01_k».proof.Proof.Gen.ReferenceRouteIdeal.Read
public import proofs.«01_k».proof.Proof.Attn.Final
public import proofs.«01_k».proof.Proof.Proj.R
public import proofs.«01_k».proof.Proof.Proj.A
public import proofs.«01_k».proof.Proof.Proj.Out
public import proofs.«01_k».proof.Proof.Proj.Norm
public import proofs.«01_k».proof.Proof.Route.Kern
public import proofs.«01_k».proof.Proof.Route.Finite
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- Over the extended reals the program of the attention and its reference, from memories agreeing on the
    arguments, both run, end with equal results and leave the arguments unchanged. -/
theorem algebraic : @Cert.algebraic_KernelIdeal_ReferenceIdeal Cert.KernelIdeal.Gen.facts Cert.ReferenceIdeal.Gen.facts := by
  pair_intro
  · run_from Cert.KernelIdeal.Value.run_blocks m g
  · refine (θ_run Cert.ReferenceIdeal.defs _ _).mono (fun r h c => ?_) (Cert.ReferenceIdeal.Value.run (F := Ideal) m' g')
    have ha := hagree c
    have h1 := (Cert.KernelIdeal.Attn.ref_one m' c _ _ _ ha.1 ha.2.1 ha.2.2.1).trans (Cert.KernelIdeal.Attn.final1 m c).symm
    have h2 := (Cert.ReferenceIdeal.Read.val_main_v114_eq (F := Ideal) (m' ((c.tc : Thread Cert.ReferenceIdeal.nD Cert.ReferenceIdeal.τ).loc Cert.ReferenceIdeal.main_arg3))).trans
      ((congrArg (Cert.ReferenceIdeal.Read.val_main_v114 (F := Ideal)) ha.2.2.2).trans (Cert.KernelIdeal.Attn.final2 m c).symm)
    exact ⟨(h c).1.trans h1, (h c).2.1.trans h2, (h c).2.2⟩

/-- Over the extended reals the program of the recurrence's columns of the input projection and its reference, from memories agreeing on the
    arguments, both run, end with equal results and leave the arguments unchanged. -/
theorem algebraicProjR : @Cert.algebraic_KernelProjRIdeal_ReferenceProjRIdeal Cert.KernelProjRIdeal.Gen.facts Cert.ReferenceProjRIdeal.Gen.facts := by
  pair_intro
  · run_from Cert.KernelProjRIdeal.Value.run_blocks m g
  · hlo_run
    exact (Cert.KernelProjRIdeal.Val.final m c).symm

/-- Over the extended reals the program of the attention's columns of the input projection and its reference, from memories agreeing on the
    arguments, both run, end with equal results and leave the arguments unchanged. -/
theorem algebraicProjA : @Cert.algebraic_KernelProjAIdeal_ReferenceProjAIdeal Cert.KernelProjAIdeal.Gen.facts Cert.ReferenceProjAIdeal.Gen.facts := by
  pair_intro
  · run_from Cert.KernelProjAIdeal.Value.run_blocks m g
  · hlo_run
    exact (Cert.KernelProjAIdeal.Val.final m c).symm

/-- Over the extended reals the program of the output projection with its gate and residual and its reference, from memories agreeing on the
    arguments, both run, end with equal results and leave the arguments unchanged. -/
theorem algebraicOut : @Cert.algebraic_KernelOutIdeal_ReferenceOutIdeal Cert.KernelOutIdeal.Gen.facts Cert.ReferenceOutIdeal.Gen.facts := by
  pair_intro
  · run_from Cert.KernelOutIdeal.Value.run_blocks m g
  · hlo_run
    exact (Cert.KernelOutIdeal.Val.final m c).symm

/-- Over the extended reals the program of the first normalisation with its modulation and its reference, from memories agreeing on the
    arguments, both run, end with equal results and leave the arguments unchanged. -/
theorem algebraicNorm : @Cert.algebraic_KernelNormIdeal_ReferenceNormIdeal Cert.KernelNormIdeal.Gen.facts Cert.ReferenceNormIdeal.Gen.facts := by
  pair_intro
  · run_from Cert.KernelNormIdeal.Value.run_blocks m g
  · hlo_run
    exact (Cert.KernelNormIdeal.Val.final m c).symm

section Congr
open Cert.ReferenceRouteIdeal Cert.ReferenceRouteIdeal.Read

variable {x0 y0 : FVec Ideal S4x4096x4096 .f32} {x1 y1 : FVec Ideal S4096 .f32} {x2 y2 x3 y3 : FVec Ideal S4x4096 .f32}
  {x4 y4 : FVec Ideal S4096x8 .f32} {x5 y5 : FVec Ideal S8 .f32} {x6 y6 : FVec Ideal S4096x64 .f32} {x7 y7 : FVec Ideal S64 .f32}

/-- Equal arguments have equal normed rows. -/
theorem rows_congr (h0 : x0 = y0) (h1 : x1 = y1) (h2 : x2 = y2) (h3 : x3 = y3) :
    val_main_v73 (F := Ideal) x0 x1 x2 x3 = val_main_v73 (F := Ideal) y0 y1 y2 y3 := by
  subst h0 h1 h2 h3; rfl

/-- Equal arguments have equal routings. -/
theorem route_congr (h0 : x0 = y0) (h1 : x1 = y1) (h2 : x2 = y2) (h3 : x3 = y3) (h4 : x4 = y4) (h5 : x5 = y5) (h6 : x6 = y6) (h7 : x7 = y7) :
    val_main_v72 (F := Ideal) x0 x1 x2 x3 x4 x5 x6 x7 = val_main_v72 (F := Ideal) y0 y1 y2 y3 y4 y5 y6 y7 := by
  subst h0 h1 h2 h3 h4 h5 h6 h7; rfl

end Congr

/-- The side conditions of the function that states the precondition. -/
theorem preFacts : Cert.Pre_finite_route.Facts := by
  constructor <;> decide

/-- Over the extended reals the program of the second normalisation with its routing and its reference, from memories agreeing on
    arguments whose entries are finite, both run, end with equal results and leave the arguments unchanged. -/
theorem algebraicRoute : @Cert.algebraic_KernelRouteIdeal_ReferenceRouteIdeal_pre_finite_route Cert.KernelRouteIdeal.Gen.facts Cert.ReferenceRouteIdeal.Gen.facts preFacts := by
  pair_intro
  · run_from Cert.KernelRouteIdeal.Value.run_blocks m g
  · refine (θ_run Cert.ReferenceRouteIdeal.defs _ _).mono (fun r h c => ?_) (Cert.ReferenceRouteIdeal.Value.run (F := Ideal) m' g')
    obtain ⟨a0, a1, a2, a3, a4, a5, a6, a7⟩ := hagree c
    obtain ⟨f0, f1, f2, f3, f4, f5, f6, f7⟩ := @Cert.Route.finite_of_pre preFacts _ _ _ _ _ _ _ _ (hpre c)
    have h1 := (h c).1.trans ((Cert.ReferenceRouteIdeal.Read.val_main_v73_eq (F := Ideal) _).trans
      (Eq.trans (rows_congr a0 a1 a2 a3) (Cert.KernelRouteIdeal.Val.final6 m c).symm))
    have h2 := (h c).2.1.trans ((Cert.ReferenceRouteIdeal.Read.val_main_v72_eq (F := Ideal) _).trans
      (Eq.trans (route_congr a0 a1 a2 a3 a4 a5 a6 a7) (Cert.KernelRouteIdeal.Val.final7 m c
        (Cert.Route.finite_v25 _ _ _ _ _ _ f0 f1 f2 f3 f4 f5) (Cert.Route.finite_v43 _ _ _ _ _ _ f0 f1 f2 f3 f6 f7)).symm))
    exact ⟨h1, h2, (h c).2.2⟩

/-- The reference of the second normalisation with its routing runs, leaves the arguments unchanged and every semaphore at nought. -/
theorem frameRefRoute : @Cert.quiescent_ReferenceRouteIdeal Cert.ReferenceRouteIdeal.Gen.facts := fun m g _ =>
  (θ_run (Cert.ReferenceRouteIdeal.defs (F := Ideal)) _ _).mono
    (fun r h => And.intro (fun c => (h c).2.2) (sem_eq_zero_of_no_sems (sig := Cert.ReferenceRouteIdeal.sig) rfl r.2))
    (Cert.ReferenceRouteIdeal.Value.run (F := Ideal) m g)

/-- The whole claim: the facts, the runs and the values of all six programs. -/
theorem claim : Cert.Claim := ⟨Cert.Kernel.Gen.facts,
  Cert.KernelIdeal.Gen.facts,
  Cert.ReferenceIdeal.Gen.facts,
  Cert.KernelProjR.Gen.facts,
  Cert.KernelProjRIdeal.Gen.facts,
  Cert.ReferenceProjRIdeal.Gen.facts,
  Cert.KernelProjA.Gen.facts,
  Cert.KernelProjAIdeal.Gen.facts,
  Cert.ReferenceProjAIdeal.Gen.facts,
  Cert.KernelOut.Gen.facts,
  Cert.KernelOutIdeal.Gen.facts,
  Cert.ReferenceOutIdeal.Gen.facts,
  Cert.KernelNorm.Gen.facts,
  Cert.KernelNormIdeal.Gen.facts,
  Cert.ReferenceNormIdeal.Gen.facts,
  Cert.KernelRoute.Gen.facts,
  Cert.KernelRouteIdeal.Gen.facts,
  Cert.ReferenceRouteIdeal.Gen.facts,
  preFacts,
  fun m ρ _ => Cert.Kernel.Gen.frame m ρ,
  fun m ρ _ => Cert.KernelIdeal.Gen.frame m ρ,
  by intro m g _; hlo_run <;> first | exact sem_eq_zero_of_no_sems (sig := Cert.ReferenceIdeal.sig) rfl _ | simp,
  fun m ρ _ => Cert.KernelProjR.Gen.frame m ρ,
  fun m ρ _ => Cert.KernelProjRIdeal.Gen.frame m ρ,
  by intro m g _; hlo_run <;> first | exact sem_eq_zero_of_no_sems (sig := Cert.ReferenceProjRIdeal.sig) rfl _ | simp,
  fun m ρ _ => Cert.KernelProjA.Gen.frame m ρ,
  fun m ρ _ => Cert.KernelProjAIdeal.Gen.frame m ρ,
  by intro m g _; hlo_run <;> first | exact sem_eq_zero_of_no_sems (sig := Cert.ReferenceProjAIdeal.sig) rfl _ | simp,
  fun m ρ _ => Cert.KernelOut.Gen.frame m ρ,
  fun m ρ _ => Cert.KernelOutIdeal.Gen.frame m ρ,
  by intro m g _; hlo_run <;> first | exact sem_eq_zero_of_no_sems (sig := Cert.ReferenceOutIdeal.sig) rfl _ | simp,
  fun m ρ _ => Cert.KernelNorm.Gen.frame m ρ,
  fun m ρ _ => Cert.KernelNormIdeal.Gen.frame m ρ,
  by intro m g _; hlo_run <;> first | exact sem_eq_zero_of_no_sems (sig := Cert.ReferenceNormIdeal.sig) rfl _ | simp,
  fun m ρ _ => Cert.KernelRoute.Gen.frame m ρ,
  fun m ρ _ => Cert.KernelRouteIdeal.Gen.frame m ρ,
  fun m ρ _ => Cert.KernelRouteIdeal.Gen.frame m ρ,
  frameRefRoute,
  fun m ρ _ => frameRefRoute m ρ trivial,
  trivial,
  algebraic,
  trivial,
  algebraicProjR,
  trivial,
  algebraicProjA,
  trivial,
  algebraicOut,
  trivial,
  algebraicNorm,
  trivial,
  algebraicRoute⟩

end Cert.Proof

end
